-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_ProjAB (m : (ℓ : Loc Cert.ProjAB.nD Cert.ProjAB.τ Cert.ProjAB.sig) → Buf (Elt Bits) ℓ) : Prop :=
  True

def Pre_ProjABIdeal (m : (ℓ : Loc Cert.ProjABIdeal.nD Cert.ProjABIdeal.τ Cert.ProjABIdeal.sig) → Buf (Elt Ideal) ℓ) : Prop :=
  True

def Pre_RefABIdeal (m : (ℓ : Loc Cert.RefABIdeal.nD Cert.RefABIdeal.τ Cert.RefABIdeal.sig) → Buf (Elt Ideal) ℓ) : Prop :=
  True

def Pre_ProjCD (m : (ℓ : Loc Cert.ProjCD.nD Cert.ProjCD.τ Cert.ProjCD.sig) → Buf (Elt Bits) ℓ) : Prop :=
  True

def Pre_ProjCDIdeal (m : (ℓ : Loc Cert.ProjCDIdeal.nD Cert.ProjCDIdeal.τ Cert.ProjCDIdeal.sig) → Buf (Elt Ideal) ℓ) : Prop :=
  True

def Pre_RefCDIdeal (m : (ℓ : Loc Cert.RefCDIdeal.nD Cert.RefCDIdeal.τ Cert.RefCDIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysIdeal_finite_keys [hPre_finite_keys : Cert.Pre_finite_keys.Facts] (m : (ℓ : Loc Cert.KeysIdeal.nD Cert.KeysIdeal.τ Cert.KeysIdeal.sig) → Buf (Elt Ideal) ℓ) : Prop :=
  ∀ c : Dev Cert.KeysIdeal.nD,
    (Cert.Pre_finite_keys.fn (F := Ideal) (m ((c.tc : Thread Cert.KeysIdeal.nD Cert.KeysIdeal.τ).loc Cert.KeysIdeal.main_arg0)) (m ((c.tc : Thread Cert.KeysIdeal.nD Cert.KeysIdeal.τ).loc Cert.KeysIdeal.main_arg1))) = (fun _ => 1#1)

def Pre_RefKeysIdeal (m : (ℓ : Loc Cert.RefKeysIdeal.nD Cert.RefKeysIdeal.τ Cert.RefKeysIdeal.sig) → Buf (Elt Ideal) ℓ) : Prop :=
  True

def Pre_RefKeysIdeal_finite_keys [hPre_finite_keys : Cert.Pre_finite_keys.Facts] (m : (ℓ : Loc Cert.RefKeysIdeal.nD Cert.RefKeysIdeal.τ Cert.RefKeysIdeal.sig) → Buf (Elt Ideal) ℓ) : Prop :=
  ∀ c : Dev Cert.RefKeysIdeal.nD,
    (Cert.Pre_finite_keys.fn (F := Ideal) (m ((c.tc : Thread Cert.RefKeysIdeal.nD Cert.RefKeysIdeal.τ).loc Cert.RefKeysIdeal.main_arg0)) (m ((c.tc : Thread Cert.RefKeysIdeal.nD Cert.RefKeysIdeal.τ).loc Cert.RefKeysIdeal.main_arg1))) = (fun _ => 1#1)

def Pre_CtxKeys (m : (ℓ : Loc Cert.CtxKeys.nD Cert.CtxKeys.τ Cert.CtxKeys.sig) → Buf (Elt Bits) ℓ) : Prop :=
  True

def Pre_CtxKeysIdeal (m : (ℓ : Loc Cert.CtxKeysIdeal.nD Cert.CtxKeysIdeal.τ Cert.CtxKeysIdeal.sig) → Buf (Elt Ideal) ℓ) : Prop :=
  True

def Pre_CtxKeysIdeal_finite_ctx [hPre_finite_ctx : Cert.Pre_finite_ctx.Facts] (m : (ℓ : Loc Cert.CtxKeysIdeal.nD Cert.CtxKeysIdeal.τ Cert.CtxKeysIdeal.sig) → Buf (Elt Ideal) ℓ) : Prop :=
  ∀ c : Dev Cert.CtxKeysIdeal.nD,
    (Cert.Pre_finite_ctx.fn (F := Ideal) (m ((c.tc : Thread Cert.CtxKeysIdeal.nD Cert.CtxKeysIdeal.τ).loc Cert.CtxKeysIdeal.main_arg0)) (m ((c.tc : Thread Cert.CtxKeysIdeal.nD Cert.CtxKeysIdeal.τ).loc Cert.CtxKeysIdeal.main_arg1))) = (fun _ => 1#1)

def Pre_RefCtxKeysIdeal (m : (ℓ : Loc Cert.RefCtxKeysIdeal.nD Cert.RefCtxKeysIdeal.τ Cert.RefCtxKeysIdeal.sig) → Buf (Elt Ideal) ℓ) : Prop :=
  True

def Pre_RefCtxKeysIdeal_finite_ctx [hPre_finite_ctx : Cert.Pre_finite_ctx.Facts] (m : (ℓ : Loc Cert.RefCtxKeysIdeal.nD Cert.RefCtxKeysIdeal.τ Cert.RefCtxKeysIdeal.sig) → Buf (Elt Ideal) ℓ) : Prop :=
  ∀ c : Dev Cert.RefCtxKeysIdeal.nD,
    (Cert.Pre_finite_ctx.fn (F := Ideal) (m ((c.tc : Thread Cert.RefCtxKeysIdeal.nD Cert.RefCtxKeysIdeal.τ).loc Cert.RefCtxKeysIdeal.main_arg0)) (m ((c.tc : Thread Cert.RefCtxKeysIdeal.nD Cert.RefCtxKeysIdeal.τ).loc Cert.RefCtxKeysIdeal.main_arg1))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_RefModIdeal (m : (ℓ : Loc Cert.RefModIdeal.nD Cert.RefModIdeal.τ Cert.RefModIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesIdeal_finite_queries [hPre_finite_queries : Cert.Pre_finite_queries.Facts] (m : (ℓ : Loc Cert.QueriesIdeal.nD Cert.QueriesIdeal.τ Cert.QueriesIdeal.sig) → Buf (Elt Ideal) ℓ) : Prop :=
  ∀ c : Dev Cert.QueriesIdeal.nD,
    (Cert.Pre_finite_queries.fn (F := Ideal) (m ((c.tc : Thread Cert.QueriesIdeal.nD Cert.QueriesIdeal.τ).loc Cert.QueriesIdeal.main_arg0)) (m ((c.tc : Thread Cert.QueriesIdeal.nD Cert.QueriesIdeal.τ).loc Cert.QueriesIdeal.main_arg1))) = (fun _ => 1#1)

def Pre_RefQueriesIdeal (m : (ℓ : Loc Cert.RefQueriesIdeal.nD Cert.RefQueriesIdeal.τ Cert.RefQueriesIdeal.sig) → Buf (Elt Ideal) ℓ) : Prop :=
  True

def Pre_RefQueriesIdeal_finite_queries [hPre_finite_queries : Cert.Pre_finite_queries.Facts] (m : (ℓ : Loc Cert.RefQueriesIdeal.nD Cert.RefQueriesIdeal.τ Cert.RefQueriesIdeal.sig) → Buf (Elt Ideal) ℓ) : Prop :=
  ∀ c : Dev Cert.RefQueriesIdeal.nD,
    (Cert.Pre_finite_queries.fn (F := Ideal) (m ((c.tc : Thread Cert.RefQueriesIdeal.nD Cert.RefQueriesIdeal.τ).loc Cert.RefQueriesIdeal.main_arg0)) (m ((c.tc : Thread Cert.RefQueriesIdeal.nD Cert.RefQueriesIdeal.τ).loc Cert.RefQueriesIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ProjAB [hProjAB : Cert.ProjAB.Facts] : Prop :=
  ∀ (m : (ℓ : Loc Cert.ProjAB.nD Cert.ProjAB.τ Cert.ProjAB.sig) → Buf (Elt Bits) ℓ) (g : Dev Cert.ProjAB.nD → PrngReg), Pre_ProjAB m →
    θ_run (Cert.ProjAB.defs (F := Bits)) (onTc (τ := Cert.ProjAB.τ) (Cert.ProjAB.main (F := Bits))) ⟨m, fun _ => 0, g⟩ (fun r => (∀ c : Dev Cert.ProjAB.nD,
      r.2.mem ((c.tc : Thread Cert.ProjAB.nD Cert.ProjAB.τ).loc Cert.ProjAB.main_arg0) = m ((c.tc : Thread Cert.ProjAB.nD Cert.ProjAB.τ).loc Cert.ProjAB.main_arg0)
      ∧ r.2.mem ((c.tc : Thread Cert.ProjAB.nD Cert.ProjAB.τ).loc Cert.ProjAB.main_arg1) = m ((c.tc : Thread Cert.ProjAB.nD Cert.ProjAB.τ).loc Cert.ProjAB.main_arg1)
      ∧ r.2.mem ((c.tc : Thread Cert.ProjAB.nD Cert.ProjAB.τ).loc Cert.ProjAB.main_arg2) = m ((c.tc : Thread Cert.ProjAB.nD Cert.ProjAB.τ).loc Cert.ProjAB.main_arg2)
      ∧ r.2.mem ((c.tc : Thread Cert.ProjAB.nD Cert.ProjAB.τ).loc Cert.ProjAB.main_arg3) = m ((c.tc : Thread Cert.ProjAB.nD Cert.ProjAB.τ).loc Cert.ProjAB.main_arg3))
      ∧ r.2.sem = fun _ => 0)

def quiescent_ProjABIdeal [hProjABIdeal : Cert.ProjABIdeal.Facts] : Prop :=
  ∀ (m : (ℓ : Loc Cert.ProjABIdeal.nD Cert.ProjABIdeal.τ Cert.ProjABIdeal.sig) → Buf (Elt Ideal) ℓ) (g : Dev Cert.ProjABIdeal.nD → PrngReg), Pre_ProjABIdeal m →
    θ_run (Cert.ProjABIdeal.defs (F := Ideal)) (onTc (τ := Cert.ProjABIdeal.τ) (Cert.ProjABIdeal.main (F := Ideal))) ⟨m, fun _ => 0, g⟩ (fun r => (∀ c : Dev Cert.ProjABIdeal.nD,
      r.2.mem ((c.tc : Thread Cert.ProjABIdeal.nD Cert.ProjABIdeal.τ).loc Cert.ProjABIdeal.main_arg0) = m ((c.tc : Thread Cert.ProjABIdeal.nD Cert.ProjABIdeal.τ).loc Cert.ProjABIdeal.main_arg0)
      ∧ r.2.mem ((c.tc : Thread Cert.ProjABIdeal.nD Cert.ProjABIdeal.τ).loc Cert.ProjABIdeal.main_arg1) = m ((c.tc : Thread Cert.ProjABIdeal.nD Cert.ProjABIdeal.τ).loc Cert.ProjABIdeal.main_arg1)
      ∧ r.2.mem ((c.tc : Thread Cert.ProjABIdeal.nD Cert.ProjABIdeal.τ).loc Cert.ProjABIdeal.main_arg2) = m ((c.tc : Thread Cert.ProjABIdeal.nD Cert.ProjABIdeal.τ).loc Cert.ProjABIdeal.main_arg2)
      ∧ r.2.mem ((c.tc : Thread Cert.ProjABIdeal.nD Cert.ProjABIdeal.τ).loc Cert.ProjABIdeal.main_arg3) = m ((c.tc : Thread Cert.ProjABIdeal.nD Cert.ProjABIdeal.τ).loc Cert.ProjABIdeal.main_arg3))
      ∧ r.2.sem = fun _ => 0)

def quiescent_RefABIdeal [hRefABIdeal : Cert.RefABIdeal.Facts] : Prop :=
  ∀ (m : (ℓ : Loc Cert.RefABIdeal.nD Cert.RefABIdeal.τ Cert.RefABIdeal.sig) → Buf (Elt Ideal) ℓ) (g : Dev Cert.RefABIdeal.nD → PrngReg), Pre_RefABIdeal m →
    θ_run (Cert.RefABIdeal.defs (F := Ideal)) (onTc (τ := Cert.RefABIdeal.τ) (Cert.RefABIdeal.main (F := Ideal))) ⟨m, fun _ => 0, g⟩ (fun r => (∀ c : Dev Cert.RefABIdeal.nD,
      r.2.mem ((c.tc : Thread Cert.RefABIdeal.nD Cert.RefABIdeal.τ).loc Cert.RefABIdeal.main_arg0) = m ((c.tc : Thread Cert.RefABIdeal.nD Cert.RefABIdeal.τ).loc Cert.RefABIdeal.main_arg0)
      ∧ r.2.mem ((c.tc : Thread Cert.RefABIdeal.nD Cert.RefABIdeal.τ).loc Cert.RefABIdeal.main_arg1) = m ((c.tc : Thread Cert.RefABIdeal.nD Cert.RefABIdeal.τ).loc Cert.RefABIdeal.main_arg1)
      ∧ r.2.mem ((c.tc : Thread Cert.RefABIdeal.nD Cert.RefABIdeal.τ).loc Cert.RefABIdeal.main_arg2) = m ((c.tc : Thread Cert.RefABIdeal.nD Cert.RefABIdeal.τ).loc Cert.RefABIdeal.main_arg2)
      ∧ r.2.mem ((c.tc : Thread Cert.RefABIdeal.nD Cert.RefABIdeal.τ).loc Cert.RefABIdeal.main_arg3) = m ((c.tc : Thread Cert.RefABIdeal.nD Cert.RefABIdeal.τ).loc Cert.RefABIdeal.main_arg3))
      ∧ r.2.sem = fun _ => 0)

def quiescent_ProjCD [hProjCD : Cert.ProjCD.Facts] : Prop :=
  ∀ (m : (ℓ : Loc Cert.ProjCD.nD Cert.ProjCD.τ Cert.ProjCD.sig) → Buf (Elt Bits) ℓ) (g : Dev Cert.ProjCD.nD → PrngReg), Pre_ProjCD m →
    θ_run (Cert.ProjCD.defs (F := Bits)) (onTc (τ := Cert.ProjCD.τ) (Cert.ProjCD.main (F := Bits))) ⟨m, fun _ => 0, g⟩ (fun r => (∀ c : Dev Cert.ProjCD.nD,
      r.2.mem ((c.tc : Thread Cert.ProjCD.nD Cert.ProjCD.τ).loc Cert.ProjCD.main_arg0) = m ((c.tc : Thread Cert.ProjCD.nD Cert.ProjCD.τ).loc Cert.ProjCD.main_arg0)
      ∧ r.2.mem ((c.tc : Thread Cert.ProjCD.nD Cert.ProjCD.τ).loc Cert.ProjCD.main_arg1) = m ((c.tc : Thread Cert.ProjCD.nD Cert.ProjCD.τ).loc Cert.ProjCD.main_arg1)
      ∧ r.2.mem ((c.tc : Thread Cert.ProjCD.nD Cert.ProjCD.τ).loc Cert.ProjCD.main_arg2) = m ((c.tc : Thread Cert.ProjCD.nD Cert.ProjCD.τ).loc Cert.ProjCD.main_arg2)
      ∧ r.2.mem ((c.tc : Thread Cert.ProjCD.nD Cert.ProjCD.τ).loc Cert.ProjCD.main_arg3) = m ((c.tc : Thread Cert.ProjCD.nD Cert.ProjCD.τ).loc Cert.ProjCD.main_arg3))
      ∧ r.2.sem = fun _ => 0)

def quiescent_ProjCDIdeal [hProjCDIdeal : Cert.ProjCDIdeal.Facts] : Prop :=
  ∀ (m : (ℓ : Loc Cert.ProjCDIdeal.nD Cert.ProjCDIdeal.τ Cert.ProjCDIdeal.sig) → Buf (Elt Ideal) ℓ) (g : Dev Cert.ProjCDIdeal.nD → PrngReg), Pre_ProjCDIdeal m →
    θ_run (Cert.ProjCDIdeal.defs (F := Ideal)) (onTc (τ := Cert.ProjCDIdeal.τ) (Cert.ProjCDIdeal.main (F := Ideal))) ⟨m, fun _ => 0, g⟩ (fun r => (∀ c : Dev Cert.ProjCDIdeal.nD,
      r.2.mem ((c.tc : Thread Cert.ProjCDIdeal.nD Cert.ProjCDIdeal.τ).loc Cert.ProjCDIdeal.main_arg0) = m ((c.tc : Thread Cert.ProjCDIdeal.nD Cert.ProjCDIdeal.τ).loc Cert.ProjCDIdeal.main_arg0)
      ∧ r.2.mem ((c.tc : Thread Cert.ProjCDIdeal.nD Cert.ProjCDIdeal.τ).loc Cert.ProjCDIdeal.main_arg1) = m ((c.tc : Thread Cert.ProjCDIdeal.nD Cert.ProjCDIdeal.τ).loc Cert.ProjCDIdeal.main_arg1)
      ∧ r.2.mem ((c.tc : Thread Cert.ProjCDIdeal.nD Cert.ProjCDIdeal.τ).loc Cert.ProjCDIdeal.main_arg2) = m ((c.tc : Thread Cert.ProjCDIdeal.nD Cert.ProjCDIdeal.τ).loc Cert.ProjCDIdeal.main_arg2)
      ∧ r.2.mem ((c.tc : Thread Cert.ProjCDIdeal.nD Cert.ProjCDIdeal.τ).loc Cert.ProjCDIdeal.main_arg3) = m ((c.tc : Thread Cert.ProjCDIdeal.nD Cert.ProjCDIdeal.τ).loc Cert.ProjCDIdeal.main_arg3))
      ∧ r.2.sem = fun _ => 0)

def quiescent_RefCDIdeal [hRefCDIdeal : Cert.RefCDIdeal.Facts] : Prop :=
  ∀ (m : (ℓ : Loc Cert.RefCDIdeal.nD Cert.RefCDIdeal.τ Cert.RefCDIdeal.sig) → Buf (Elt Ideal) ℓ) (g : Dev Cert.RefCDIdeal.nD → PrngReg), Pre_RefCDIdeal m →
    θ_run (Cert.RefCDIdeal.defs (F := Ideal)) (onTc (τ := Cert.RefCDIdeal.τ) (Cert.RefCDIdeal.main (F := Ideal))) ⟨m, fun _ => 0, g⟩ (fun r => (∀ c : Dev Cert.RefCDIdeal.nD,
      r.2.mem ((c.tc : Thread Cert.RefCDIdeal.nD Cert.RefCDIdeal.τ).loc Cert.RefCDIdeal.main_arg0) = m ((c.tc : Thread Cert.RefCDIdeal.nD Cert.RefCDIdeal.τ).loc Cert.RefCDIdeal.main_arg0)
      ∧ r.2.mem ((c.tc : Thread Cert.RefCDIdeal.nD Cert.RefCDIdeal.τ).loc Cert.RefCDIdeal.main_arg1) = m ((c.tc : Thread Cert.RefCDIdeal.nD Cert.RefCDIdeal.τ).loc Cert.RefCDIdeal.main_arg1)
      ∧ r.2.mem ((c.tc : Thread Cert.RefCDIdeal.nD Cert.RefCDIdeal.τ).loc Cert.RefCDIdeal.main_arg2) = m ((c.tc : Thread Cert.RefCDIdeal.nD Cert.RefCDIdeal.τ).loc Cert.RefCDIdeal.main_arg2)
      ∧ r.2.mem ((c.tc : Thread Cert.RefCDIdeal.nD Cert.RefCDIdeal.τ).loc Cert.RefCDIdeal.main_arg3) = m ((c.tc : Thread Cert.RefCDIdeal.nD Cert.RefCDIdeal.τ).loc Cert.RefCDIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_KeysIdeal_pre_finite_keys [hKeysIdeal : Cert.KeysIdeal.Facts] [hPre_finite_keys : Cert.Pre_finite_keys.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal_finite_keys m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ r.2.sem = fun _ => 0)

def quiescent_RefKeysIdeal [hRefKeysIdeal : Cert.RefKeysIdeal.Facts] : Prop :=
  ∀ (m : (ℓ : Loc Cert.RefKeysIdeal.nD Cert.RefKeysIdeal.τ Cert.RefKeysIdeal.sig) → Buf (Elt Ideal) ℓ) (g : Dev Cert.RefKeysIdeal.nD → PrngReg), Pre_RefKeysIdeal m →
    θ_run (Cert.RefKeysIdeal.defs (F := Ideal)) (onTc (τ := Cert.RefKeysIdeal.τ) (Cert.RefKeysIdeal.main (F := Ideal))) ⟨m, fun _ => 0, g⟩ (fun r => (∀ c : Dev Cert.RefKeysIdeal.nD,
      r.2.mem ((c.tc : Thread Cert.RefKeysIdeal.nD Cert.RefKeysIdeal.τ).loc Cert.RefKeysIdeal.main_arg0) = m ((c.tc : Thread Cert.RefKeysIdeal.nD Cert.RefKeysIdeal.τ).loc Cert.RefKeysIdeal.main_arg0)
      ∧ r.2.mem ((c.tc : Thread Cert.RefKeysIdeal.nD Cert.RefKeysIdeal.τ).loc Cert.RefKeysIdeal.main_arg1) = m ((c.tc : Thread Cert.RefKeysIdeal.nD Cert.RefKeysIdeal.τ).loc Cert.RefKeysIdeal.main_arg1))
      ∧ r.2.sem = fun _ => 0)

def quiescent_RefKeysIdeal_pre_finite_keys [hRefKeysIdeal : Cert.RefKeysIdeal.Facts] [hPre_finite_keys : Cert.Pre_finite_keys.Facts] : Prop :=
  ∀ (m : (ℓ : Loc Cert.RefKeysIdeal.nD Cert.RefKeysIdeal.τ Cert.RefKeysIdeal.sig) → Buf (Elt Ideal) ℓ) (g : Dev Cert.RefKeysIdeal.nD → PrngReg), Pre_RefKeysIdeal_finite_keys m →
    θ_run (Cert.RefKeysIdeal.defs (F := Ideal)) (onTc (τ := Cert.RefKeysIdeal.τ) (Cert.RefKeysIdeal.main (F := Ideal))) ⟨m, fun _ => 0, g⟩ (fun r => (∀ c : Dev Cert.RefKeysIdeal.nD,
      r.2.mem ((c.tc : Thread Cert.RefKeysIdeal.nD Cert.RefKeysIdeal.τ).loc Cert.RefKeysIdeal.main_arg0) = m ((c.tc : Thread Cert.RefKeysIdeal.nD Cert.RefKeysIdeal.τ).loc Cert.RefKeysIdeal.main_arg0)
      ∧ r.2.mem ((c.tc : Thread Cert.RefKeysIdeal.nD Cert.RefKeysIdeal.τ).loc Cert.RefKeysIdeal.main_arg1) = m ((c.tc : Thread Cert.RefKeysIdeal.nD Cert.RefKeysIdeal.τ).loc Cert.RefKeysIdeal.main_arg1))
      ∧ r.2.sem = fun _ => 0)

def quiescent_CtxKeys [hCtxKeys : Cert.CtxKeys.Facts] : Prop :=
  ∀ (m : (ℓ : Loc Cert.CtxKeys.nD Cert.CtxKeys.τ Cert.CtxKeys.sig) → Buf (Elt Bits) ℓ) (g : Dev Cert.CtxKeys.nD → PrngReg), Pre_CtxKeys m →
    θ_run (Cert.CtxKeys.defs (F := Bits)) (onTc (τ := Cert.CtxKeys.τ) (Cert.CtxKeys.main (F := Bits))) ⟨m, fun _ => 0, g⟩ (fun r => (∀ c : Dev Cert.CtxKeys.nD,
      r.2.mem ((c.tc : Thread Cert.CtxKeys.nD Cert.CtxKeys.τ).loc Cert.CtxKeys.main_arg0) = m ((c.tc : Thread Cert.CtxKeys.nD Cert.CtxKeys.τ).loc Cert.CtxKeys.main_arg0)
      ∧ r.2.mem ((c.tc : Thread Cert.CtxKeys.nD Cert.CtxKeys.τ).loc Cert.CtxKeys.main_arg1) = m ((c.tc : Thread Cert.CtxKeys.nD Cert.CtxKeys.τ).loc Cert.CtxKeys.main_arg1))
      ∧ r.2.sem = fun _ => 0)

def quiescent_CtxKeysIdeal [hCtxKeysIdeal : Cert.CtxKeysIdeal.Facts] : Prop :=
  ∀ (m : (ℓ : Loc Cert.CtxKeysIdeal.nD Cert.CtxKeysIdeal.τ Cert.CtxKeysIdeal.sig) → Buf (Elt Ideal) ℓ) (g : Dev Cert.CtxKeysIdeal.nD → PrngReg), Pre_CtxKeysIdeal m →
    θ_run (Cert.CtxKeysIdeal.defs (F := Ideal)) (onTc (τ := Cert.CtxKeysIdeal.τ) (Cert.CtxKeysIdeal.main (F := Ideal))) ⟨m, fun _ => 0, g⟩ (fun r => (∀ c : Dev Cert.CtxKeysIdeal.nD,
      r.2.mem ((c.tc : Thread Cert.CtxKeysIdeal.nD Cert.CtxKeysIdeal.τ).loc Cert.CtxKeysIdeal.main_arg0) = m ((c.tc : Thread Cert.CtxKeysIdeal.nD Cert.CtxKeysIdeal.τ).loc Cert.CtxKeysIdeal.main_arg0)
      ∧ r.2.mem ((c.tc : Thread Cert.CtxKeysIdeal.nD Cert.CtxKeysIdeal.τ).loc Cert.CtxKeysIdeal.main_arg1) = m ((c.tc : Thread Cert.CtxKeysIdeal.nD Cert.CtxKeysIdeal.τ).loc Cert.CtxKeysIdeal.main_arg1))
      ∧ r.2.sem = fun _ => 0)

def quiescent_CtxKeysIdeal_pre_finite_ctx [hCtxKeysIdeal : Cert.CtxKeysIdeal.Facts] [hPre_finite_ctx : Cert.Pre_finite_ctx.Facts] : Prop :=
  ∀ (m : (ℓ : Loc Cert.CtxKeysIdeal.nD Cert.CtxKeysIdeal.τ Cert.CtxKeysIdeal.sig) → Buf (Elt Ideal) ℓ) (g : Dev Cert.CtxKeysIdeal.nD → PrngReg), Pre_CtxKeysIdeal_finite_ctx m →
    θ_run (Cert.CtxKeysIdeal.defs (F := Ideal)) (onTc (τ := Cert.CtxKeysIdeal.τ) (Cert.CtxKeysIdeal.main (F := Ideal))) ⟨m, fun _ => 0, g⟩ (fun r => (∀ c : Dev Cert.CtxKeysIdeal.nD,
      r.2.mem ((c.tc : Thread Cert.CtxKeysIdeal.nD Cert.CtxKeysIdeal.τ).loc Cert.CtxKeysIdeal.main_arg0) = m ((c.tc : Thread Cert.CtxKeysIdeal.nD Cert.CtxKeysIdeal.τ).loc Cert.CtxKeysIdeal.main_arg0)
      ∧ r.2.mem ((c.tc : Thread Cert.CtxKeysIdeal.nD Cert.CtxKeysIdeal.τ).loc Cert.CtxKeysIdeal.main_arg1) = m ((c.tc : Thread Cert.CtxKeysIdeal.nD Cert.CtxKeysIdeal.τ).loc Cert.CtxKeysIdeal.main_arg1))
      ∧ r.2.sem = fun _ => 0)

def quiescent_RefCtxKeysIdeal [hRefCtxKeysIdeal : Cert.RefCtxKeysIdeal.Facts] : Prop :=
  ∀ (m : (ℓ : Loc Cert.RefCtxKeysIdeal.nD Cert.RefCtxKeysIdeal.τ Cert.RefCtxKeysIdeal.sig) → Buf (Elt Ideal) ℓ) (g : Dev Cert.RefCtxKeysIdeal.nD → PrngReg), Pre_RefCtxKeysIdeal m →
    θ_run (Cert.RefCtxKeysIdeal.defs (F := Ideal)) (onTc (τ := Cert.RefCtxKeysIdeal.τ) (Cert.RefCtxKeysIdeal.main (F := Ideal))) ⟨m, fun _ => 0, g⟩ (fun r => (∀ c : Dev Cert.RefCtxKeysIdeal.nD,
      r.2.mem ((c.tc : Thread Cert.RefCtxKeysIdeal.nD Cert.RefCtxKeysIdeal.τ).loc Cert.RefCtxKeysIdeal.main_arg0) = m ((c.tc : Thread Cert.RefCtxKeysIdeal.nD Cert.RefCtxKeysIdeal.τ).loc Cert.RefCtxKeysIdeal.main_arg0)
      ∧ r.2.mem ((c.tc : Thread Cert.RefCtxKeysIdeal.nD Cert.RefCtxKeysIdeal.τ).loc Cert.RefCtxKeysIdeal.main_arg1) = m ((c.tc : Thread Cert.RefCtxKeysIdeal.nD Cert.RefCtxKeysIdeal.τ).loc Cert.RefCtxKeysIdeal.main_arg1))
      ∧ r.2.sem = fun _ => 0)

def quiescent_RefCtxKeysIdeal_pre_finite_ctx [hRefCtxKeysIdeal : Cert.RefCtxKeysIdeal.Facts] [hPre_finite_ctx : Cert.Pre_finite_ctx.Facts] : Prop :=
  ∀ (m : (ℓ : Loc Cert.RefCtxKeysIdeal.nD Cert.RefCtxKeysIdeal.τ Cert.RefCtxKeysIdeal.sig) → Buf (Elt Ideal) ℓ) (g : Dev Cert.RefCtxKeysIdeal.nD → PrngReg), Pre_RefCtxKeysIdeal_finite_ctx m →
    θ_run (Cert.RefCtxKeysIdeal.defs (F := Ideal)) (onTc (τ := Cert.RefCtxKeysIdeal.τ) (Cert.RefCtxKeysIdeal.main (F := Ideal))) ⟨m, fun _ => 0, g⟩ (fun r => (∀ c : Dev Cert.RefCtxKeysIdeal.nD,
      r.2.mem ((c.tc : Thread Cert.RefCtxKeysIdeal.nD Cert.RefCtxKeysIdeal.τ).loc Cert.RefCtxKeysIdeal.main_arg0) = m ((c.tc : Thread Cert.RefCtxKeysIdeal.nD Cert.RefCtxKeysIdeal.τ).loc Cert.RefCtxKeysIdeal.main_arg0)
      ∧ r.2.mem ((c.tc : Thread Cert.RefCtxKeysIdeal.nD Cert.RefCtxKeysIdeal.τ).loc Cert.RefCtxKeysIdeal.main_arg1) = m ((c.tc : Thread Cert.RefCtxKeysIdeal.nD Cert.RefCtxKeysIdeal.τ).loc Cert.RefCtxKeysIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_RefModIdeal [hRefModIdeal : Cert.RefModIdeal.Facts] : Prop :=
  ∀ (m : (ℓ : Loc Cert.RefModIdeal.nD Cert.RefModIdeal.τ Cert.RefModIdeal.sig) → Buf (Elt Ideal) ℓ) (g : Dev Cert.RefModIdeal.nD → PrngReg), Pre_RefModIdeal m →
    θ_run (Cert.RefModIdeal.defs (F := Ideal)) (onTc (τ := Cert.RefModIdeal.τ) (Cert.RefModIdeal.main (F := Ideal))) ⟨m, fun _ => 0, g⟩ (fun r => (∀ c : Dev Cert.RefModIdeal.nD,
      r.2.mem ((c.tc : Thread Cert.RefModIdeal.nD Cert.RefModIdeal.τ).loc Cert.RefModIdeal.main_arg0) = m ((c.tc : Thread Cert.RefModIdeal.nD Cert.RefModIdeal.τ).loc Cert.RefModIdeal.main_arg0)
      ∧ r.2.mem ((c.tc : Thread Cert.RefModIdeal.nD Cert.RefModIdeal.τ).loc Cert.RefModIdeal.main_arg1) = m ((c.tc : Thread Cert.RefModIdeal.nD Cert.RefModIdeal.τ).loc Cert.RefModIdeal.main_arg1)
      ∧ r.2.mem ((c.tc : Thread Cert.RefModIdeal.nD Cert.RefModIdeal.τ).loc Cert.RefModIdeal.main_arg2) = m ((c.tc : Thread Cert.RefModIdeal.nD Cert.RefModIdeal.τ).loc Cert.RefModIdeal.main_arg2))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesIdeal_pre_finite_queries [hQueriesIdeal : Cert.QueriesIdeal.Facts] [hPre_finite_queries : Cert.Pre_finite_queries.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal_finite_queries m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_RefQueriesIdeal [hRefQueriesIdeal : Cert.RefQueriesIdeal.Facts] : Prop :=
  ∀ (m : (ℓ : Loc Cert.RefQueriesIdeal.nD Cert.RefQueriesIdeal.τ Cert.RefQueriesIdeal.sig) → Buf (Elt Ideal) ℓ) (g : Dev Cert.RefQueriesIdeal.nD → PrngReg), Pre_RefQueriesIdeal m →
    θ_run (Cert.RefQueriesIdeal.defs (F := Ideal)) (onTc (τ := Cert.RefQueriesIdeal.τ) (Cert.RefQueriesIdeal.main (F := Ideal))) ⟨m, fun _ => 0, g⟩ (fun r => (∀ c : Dev Cert.RefQueriesIdeal.nD,
      r.2.mem ((c.tc : Thread Cert.RefQueriesIdeal.nD Cert.RefQueriesIdeal.τ).loc Cert.RefQueriesIdeal.main_arg0) = m ((c.tc : Thread Cert.RefQueriesIdeal.nD Cert.RefQueriesIdeal.τ).loc Cert.RefQueriesIdeal.main_arg0)
      ∧ r.2.mem ((c.tc : Thread Cert.RefQueriesIdeal.nD Cert.RefQueriesIdeal.τ).loc Cert.RefQueriesIdeal.main_arg1) = m ((c.tc : Thread Cert.RefQueriesIdeal.nD Cert.RefQueriesIdeal.τ).loc Cert.RefQueriesIdeal.main_arg1))
      ∧ r.2.sem = fun _ => 0)

def quiescent_RefQueriesIdeal_pre_finite_queries [hRefQueriesIdeal : Cert.RefQueriesIdeal.Facts] [hPre_finite_queries : Cert.Pre_finite_queries.Facts] : Prop :=
  ∀ (m : (ℓ : Loc Cert.RefQueriesIdeal.nD Cert.RefQueriesIdeal.τ Cert.RefQueriesIdeal.sig) → Buf (Elt Ideal) ℓ) (g : Dev Cert.RefQueriesIdeal.nD → PrngReg), Pre_RefQueriesIdeal_finite_queries m →
    θ_run (Cert.RefQueriesIdeal.defs (F := Ideal)) (onTc (τ := Cert.RefQueriesIdeal.τ) (Cert.RefQueriesIdeal.main (F := Ideal))) ⟨m, fun _ => 0, g⟩ (fun r => (∀ c : Dev Cert.RefQueriesIdeal.nD,
      r.2.mem ((c.tc : Thread Cert.RefQueriesIdeal.nD Cert.RefQueriesIdeal.τ).loc Cert.RefQueriesIdeal.main_arg0) = m ((c.tc : Thread Cert.RefQueriesIdeal.nD Cert.RefQueriesIdeal.τ).loc Cert.RefQueriesIdeal.main_arg0)
      ∧ r.2.mem ((c.tc : Thread Cert.RefQueriesIdeal.nD Cert.RefQueriesIdeal.τ).loc Cert.RefQueriesIdeal.main_arg1) = m ((c.tc : Thread Cert.RefQueriesIdeal.nD Cert.RefQueriesIdeal.τ).loc Cert.RefQueriesIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ProjAB_ProjABIdeal : Prop :=
  True

def algebraic_ProjABIdeal_RefABIdeal [hProjABIdeal : Cert.ProjABIdeal.Facts] [hRefABIdeal : Cert.RefABIdeal.Facts] : Prop :=
  ∀ (m : (ℓ : Loc Cert.ProjABIdeal.nD Cert.ProjABIdeal.τ Cert.ProjABIdeal.sig) → Buf (Elt Ideal) ℓ) (g : Dev Cert.ProjABIdeal.nD → PrngReg)
    (m' : (ℓ : Loc Cert.RefABIdeal.nD Cert.RefABIdeal.τ Cert.RefABIdeal.sig) → Buf (Elt Ideal) ℓ) (g' : Dev Cert.RefABIdeal.nD → PrngReg), Pre_ProjABIdeal m →
    (∀ c : Dev Cert.ProjABIdeal.nD,
      m' ((c.tc : Thread Cert.RefABIdeal.nD Cert.RefABIdeal.τ).loc Cert.RefABIdeal.main_arg0) = m ((c.tc : Thread Cert.ProjABIdeal.nD Cert.ProjABIdeal.τ).loc Cert.ProjABIdeal.main_arg0)
      ∧ m' ((c.tc : Thread Cert.RefABIdeal.nD Cert.RefABIdeal.τ).loc Cert.RefABIdeal.main_arg1) = m ((c.tc : Thread Cert.ProjABIdeal.nD Cert.ProjABIdeal.τ).loc Cert.ProjABIdeal.main_arg1)
      ∧ m' ((c.tc : Thread Cert.RefABIdeal.nD Cert.RefABIdeal.τ).loc Cert.RefABIdeal.main_arg2) = m ((c.tc : Thread Cert.ProjABIdeal.nD Cert.ProjABIdeal.τ).loc Cert.ProjABIdeal.main_arg2)
      ∧ m' ((c.tc : Thread Cert.RefABIdeal.nD Cert.RefABIdeal.τ).loc Cert.RefABIdeal.main_arg3) = m ((c.tc : Thread Cert.ProjABIdeal.nD Cert.ProjABIdeal.τ).loc Cert.ProjABIdeal.main_arg3)) →
    ∃ (v0 : (c : Dev Cert.ProjABIdeal.nD) → Buf (Elt Ideal) ((c.tc : Thread Cert.ProjABIdeal.nD Cert.ProjABIdeal.τ).loc Cert.ProjABIdeal.main_v1_0)) (v1 : (c : Dev Cert.ProjABIdeal.nD) → Buf (Elt Ideal) ((c.tc : Thread Cert.ProjABIdeal.nD Cert.ProjABIdeal.τ).loc Cert.ProjABIdeal.main_v1_1)) (v2 : (c : Dev Cert.ProjABIdeal.nD) → Buf (Elt Ideal) ((c.tc : Thread Cert.ProjABIdeal.nD Cert.ProjABIdeal.τ).loc Cert.ProjABIdeal.main_v1_2)) (v3 : (c : Dev Cert.ProjABIdeal.nD) → Buf (Elt Ideal) ((c.tc : Thread Cert.ProjABIdeal.nD Cert.ProjABIdeal.τ).loc Cert.ProjABIdeal.main_v1_3)),
      θ_run (Cert.ProjABIdeal.defs (F := Ideal)) (onTc (τ := Cert.ProjABIdeal.τ) (Cert.ProjABIdeal.main (F := Ideal))) ⟨m, fun _ => 0, g⟩ (fun r => ∀ c : Dev Cert.ProjABIdeal.nD,
          r.2.mem ((c.tc : Thread Cert.ProjABIdeal.nD Cert.ProjABIdeal.τ).loc Cert.ProjABIdeal.main_v1_0) = v0 c
          ∧ r.2.mem ((c.tc : Thread Cert.ProjABIdeal.nD Cert.ProjABIdeal.τ).loc Cert.ProjABIdeal.main_v1_1) = v1 c
          ∧ r.2.mem ((c.tc : Thread Cert.ProjABIdeal.nD Cert.ProjABIdeal.τ).loc Cert.ProjABIdeal.main_v1_2) = v2 c
          ∧ r.2.mem ((c.tc : Thread Cert.ProjABIdeal.nD Cert.ProjABIdeal.τ).loc Cert.ProjABIdeal.main_v1_3) = v3 c
          ∧ r.2.mem ((c.tc : Thread Cert.ProjABIdeal.nD Cert.ProjABIdeal.τ).loc Cert.ProjABIdeal.main_arg0) = m ((c.tc : Thread Cert.ProjABIdeal.nD Cert.ProjABIdeal.τ).loc Cert.ProjABIdeal.main_arg0)
          ∧ r.2.mem ((c.tc : Thread Cert.ProjABIdeal.nD Cert.ProjABIdeal.τ).loc Cert.ProjABIdeal.main_arg1) = m ((c.tc : Thread Cert.ProjABIdeal.nD Cert.ProjABIdeal.τ).loc Cert.ProjABIdeal.main_arg1)
          ∧ r.2.mem ((c.tc : Thread Cert.ProjABIdeal.nD Cert.ProjABIdeal.τ).loc Cert.ProjABIdeal.main_arg2) = m ((c.tc : Thread Cert.ProjABIdeal.nD Cert.ProjABIdeal.τ).loc Cert.ProjABIdeal.main_arg2)
          ∧ r.2.mem ((c.tc : Thread Cert.ProjABIdeal.nD Cert.ProjABIdeal.τ).loc Cert.ProjABIdeal.main_arg3) = m ((c.tc : Thread Cert.ProjABIdeal.nD Cert.ProjABIdeal.τ).loc Cert.ProjABIdeal.main_arg3))
      ∧ θ_run (Cert.RefABIdeal.defs (F := Ideal)) (onTc (τ := Cert.RefABIdeal.τ) (Cert.RefABIdeal.main (F := Ideal))) ⟨m', fun _ => 0, g'⟩ (fun r => ∀ c : Dev Cert.RefABIdeal.nD,
          r.2.mem ((c.tc : Thread Cert.RefABIdeal.nD Cert.RefABIdeal.τ).loc Cert.RefABIdeal.main_v13) = v0 c
          ∧ r.2.mem ((c.tc : Thread Cert.RefABIdeal.nD Cert.RefABIdeal.τ).loc Cert.RefABIdeal.main_v14) = v1 c
          ∧ r.2.mem ((c.tc : Thread Cert.RefABIdeal.nD Cert.RefABIdeal.τ).loc Cert.RefABIdeal.main_v15) = v2 c
          ∧ r.2.mem ((c.tc : Thread Cert.RefABIdeal.nD Cert.RefABIdeal.τ).loc Cert.RefABIdeal.main_v10) = v3 c
          ∧ r.2.mem ((c.tc : Thread Cert.RefABIdeal.nD Cert.RefABIdeal.τ).loc Cert.RefABIdeal.main_arg0) = m' ((c.tc : Thread Cert.RefABIdeal.nD Cert.RefABIdeal.τ).loc Cert.RefABIdeal.main_arg0)
          ∧ r.2.mem ((c.tc : Thread Cert.RefABIdeal.nD Cert.RefABIdeal.τ).loc Cert.RefABIdeal.main_arg1) = m' ((c.tc : Thread Cert.RefABIdeal.nD Cert.RefABIdeal.τ).loc Cert.RefABIdeal.main_arg1)
          ∧ r.2.mem ((c.tc : Thread Cert.RefABIdeal.nD Cert.RefABIdeal.τ).loc Cert.RefABIdeal.main_arg2) = m' ((c.tc : Thread Cert.RefABIdeal.nD Cert.RefABIdeal.τ).loc Cert.RefABIdeal.main_arg2)
          ∧ r.2.mem ((c.tc : Thread Cert.RefABIdeal.nD Cert.RefABIdeal.τ).loc Cert.RefABIdeal.main_arg3) = m' ((c.tc : Thread Cert.RefABIdeal.nD Cert.RefABIdeal.τ).loc Cert.RefABIdeal.main_arg3))

def preserves_ProjCD_ProjCDIdeal : Prop :=
  True

def algebraic_ProjCDIdeal_RefCDIdeal [hProjCDIdeal : Cert.ProjCDIdeal.Facts] [hRefCDIdeal : Cert.RefCDIdeal.Facts] : Prop :=
  ∀ (m : (ℓ : Loc Cert.ProjCDIdeal.nD Cert.ProjCDIdeal.τ Cert.ProjCDIdeal.sig) → Buf (Elt Ideal) ℓ) (g : Dev Cert.ProjCDIdeal.nD → PrngReg)
    (m' : (ℓ : Loc Cert.RefCDIdeal.nD Cert.RefCDIdeal.τ Cert.RefCDIdeal.sig) → Buf (Elt Ideal) ℓ) (g' : Dev Cert.RefCDIdeal.nD → PrngReg), Pre_ProjCDIdeal m →
    (∀ c : Dev Cert.ProjCDIdeal.nD,
      m' ((c.tc : Thread Cert.RefCDIdeal.nD Cert.RefCDIdeal.τ).loc Cert.RefCDIdeal.main_arg0) = m ((c.tc : Thread Cert.ProjCDIdeal.nD Cert.ProjCDIdeal.τ).loc Cert.ProjCDIdeal.main_arg0)
      ∧ m' ((c.tc : Thread Cert.RefCDIdeal.nD Cert.RefCDIdeal.τ).loc Cert.RefCDIdeal.main_arg1) = m ((c.tc : Thread Cert.ProjCDIdeal.nD Cert.ProjCDIdeal.τ).loc Cert.ProjCDIdeal.main_arg1)
      ∧ m' ((c.tc : Thread Cert.RefCDIdeal.nD Cert.RefCDIdeal.τ).loc Cert.RefCDIdeal.main_arg2) = m ((c.tc : Thread Cert.ProjCDIdeal.nD Cert.ProjCDIdeal.τ).loc Cert.ProjCDIdeal.main_arg2)
      ∧ m' ((c.tc : Thread Cert.RefCDIdeal.nD Cert.RefCDIdeal.τ).loc Cert.RefCDIdeal.main_arg3) = m ((c.tc : Thread Cert.ProjCDIdeal.nD Cert.ProjCDIdeal.τ).loc Cert.ProjCDIdeal.main_arg3)) →
    ∃ (v0 : (c : Dev Cert.ProjCDIdeal.nD) → Buf (Elt Ideal) ((c.tc : Thread Cert.ProjCDIdeal.nD Cert.ProjCDIdeal.τ).loc Cert.ProjCDIdeal.main_v1_0)) (v1 : (c : Dev Cert.ProjCDIdeal.nD) → Buf (Elt Ideal) ((c.tc : Thread Cert.ProjCDIdeal.nD Cert.ProjCDIdeal.τ).loc Cert.ProjCDIdeal.main_v1_1)) (v2 : (c : Dev Cert.ProjCDIdeal.nD) → Buf (Elt Ideal) ((c.tc : Thread Cert.ProjCDIdeal.nD Cert.ProjCDIdeal.τ).loc Cert.ProjCDIdeal.main_v1_2)) (v3 : (c : Dev Cert.ProjCDIdeal.nD) → Buf (Elt Ideal) ((c.tc : Thread Cert.ProjCDIdeal.nD Cert.ProjCDIdeal.τ).loc Cert.ProjCDIdeal.main_v1_3)),
      θ_run (Cert.ProjCDIdeal.defs (F := Ideal)) (onTc (τ := Cert.ProjCDIdeal.τ) (Cert.ProjCDIdeal.main (F := Ideal))) ⟨m, fun _ => 0, g⟩ (fun r => ∀ c : Dev Cert.ProjCDIdeal.nD,
          r.2.mem ((c.tc : Thread Cert.ProjCDIdeal.nD Cert.ProjCDIdeal.τ).loc Cert.ProjCDIdeal.main_v1_0) = v0 c
          ∧ r.2.mem ((c.tc : Thread Cert.ProjCDIdeal.nD Cert.ProjCDIdeal.τ).loc Cert.ProjCDIdeal.main_v1_1) = v1 c
          ∧ r.2.mem ((c.tc : Thread Cert.ProjCDIdeal.nD Cert.ProjCDIdeal.τ).loc Cert.ProjCDIdeal.main_v1_2) = v2 c
          ∧ r.2.mem ((c.tc : Thread Cert.ProjCDIdeal.nD Cert.ProjCDIdeal.τ).loc Cert.ProjCDIdeal.main_v1_3) = v3 c
          ∧ r.2.mem ((c.tc : Thread Cert.ProjCDIdeal.nD Cert.ProjCDIdeal.τ).loc Cert.ProjCDIdeal.main_arg0) = m ((c.tc : Thread Cert.ProjCDIdeal.nD Cert.ProjCDIdeal.τ).loc Cert.ProjCDIdeal.main_arg0)
          ∧ r.2.mem ((c.tc : Thread Cert.ProjCDIdeal.nD Cert.ProjCDIdeal.τ).loc Cert.ProjCDIdeal.main_arg1) = m ((c.tc : Thread Cert.ProjCDIdeal.nD Cert.ProjCDIdeal.τ).loc Cert.ProjCDIdeal.main_arg1)
          ∧ r.2.mem ((c.tc : Thread Cert.ProjCDIdeal.nD Cert.ProjCDIdeal.τ).loc Cert.ProjCDIdeal.main_arg2) = m ((c.tc : Thread Cert.ProjCDIdeal.nD Cert.ProjCDIdeal.τ).loc Cert.ProjCDIdeal.main_arg2)
          ∧ r.2.mem ((c.tc : Thread Cert.ProjCDIdeal.nD Cert.ProjCDIdeal.τ).loc Cert.ProjCDIdeal.main_arg3) = m ((c.tc : Thread Cert.ProjCDIdeal.nD Cert.ProjCDIdeal.τ).loc Cert.ProjCDIdeal.main_arg3))
      ∧ θ_run (Cert.RefCDIdeal.defs (F := Ideal)) (onTc (τ := Cert.RefCDIdeal.τ) (Cert.RefCDIdeal.main (F := Ideal))) ⟨m', fun _ => 0, g'⟩ (fun r => ∀ c : Dev Cert.RefCDIdeal.nD,
          r.2.mem ((c.tc : Thread Cert.RefCDIdeal.nD Cert.RefCDIdeal.τ).loc Cert.RefCDIdeal.main_v7) = v0 c
          ∧ r.2.mem ((c.tc : Thread Cert.RefCDIdeal.nD Cert.RefCDIdeal.τ).loc Cert.RefCDIdeal.main_v8) = v1 c
          ∧ r.2.mem ((c.tc : Thread Cert.RefCDIdeal.nD Cert.RefCDIdeal.τ).loc Cert.RefCDIdeal.main_v11) = v2 c
          ∧ r.2.mem ((c.tc : Thread Cert.RefCDIdeal.nD Cert.RefCDIdeal.τ).loc Cert.RefCDIdeal.main_v10) = v3 c
          ∧ r.2.mem ((c.tc : Thread Cert.RefCDIdeal.nD Cert.RefCDIdeal.τ).loc Cert.RefCDIdeal.main_arg0) = m' ((c.tc : Thread Cert.RefCDIdeal.nD Cert.RefCDIdeal.τ).loc Cert.RefCDIdeal.main_arg0)
          ∧ r.2.mem ((c.tc : Thread Cert.RefCDIdeal.nD Cert.RefCDIdeal.τ).loc Cert.RefCDIdeal.main_arg1) = m' ((c.tc : Thread Cert.RefCDIdeal.nD Cert.RefCDIdeal.τ).loc Cert.RefCDIdeal.main_arg1)
          ∧ r.2.mem ((c.tc : Thread Cert.RefCDIdeal.nD Cert.RefCDIdeal.τ).loc Cert.RefCDIdeal.main_arg2) = m' ((c.tc : Thread Cert.RefCDIdeal.nD Cert.RefCDIdeal.τ).loc Cert.RefCDIdeal.main_arg2)
          ∧ r.2.mem ((c.tc : Thread Cert.RefCDIdeal.nD Cert.RefCDIdeal.τ).loc Cert.RefCDIdeal.main_arg3) = m' ((c.tc : Thread Cert.RefCDIdeal.nD Cert.RefCDIdeal.τ).loc Cert.RefCDIdeal.main_arg3))

def preserves_OutProj_OutProjIdeal : Prop :=
  True

def algebraic_OutProjIdeal_RefOutIdeal [hOutProjIdeal : Cert.OutProjIdeal.Facts] [hRefOutIdeal : Cert.RefOutIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutProjIdeal m →
    (∀ c : Dev Cert.OutProjIdeal.nD,
      m' ((c.tc : Thread Cert.RefOutIdeal.nD Cert.RefOutIdeal.τ).loc Cert.RefOutIdeal.main_arg0) = m ((c.tc : Thread Cert.OutProjIdeal.nD Cert.OutProjIdeal.τ).loc Cert.OutProjIdeal.main_arg0)
      ∧ m' ((c.tc : Thread Cert.RefOutIdeal.nD Cert.RefOutIdeal.τ).loc Cert.RefOutIdeal.main_arg1) = m ((c.tc : Thread Cert.OutProjIdeal.nD Cert.OutProjIdeal.τ).loc Cert.OutProjIdeal.main_arg1)
      ∧ m' ((c.tc : Thread Cert.RefOutIdeal.nD Cert.RefOutIdeal.τ).loc Cert.RefOutIdeal.main_arg2) = m ((c.tc : Thread Cert.OutProjIdeal.nD Cert.OutProjIdeal.τ).loc Cert.OutProjIdeal.main_arg2)
      ∧ m' ((c.tc : Thread Cert.RefOutIdeal.nD Cert.RefOutIdeal.τ).loc Cert.RefOutIdeal.main_arg3) = m ((c.tc : Thread Cert.OutProjIdeal.nD Cert.OutProjIdeal.τ).loc Cert.OutProjIdeal.main_arg3)
      ∧ m' ((c.tc : Thread Cert.RefOutIdeal.nD Cert.RefOutIdeal.τ).loc Cert.RefOutIdeal.main_arg4) = m ((c.tc : Thread Cert.OutProjIdeal.nD Cert.OutProjIdeal.τ).loc Cert.OutProjIdeal.main_arg4)
      ∧ m' ((c.tc : Thread Cert.RefOutIdeal.nD Cert.RefOutIdeal.τ).loc Cert.RefOutIdeal.main_arg5) = m ((c.tc : Thread Cert.OutProjIdeal.nD Cert.OutProjIdeal.τ).loc Cert.OutProjIdeal.main_arg5)
      ∧ m' ((c.tc : Thread Cert.RefOutIdeal.nD Cert.RefOutIdeal.τ).loc Cert.RefOutIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v32) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6))

def preserves_Keys_KeysIdeal : Prop :=
  True

def algebraic_KeysIdeal_RefKeysIdeal_pre_finite_keys [hKeysIdeal : Cert.KeysIdeal.Facts] [hRefKeysIdeal : Cert.RefKeysIdeal.Facts] [hPre_finite_keys : Cert.Pre_finite_keys.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.RefKeysIdeal.nD Cert.RefKeysIdeal.τ Cert.RefKeysIdeal.sig) → Buf (Elt Ideal) ℓ) (g' : Dev Cert.RefKeysIdeal.nD → PrngReg), Pre_KeysIdeal_finite_keys m →
    (∀ c : Dev Cert.KeysIdeal.nD,
      m' ((c.tc : Thread Cert.RefKeysIdeal.nD Cert.RefKeysIdeal.τ).loc Cert.RefKeysIdeal.main_arg0) = m ((c.tc : Thread Cert.KeysIdeal.nD Cert.KeysIdeal.τ).loc Cert.KeysIdeal.main_arg0)
      ∧ m' ((c.tc : Thread Cert.RefKeysIdeal.nD Cert.RefKeysIdeal.τ).loc Cert.RefKeysIdeal.main_arg1) = m ((c.tc : Thread Cert.KeysIdeal.nD Cert.KeysIdeal.τ).loc Cert.KeysIdeal.main_arg1)) →
    ∃ (v0 : (c : Dev Cert.KeysIdeal.nD) → Buf (Elt Ideal) ((c.tc : Thread Cert.KeysIdeal.nD Cert.KeysIdeal.τ).loc Cert.KeysIdeal.main_v59)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v59) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1))
      ∧ θ_run (Cert.RefKeysIdeal.defs (F := Ideal)) (onTc (τ := Cert.RefKeysIdeal.τ) (Cert.RefKeysIdeal.main (F := Ideal))) ⟨m', fun _ => 0, g'⟩ (fun r => ∀ c : Dev Cert.RefKeysIdeal.nD,
          r.2.mem ((c.tc : Thread Cert.RefKeysIdeal.nD Cert.RefKeysIdeal.τ).loc Cert.RefKeysIdeal.main_v83) = v0 c
          ∧ r.2.mem ((c.tc : Thread Cert.RefKeysIdeal.nD Cert.RefKeysIdeal.τ).loc Cert.RefKeysIdeal.main_arg0) = m' ((c.tc : Thread Cert.RefKeysIdeal.nD Cert.RefKeysIdeal.τ).loc Cert.RefKeysIdeal.main_arg0)
          ∧ r.2.mem ((c.tc : Thread Cert.RefKeysIdeal.nD Cert.RefKeysIdeal.τ).loc Cert.RefKeysIdeal.main_arg1) = m' ((c.tc : Thread Cert.RefKeysIdeal.nD Cert.RefKeysIdeal.τ).loc Cert.RefKeysIdeal.main_arg1))

def preserves_CtxKeys_CtxKeysIdeal : Prop :=
  True

def algebraic_CtxKeysIdeal_RefCtxKeysIdeal_pre_finite_ctx [hCtxKeysIdeal : Cert.CtxKeysIdeal.Facts] [hRefCtxKeysIdeal : Cert.RefCtxKeysIdeal.Facts] [hPre_finite_ctx : Cert.Pre_finite_ctx.Facts] : Prop :=
  ∀ (m : (ℓ : Loc Cert.CtxKeysIdeal.nD Cert.CtxKeysIdeal.τ Cert.CtxKeysIdeal.sig) → Buf (Elt Ideal) ℓ) (g : Dev Cert.CtxKeysIdeal.nD → PrngReg)
    (m' : (ℓ : Loc Cert.RefCtxKeysIdeal.nD Cert.RefCtxKeysIdeal.τ Cert.RefCtxKeysIdeal.sig) → Buf (Elt Ideal) ℓ) (g' : Dev Cert.RefCtxKeysIdeal.nD → PrngReg), Pre_CtxKeysIdeal_finite_ctx m →
    (∀ c : Dev Cert.CtxKeysIdeal.nD,
      m' ((c.tc : Thread Cert.RefCtxKeysIdeal.nD Cert.RefCtxKeysIdeal.τ).loc Cert.RefCtxKeysIdeal.main_arg0) = m ((c.tc : Thread Cert.CtxKeysIdeal.nD Cert.CtxKeysIdeal.τ).loc Cert.CtxKeysIdeal.main_arg0)
      ∧ m' ((c.tc : Thread Cert.RefCtxKeysIdeal.nD Cert.RefCtxKeysIdeal.τ).loc Cert.RefCtxKeysIdeal.main_arg1) = m ((c.tc : Thread Cert.CtxKeysIdeal.nD Cert.CtxKeysIdeal.τ).loc Cert.CtxKeysIdeal.main_arg1)) →
    ∃ (v0 : (c : Dev Cert.CtxKeysIdeal.nD) → Buf (Elt Ideal) ((c.tc : Thread Cert.CtxKeysIdeal.nD Cert.CtxKeysIdeal.τ).loc Cert.CtxKeysIdeal.main_v12)),
      θ_run (Cert.CtxKeysIdeal.defs (F := Ideal)) (onTc (τ := Cert.CtxKeysIdeal.τ) (Cert.CtxKeysIdeal.main (F := Ideal))) ⟨m, fun _ => 0, g⟩ (fun r => ∀ c : Dev Cert.CtxKeysIdeal.nD,
          r.2.mem ((c.tc : Thread Cert.CtxKeysIdeal.nD Cert.CtxKeysIdeal.τ).loc Cert.CtxKeysIdeal.main_v12) = v0 c
          ∧ r.2.mem ((c.tc : Thread Cert.CtxKeysIdeal.nD Cert.CtxKeysIdeal.τ).loc Cert.CtxKeysIdeal.main_arg0) = m ((c.tc : Thread Cert.CtxKeysIdeal.nD Cert.CtxKeysIdeal.τ).loc Cert.CtxKeysIdeal.main_arg0)
          ∧ r.2.mem ((c.tc : Thread Cert.CtxKeysIdeal.nD Cert.CtxKeysIdeal.τ).loc Cert.CtxKeysIdeal.main_arg1) = m ((c.tc : Thread Cert.CtxKeysIdeal.nD Cert.CtxKeysIdeal.τ).loc Cert.CtxKeysIdeal.main_arg1))
      ∧ θ_run (Cert.RefCtxKeysIdeal.defs (F := Ideal)) (onTc (τ := Cert.RefCtxKeysIdeal.τ) (Cert.RefCtxKeysIdeal.main (F := Ideal))) ⟨m', fun _ => 0, g'⟩ (fun r => ∀ c : Dev Cert.RefCtxKeysIdeal.nD,
          r.2.mem ((c.tc : Thread Cert.RefCtxKeysIdeal.nD Cert.RefCtxKeysIdeal.τ).loc Cert.RefCtxKeysIdeal.main_v15) = v0 c
          ∧ r.2.mem ((c.tc : Thread Cert.RefCtxKeysIdeal.nD Cert.RefCtxKeysIdeal.τ).loc Cert.RefCtxKeysIdeal.main_arg0) = m' ((c.tc : Thread Cert.RefCtxKeysIdeal.nD Cert.RefCtxKeysIdeal.τ).loc Cert.RefCtxKeysIdeal.main_arg0)
          ∧ r.2.mem ((c.tc : Thread Cert.RefCtxKeysIdeal.nD Cert.RefCtxKeysIdeal.τ).loc Cert.RefCtxKeysIdeal.main_arg1) = m' ((c.tc : Thread Cert.RefCtxKeysIdeal.nD Cert.RefCtxKeysIdeal.τ).loc Cert.RefCtxKeysIdeal.main_arg1))

def preserves_Mod_ModIdeal : Prop :=
  True

def algebraic_ModIdeal_RefModIdeal [hModIdeal : Cert.ModIdeal.Facts] [hRefModIdeal : Cert.RefModIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.RefModIdeal.nD Cert.RefModIdeal.τ Cert.RefModIdeal.sig) → Buf (Elt Ideal) ℓ) (g' : Dev Cert.RefModIdeal.nD → PrngReg), Pre_ModIdeal m →
    (∀ c : Dev Cert.ModIdeal.nD,
      m' ((c.tc : Thread Cert.RefModIdeal.nD Cert.RefModIdeal.τ).loc Cert.RefModIdeal.main_arg0) = m ((c.tc : Thread Cert.ModIdeal.nD Cert.ModIdeal.τ).loc Cert.ModIdeal.main_arg0)
      ∧ m' ((c.tc : Thread Cert.RefModIdeal.nD Cert.RefModIdeal.τ).loc Cert.RefModIdeal.main_arg1) = m ((c.tc : Thread Cert.ModIdeal.nD Cert.ModIdeal.τ).loc Cert.ModIdeal.main_arg1)
      ∧ m' ((c.tc : Thread Cert.RefModIdeal.nD Cert.RefModIdeal.τ).loc Cert.RefModIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.RefModIdeal.defs (F := Ideal)) (onTc (τ := Cert.RefModIdeal.τ) (Cert.RefModIdeal.main (F := Ideal))) ⟨m', fun _ => 0, g'⟩ (fun r => ∀ c : Dev Cert.RefModIdeal.nD,
          r.2.mem ((c.tc : Thread Cert.RefModIdeal.nD Cert.RefModIdeal.τ).loc Cert.RefModIdeal.main_v20) = v0 c
          ∧ r.2.mem ((c.tc : Thread Cert.RefModIdeal.nD Cert.RefModIdeal.τ).loc Cert.RefModIdeal.main_arg0) = m' ((c.tc : Thread Cert.RefModIdeal.nD Cert.RefModIdeal.τ).loc Cert.RefModIdeal.main_arg0)
          ∧ r.2.mem ((c.tc : Thread Cert.RefModIdeal.nD Cert.RefModIdeal.τ).loc Cert.RefModIdeal.main_arg1) = m' ((c.tc : Thread Cert.RefModIdeal.nD Cert.RefModIdeal.τ).loc Cert.RefModIdeal.main_arg1)
          ∧ r.2.mem ((c.tc : Thread Cert.RefModIdeal.nD Cert.RefModIdeal.τ).loc Cert.RefModIdeal.main_arg2) = m' ((c.tc : Thread Cert.RefModIdeal.nD Cert.RefModIdeal.τ).loc Cert.RefModIdeal.main_arg2))

def preserves_Queries_QueriesIdeal : Prop :=
  IdealRules.named_const.Statement Cert.QueriesIdeal.κ "scale" .f32 0x3E38AA3B#32 (((8 * (Real.log 2))⁻¹ : ℝ) : EReal)

def algebraic_QueriesIdeal_RefQueriesIdeal_pre_finite_queries [hQueriesIdeal : Cert.QueriesIdeal.Facts] [hRefQueriesIdeal : Cert.RefQueriesIdeal.Facts] [hPre_finite_queries : Cert.Pre_finite_queries.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.RefQueriesIdeal.nD Cert.RefQueriesIdeal.τ Cert.RefQueriesIdeal.sig) → Buf (Elt Ideal) ℓ) (g' : Dev Cert.RefQueriesIdeal.nD → PrngReg), Pre_QueriesIdeal_finite_queries m →
    (∀ c : Dev Cert.QueriesIdeal.nD,
      m' ((c.tc : Thread Cert.RefQueriesIdeal.nD Cert.RefQueriesIdeal.τ).loc Cert.RefQueriesIdeal.main_arg0) = m ((c.tc : Thread Cert.QueriesIdeal.nD Cert.QueriesIdeal.τ).loc Cert.QueriesIdeal.main_arg0)
      ∧ m' ((c.tc : Thread Cert.RefQueriesIdeal.nD Cert.RefQueriesIdeal.τ).loc Cert.RefQueriesIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v59)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v59) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.RefQueriesIdeal.defs (F := Ideal)) (onTc (τ := Cert.RefQueriesIdeal.τ) (Cert.RefQueriesIdeal.main (F := Ideal))) ⟨m', fun _ => 0, g'⟩ (fun r => ∀ c : Dev Cert.RefQueriesIdeal.nD,
          r.2.mem ((c.tc : Thread Cert.RefQueriesIdeal.nD Cert.RefQueriesIdeal.τ).loc Cert.RefQueriesIdeal.main_v88) = v0 c
          ∧ r.2.mem ((c.tc : Thread Cert.RefQueriesIdeal.nD Cert.RefQueriesIdeal.τ).loc Cert.RefQueriesIdeal.main_arg0) = m' ((c.tc : Thread Cert.RefQueriesIdeal.nD Cert.RefQueriesIdeal.τ).loc Cert.RefQueriesIdeal.main_arg0)
          ∧ r.2.mem ((c.tc : Thread Cert.RefQueriesIdeal.nD Cert.RefQueriesIdeal.τ).loc Cert.RefQueriesIdeal.main_arg1) = m' ((c.tc : Thread Cert.RefQueriesIdeal.nD Cert.RefQueriesIdeal.τ).loc Cert.RefQueriesIdeal.main_arg1))

def Claim : Prop :=
  ∃ (hKernel : Cert.Kernel.Facts) (hKernelIdeal : Cert.KernelIdeal.Facts) (hReferenceIdeal : Cert.ReferenceIdeal.Facts) (hProjAB : Cert.ProjAB.Facts) (hProjABIdeal : Cert.ProjABIdeal.Facts) (hRefABIdeal : Cert.RefABIdeal.Facts) (hProjCD : Cert.ProjCD.Facts) (hProjCDIdeal : Cert.ProjCDIdeal.Facts) (hRefCDIdeal : Cert.RefCDIdeal.Facts) (hOutProj : Cert.OutProj.Facts) (hOutProjIdeal : Cert.OutProjIdeal.Facts) (hRefOutIdeal : Cert.RefOutIdeal.Facts) (hKeys : Cert.Keys.Facts) (hKeysIdeal : Cert.KeysIdeal.Facts) (hRefKeysIdeal : Cert.RefKeysIdeal.Facts) (hCtxKeys : Cert.CtxKeys.Facts) (hCtxKeysIdeal : Cert.CtxKeysIdeal.Facts) (hRefCtxKeysIdeal : Cert.RefCtxKeysIdeal.Facts) (hMod : Cert.Mod.Facts) (hModIdeal : Cert.ModIdeal.Facts) (hRefModIdeal : Cert.RefModIdeal.Facts) (hQueries : Cert.Queries.Facts) (hQueriesIdeal : Cert.QueriesIdeal.Facts) (hRefQueriesIdeal : Cert.RefQueriesIdeal.Facts) (hPre_finite_scores : Cert.Pre_finite_scores.Facts) (hPre_finite_keys : Cert.Pre_finite_keys.Facts) (hPre_finite_ctx : Cert.Pre_finite_ctx.Facts) (hPre_finite_queries : Cert.Pre_finite_queries.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_ProjAB (hProjAB := hProjAB)
    ∧ quiescent_ProjABIdeal (hProjABIdeal := hProjABIdeal)
    ∧ quiescent_RefABIdeal (hRefABIdeal := hRefABIdeal)
    ∧ quiescent_ProjCD (hProjCD := hProjCD)
    ∧ quiescent_ProjCDIdeal (hProjCDIdeal := hProjCDIdeal)
    ∧ quiescent_RefCDIdeal (hRefCDIdeal := hRefCDIdeal)
    ∧ quiescent_OutProj (hOutProj := hOutProj)
    ∧ quiescent_OutProjIdeal (hOutProjIdeal := hOutProjIdeal)
    ∧ quiescent_RefOutIdeal (hRefOutIdeal := hRefOutIdeal)
    ∧ quiescent_Keys (hKeys := hKeys)
    ∧ quiescent_KeysIdeal (hKeysIdeal := hKeysIdeal)
    ∧ quiescent_KeysIdeal_pre_finite_keys (hKeysIdeal := hKeysIdeal) (hPre_finite_keys := hPre_finite_keys)
    ∧ quiescent_RefKeysIdeal (hRefKeysIdeal := hRefKeysIdeal)
    ∧ quiescent_RefKeysIdeal_pre_finite_keys (hRefKeysIdeal := hRefKeysIdeal) (hPre_finite_keys := hPre_finite_keys)
    ∧ quiescent_CtxKeys (hCtxKeys := hCtxKeys)
    ∧ quiescent_CtxKeysIdeal (hCtxKeysIdeal := hCtxKeysIdeal)
    ∧ quiescent_CtxKeysIdeal_pre_finite_ctx (hCtxKeysIdeal := hCtxKeysIdeal) (hPre_finite_ctx := hPre_finite_ctx)
    ∧ quiescent_RefCtxKeysIdeal (hRefCtxKeysIdeal := hRefCtxKeysIdeal)
    ∧ quiescent_RefCtxKeysIdeal_pre_finite_ctx (hRefCtxKeysIdeal := hRefCtxKeysIdeal) (hPre_finite_ctx := hPre_finite_ctx)
    ∧ quiescent_Mod (hMod := hMod)
    ∧ quiescent_ModIdeal (hModIdeal := hModIdeal)
    ∧ quiescent_RefModIdeal (hRefModIdeal := hRefModIdeal)
    ∧ quiescent_Queries (hQueries := hQueries)
    ∧ quiescent_QueriesIdeal (hQueriesIdeal := hQueriesIdeal)
    ∧ quiescent_QueriesIdeal_pre_finite_queries (hQueriesIdeal := hQueriesIdeal) (hPre_finite_queries := hPre_finite_queries)
    ∧ quiescent_RefQueriesIdeal (hRefQueriesIdeal := hRefQueriesIdeal)
    ∧ quiescent_RefQueriesIdeal_pre_finite_queries (hRefQueriesIdeal := hRefQueriesIdeal) (hPre_finite_queries := hPre_finite_queries)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_ProjAB_ProjABIdeal
    ∧ algebraic_ProjABIdeal_RefABIdeal (hProjABIdeal := hProjABIdeal) (hRefABIdeal := hRefABIdeal)
    ∧ preserves_ProjCD_ProjCDIdeal
    ∧ algebraic_ProjCDIdeal_RefCDIdeal (hProjCDIdeal := hProjCDIdeal) (hRefCDIdeal := hRefCDIdeal)
    ∧ preserves_OutProj_OutProjIdeal
    ∧ algebraic_OutProjIdeal_RefOutIdeal (hOutProjIdeal := hOutProjIdeal) (hRefOutIdeal := hRefOutIdeal)
    ∧ preserves_Keys_KeysIdeal
    ∧ algebraic_KeysIdeal_RefKeysIdeal_pre_finite_keys (hKeysIdeal := hKeysIdeal) (hRefKeysIdeal := hRefKeysIdeal) (hPre_finite_keys := hPre_finite_keys)
    ∧ preserves_CtxKeys_CtxKeysIdeal
    ∧ algebraic_CtxKeysIdeal_RefCtxKeysIdeal_pre_finite_ctx (hCtxKeysIdeal := hCtxKeysIdeal) (hRefCtxKeysIdeal := hRefCtxKeysIdeal) (hPre_finite_ctx := hPre_finite_ctx)
    ∧ preserves_Mod_ModIdeal
    ∧ algebraic_ModIdeal_RefModIdeal (hModIdeal := hModIdeal) (hRefModIdeal := hRefModIdeal)
    ∧ preserves_Queries_QueriesIdeal
    ∧ algebraic_QueriesIdeal_RefQueriesIdeal_pre_finite_queries (hQueriesIdeal := hQueriesIdeal) (hRefQueriesIdeal := hRefQueriesIdeal) (hPre_finite_queries := hPre_finite_queries)
-- ==== Pre_finite_ctx.lean ====
abbrev S256x128 : Shape := ⟨2, ![256, 128]⟩
abbrev S64 : Shape := ⟨1, ![64]⟩
abbrev S_ : Shape := ⟨0, ![]⟩

class Facts : Prop where
  bcast_S_S256x128 : S_.BroadcastsInDim S256x128 (![] : Fin 0 → Fin S256x128.rank)

variable [Facts]

def fn {F : FTy → Type} [FloatOps F] (main_arg0 : FVec F S256x128 .f32) (main_arg1 : FVec F S64 .f32) : IVec S256x128 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  main_v2
-- ==== Pre_finite_keys.lean ====
abbrev S16384x128 : Shape := ⟨2, ![16384, 128]⟩
abbrev S64 : Shape := ⟨1, ![64]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x128 .f32) (main_arg1 : FVec F S64 .f32) : IVec S16384x128 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  main_v2
-- ==== Pre_finite_queries.lean ====
abbrev S16384x512 : Shape := ⟨2, ![16384, 512]⟩
abbrev S64 : Shape := ⟨1, ![64]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x512 .f32) (main_arg1 : FVec F S64 .f32) : IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Pre_finite_scores.lean ====
abbrev S16384x512 : Shape := ⟨2, ![16384, 512]⟩
abbrev S16384x128 : Shape := ⟨2, ![16384, 128]⟩
abbrev S256x128 : Shape := ⟨2, ![256, 128]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)
  bcast_S_S256x128 : S_.BroadcastsInDim S256x128 (![] : Fin 0 → Fin S256x128.rank)

variable [Facts]

def fn {F : FTy → Type} [FloatOps F] (main_arg0 : FVec F S16384x512 .f32) (main_arg1 : FVec F S16384x128 .f32) (main_arg2 : FVec F S16384x128 .f32) (main_arg3 : FVec F S256x128 .f32) (main_arg4 : FVec F S256x128 .f32) : IVec S16384x512 1 × IVec S16384x128 1 × IVec S256x128 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S256x128 .f32 := Host.absf main_arg3
  let main_cst_1 : FVec F S_ .f32 := constant S_ .f32 0x7F800000#32
  let main_v7 : FVec F S256x128 .f32 := broadcastInDim S256x128 ![] bcast_S_S256x128 main_cst_1
  let main_v8 : IVec S256x128 1 := cmpf .olt main_v6 main_v7
  (main_v2, main_v5, main_v8)
-- ==== Kernel.lean ====
abbrev S16384x512 : Shape := ⟨2, ![16384, 512]⟩
abbrev S16384x128 : Shape := ⟨2, ![16384, 128]⟩
abbrev S256x128 : Shape := ⟨2, ![256, 128]⟩
abbrev S_ : Shape := ⟨0, ![]⟩
abbrev S512x16384 : Shape := ⟨2, ![512, 16384]⟩
abbrev S16640x128 : Shape := ⟨2, ![16640, 128]⟩
abbrev S16640x2x64 : Shape := ⟨3, ![16640, 2, 64]⟩
abbrev S2x16640x64 : Shape := ⟨3, ![2, 16640, 64]⟩
abbrev S128x16640 : Shape := ⟨2, ![128, 16640]⟩
abbrev S2x64x16640 : Shape := ⟨3, ![2, 64, 16640]⟩
abbrev S256x256 : Shape := ⟨2, ![256, 256]⟩
abbrev S1x16640x64 : Shape := ⟨3, ![1, 16640, 64]⟩
abbrev S1x64x16640 : Shape := ⟨3, ![1, 64, 16640]⟩
abbrev S64x1024 : Shape := ⟨2, ![64, 1024]⟩
abbrev S2x1280x1024 : Shape := ⟨3, ![2, 1280, 1024]⟩
abbrev S1x1024 : Shape := ⟨2, ![1, 1024]⟩
abbrev S64x256 : Shape := ⟨2, ![64, 256]⟩
abbrev S1x1280x64 : Shape := ⟨3, ![1, 1280, 64]⟩
abbrev S1280x64 : Shape := ⟨2, ![1280, 64]⟩
abbrev S1280x1024 : Shape := ⟨2, ![1280, 1024]⟩
abbrev S1x1280x1024 : Shape := ⟨3, ![1, 1280, 1024]⟩
abbrev S1024 : Shape := ⟨1, ![1024]⟩
abbrev S1x64x1280 : Shape := ⟨3, ![1, 64, 1280]⟩
abbrev S64x1280 : Shape := ⟨2, ![64, 1280]⟩
abbrev S256x64 : Shape := ⟨2, ![256, 64]⟩

abbrev nBuf : Space → Nat
  | .hbm => 24
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S256x128, .f32⟩
  | .hbm, ⟨4, _⟩ => ⟨S256x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S512x16384, .f32⟩
  | .hbm, ⟨12, _⟩ => ⟨S512x16384, .bf16⟩
  | .hbm, ⟨13, _⟩ => ⟨S16384x128, .bf16⟩
  | .hbm, ⟨14, _⟩ => ⟨S256x128, .bf16⟩
  | .hbm, ⟨15, _⟩ => ⟨S16384x128, .bf16⟩
  | .hbm, ⟨16, _⟩ => ⟨S256x128, .bf16⟩
  | .hbm, ⟨17, _⟩ => ⟨S16640x128, .bf16⟩
  | .hbm, ⟨18, _⟩ => ⟨S16640x128, .bf16⟩
  | .hbm, ⟨19, _⟩ => ⟨S16640x2x64, .bf16⟩
  | .hbm, ⟨20, _⟩ => ⟨S2x16640x64, .bf16⟩
  | .hbm, ⟨21, _⟩ => ⟨S128x16640, .bf16⟩
  | .hbm, ⟨22, _⟩ => ⟨S2x64x16640, .bf16⟩
  | .hbm, ⟨23, _⟩ => ⟨S16384x512, .bf16⟩
  | .local _ .vmem, ⟨0, _⟩ => ⟨S256x256, .bf16⟩
  | .local _ .vmem, ⟨1, _⟩ => ⟨S256x256, .bf16⟩
  | .local _ .vmem, ⟨2, _⟩ => ⟨S1x16640x64, .bf16⟩
  | .local _ .vmem, ⟨3, _⟩ => ⟨S1x16640x64, .bf16⟩
  | .local _ .vmem, ⟨4, _⟩ => ⟨S1x64x16640, .bf16⟩
  | .local _ .vmem, ⟨5, _⟩ => ⟨S1x64x16640, .bf16⟩
  | .local _ .vmem, ⟨6, _⟩ => ⟨S256x256, .bf16⟩
  | .local _ .vmem, ⟨7, _⟩ => ⟨S256x256, .bf16⟩
  | .local _ .vmem, ⟨8, _⟩ => ⟨S64x1024, .bf16⟩
  | .local _ .vmem, ⟨9, _⟩ => ⟨S2x1280x1024, .f32⟩
  | .local _ .vmem, ⟨10, _⟩ => ⟨S1x1024, .f32⟩
  | .local _ .vmem, ⟨11, _⟩ => ⟨S1x1024, .f32⟩
  | .local _ .vmem, ⟨12, _⟩ => ⟨S64x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_mult1 : BitVec 32 :=
  let c0_i32 : BitVec 32 := 0#32
  let c12_i32 : BitVec 32 := 12#32
  let v32 : BitVec 32 := Scalar.minsi c0_i32 c12_i32
  let c1280_i32 : BitVec 32 := 1280#32
  let v33 : BitVec 32 := Scalar.muli v32 c1280_i32
  v33
def k0_off1 : Fin 3 → Nat :=
  let c0_17 : Index := 0#32
  let c0_i32 : BitVec 32 := 0#32
  let c12_i32 : BitVec 32 := 12#32
  let v32 : BitVec 32 := Scalar.minsi c0_i32 c12_i32
  let c1280_i32 : BitVec 32 := 1280#32
  let v33 : BitVec 32 := Scalar.muli v32 c1280_i32
  let v34 : BitVec 32 := v33
  let v35 : Index := Scalar.indexCast v34
  let c0_18 : Index := 0#32
  ![0, v35.toNat, 0]
@[reducible] def k0_t1_loop : Scf.Loop 32 :=
  let c0_i32_25 : BitVec 32 := 0#32
  let c6_i32 : BitVec 32 := 6#32
  let v43 : BitVec 32 := Scalar.addi c0_i32_25 c6_i32
  let c1_i32 : BitVec 32 := 1#32
  ⟨c0_i32_25, v43, c1_i32⟩
def k0_mult2 (k0_t1 : Fin k0_t1_loop.trips) : BitVec 32 :=
  let c2_i32 : BitVec 32 := 2#32
  let c0_i32_25 : BitVec 32 := 0#32
  let c1_i32 : BitVec 32 := 1#32
  let arg11 : BitVec 32 := Scf.iv c0_i32_25 c1_i32 k0_t1
  let v99 : BitVec 32 := Scalar.muli c2_i32 arg11
  let c1_i32_59 : BitVec 32 := 1#32
  let v100 : BitVec 32 := Scalar.addi v99 c1_i32_59
  let c12_i32_60 : BitVec 32 := 12#32
  let v101 : BitVec 32 := Scalar.minsi v100 c12_i32_60
  let c1280_i32_61 : BitVec 32 := 1280#32
  let v102 : BitVec 32 := Scalar.muli v101 c1280_i32_61
  v102
def k0_off2 (k0_t1 : Fin k0_t1_loop.trips) (c1_i32_59 : BitVec 32) : Fin 3 → Nat :=
  let c0_62 : Index := 0#32
  let c2_i32 : BitVec 32 := 2#32
  let c0_i32_25 : BitVec 32 := 0#32
  let c1_i32 : BitVec 32 := 1#32
  let arg11 : BitVec 32 := Scf.iv c0_i32_25 c1_i32 k0_t1
  let v99 : BitVec 32 := Scalar.muli c2_i32 arg11
  let v100 : BitVec 32 := Scalar.addi v99 c1_i32_59
  let c12_i32_60 : BitVec 32 := 12#32
  let v101 : BitVec 32 := Scalar.minsi v100 c12_i32_60
  let c1280_i32_61 : BitVec 32 := 1280#32
  let v102 : BitVec 32 := Scalar.muli v101 c1280_i32_61
  let v103 : BitVec 32 := v102
  let v104 : Index := Scalar.indexCast v103
  let c0_63 : Index := 0#32
  ![0, v104.toNat, 0]
def k0_mult3 (k0_t1 : Fin k0_t1_loop.trips) : BitVec 32 :=
  let c2_i32 : BitVec 32 := 2#32
  let c0_i32_25 : BitVec 32 := 0#32
  let c1_i32 : BitVec 32 := 1#32
  let arg11 : BitVec 32 := Scf.iv c0_i32_25 c1_i32 k0_t1
  let v99 : BitVec 32 := Scalar.muli c2_i32 arg11
  let c1280_i32_72 : BitVec 32 := 1280#32
  let v114 : BitVec 32 := Scalar.muli v99 c1280_i32_72
  v114
def k0_off3 (k0_t1 : Fin k0_t1_loop.trips) : Fin 3 → Nat :=
  let c0_83 : Index := 0#32
  let c0_84 : Index := 0#32
  let c2_i32 : BitVec 32 := 2#32
  let c0_i32_25 : BitVec 32 := 0#32
  let c1_i32 : BitVec 32 := 1#32
  let arg11 : BitVec 32 := Scf.iv c0_i32_25 c1_i32 k0_t1
  let v99 : BitVec 32 := Scalar.muli c2_i32 arg11
  let c1280_i32_72 : BitVec 32 := 1280#32
  let v114 : BitVec 32 := Scalar.muli v99 c1280_i32_72
  let v115 : BitVec 32 := v114
  let v136 : Index := Scalar.indexCast v115
  ![0, 0, v136.toNat]
def k0_mult4 (k0_t1 : Fin k0_t1_loop.trips) : BitVec 32 :=
  let c2_i32 : BitVec 32 := 2#32
  let c0_i32_25 : BitVec 32 := 0#32
  let c1_i32 : BitVec 32 := 1#32
  let arg11 : BitVec 32 := Scf.iv c0_i32_25 c1_i32 k0_t1
  let v99 : BitVec 32 := Scalar.muli c2_i32 arg11
  let c2_i32_90 : BitVec 32 := 2#32
  let v148 : BitVec 32 := Scalar.addi v99 c2_i32_90
  let c12_i32_91 : BitVec 32 := 12#32
  let v149 : BitVec 32 := Scalar.minsi v148 c12_i32_91
  let c1280_i32_92 : BitVec 32 := 1280#32
  let v150 : BitVec 32 := Scalar.muli v149 c1280_i32_92
  v150
def k0_mult5 (k0_t1 : Fin k0_t1_loop.trips) : BitVec 32 :=
  let c2_i32 : BitVec 32 := 2#32
  let c0_i32_25 : BitVec 32 := 0#32
  let c1_i32 : BitVec 32 := 1#32
  let arg11 : BitVec 32 := Scf.iv c0_i32_25 c1_i32 k0_t1
  let v99 : BitVec 32 := Scalar.muli c2_i32 arg11
  let c1_i32_101 : BitVec 32 := 1#32
  let v160 : BitVec 32 := Scalar.addi v99 c1_i32_101
  let c1280_i32_105 : BitVec 32 := 1280#32
  let v163 : BitVec 32 := Scalar.muli v160 c1280_i32_105
  v163
def k0_off4 (k0_t1 : Fin k0_t1_loop.trips) : Fin 3 → Nat :=
  let c0_116 : Index := 0#32
  let c0_117 : Index := 0#32
  let c2_i32 : BitVec 32 := 2#32
  let c0_i32_25 : BitVec 32 := 0#32
  let c1_i32 : BitVec 32 := 1#32
  let arg11 : BitVec 32 := Scf.iv c0_i32_25 c1_i32 k0_t1
  let v99 : BitVec 32 := Scalar.muli c2_i32 arg11
  let c1_i32_101 : BitVec 32 := 1#32
  let v160 : BitVec 32 := Scalar.addi v99 c1_i32_101
  let c1280_i32_105 : BitVec 32 := 1280#32
  let v163 : BitVec 32 := Scalar.muli v160 c1280_i32_105
  let v164 : BitVec 32 := v163
  let v185 : Index := Scalar.indexCast v164
  ![0, 0, v185.toNat]
def k0_mult6 : BitVec 32 :=
  let c15360_i32 : BitVec 32 := 15360#32
  c15360_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16640x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x512 : Shape := ⟨2, ![16384, 512]⟩
abbrev S16384x128 : Shape := ⟨2, ![16384, 128]⟩
abbrev S256x128 : Shape := ⟨2, ![256, 128]⟩
abbrev S16384x8x64 : Shape := ⟨3, ![16384, 8, 64]⟩
abbrev S16384x2x64 : Shape := ⟨3, ![16384, 2, 64]⟩
abbrev S256x2x64 : Shape := ⟨3, ![256, 2, 64]⟩
abbrev S16640x2x64 : Shape := ⟨3, ![16640, 2, 64]⟩
abbrev S_ : Shape := ⟨0, ![]⟩
abbrev S16384x2x4x64 : Shape := ⟨4, ![16384, 2, 4, 64]⟩
abbrev S2x16640x16384x4 : Shape := ⟨4, ![2, 16640, 16384, 4]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S256x128, .f32⟩
  | .hbm, ⟨4, _⟩ => ⟨S256x128, .f32⟩
  | .hbm, ⟨5, _⟩ => ⟨S16384x8x64, .f32⟩
  | .hbm, ⟨6, _⟩ => ⟨S16384x2x64, .f32⟩
  | .hbm, ⟨7, _⟩ => ⟨S16384x2x64, .f32⟩
  | .hbm, ⟨8, _⟩ => ⟨S256x2x64, .f32⟩
  | .hbm, ⟨9, _⟩ => ⟨S256x2x64, .f32⟩
  | .hbm, ⟨10, _⟩ => ⟨S16640x2x64, .f32⟩
  | .hbm, ⟨11, _⟩ => ⟨S16640x2x64, .f32⟩
  | .hbm, ⟨12, _⟩ => ⟨S_, .f32⟩
  | .hbm, ⟨13, _⟩ => ⟨S16384x8x64, .f32⟩
  | .hbm, ⟨14, _⟩ => ⟨S16384x8x64, .f32⟩
  | .hbm, ⟨15, _⟩ => ⟨S16384x2x4x64, .f32⟩
  | .hbm, ⟨16, _⟩ => ⟨S2x16640x16384x4, .f32⟩
  | .hbm, ⟨17, _⟩ => ⟨S2x4x16384x16640, .f32⟩
  | .hbm, ⟨18, _⟩ => ⟨S_, .f32⟩
  | .hbm, ⟨19, _⟩ => ⟨S2x4x16384, .f32⟩
  | .hbm, ⟨20, _⟩ => ⟨S_, .f32⟩
  | .hbm, ⟨21, _⟩ => ⟨S2x4x16384, .f32⟩
  | .hbm, ⟨22, _⟩ => ⟨S2x4x16384, .f32⟩
  | .hbm, ⟨23, _⟩ => ⟨S2x4x16384x1, .f32⟩
  | .hbm, ⟨24, _⟩ => ⟨S2x4x16384x16640, .f32⟩
  | .hbm, ⟨25, _⟩ => ⟨S2x4x16384x16640, .f32⟩
  | .hbm, ⟨26, _⟩ => ⟨S2x4x16384x16640, .f32⟩
  | .hbm, ⟨27, _⟩ => ⟨S_, .f32⟩
  | .hbm, ⟨28, _⟩ => ⟨S2x4x16384, .f32⟩
  | .hbm, ⟨29, _⟩ => ⟨S2x4x16384x1, .f32⟩
  | .hbm, ⟨30, _⟩ => ⟨S2x4x16384x16640, .f32⟩
  | .hbm, ⟨31, _⟩ => ⟨S2x4x16384x16640, .f32⟩
  | .hbm, ⟨32, _⟩ => ⟨S2x64x4x16384, .f32⟩
  | .hbm, ⟨33, _⟩ => ⟨S16384x2x4x64, .f32⟩
  | .hbm, ⟨34, _⟩ => ⟨S16384x512, .f32⟩
  | .hbm, ⟨35, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== ProjAB.lean ====
abbrev S16384x1024 : Shape := ⟨2, ![16384, 1024]⟩
abbrev S1x1024 : Shape := ⟨2, ![1, 1024]⟩
abbrev S1024x3072 : Shape := ⟨2, ![1024, 3072]⟩
abbrev S16384x512 : Shape := ⟨2, ![16384, 512]⟩
abbrev S16384x1536 : Shape := ⟨2, ![16384, 1536]⟩
abbrev S512x1024 : Shape := ⟨2, ![512, 1024]⟩
abbrev S512x512 : Shape := ⟨2, ![512, 512]⟩
abbrev S512x1536 : Shape := ⟨2, ![512, 1536]⟩
abbrev S1024x512 : Shape := ⟨2, ![1024, 512]⟩
abbrev S1024x1536 : Shape := ⟨2, ![1024, 1536]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S1024x3072, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1536, .f32⟩
  | .local _ .vmem, ⟨12, _⟩ => ⟨S512x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefABIdeal.lean ====
abbrev S16384x1024 : Shape := ⟨2, ![16384, 1024]⟩
abbrev S1x1024 : Shape := ⟨2, ![1, 1024]⟩
abbrev S1024x3072 : Shape := ⟨2, ![1024, 3072]⟩
abbrev S_ : Shape := ⟨0, ![]⟩
abbrev S16384x3072 : Shape := ⟨2, ![16384, 3072]⟩
abbrev S16384x512 : Shape := ⟨2, ![16384, 512]⟩
abbrev S16384x1536 : Shape := ⟨2, ![16384, 1536]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x3072, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x1536, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x512, .bf16⟩
  | .hbm, ⟨20, _⟩ => ⟨S16384x512, .bf16⟩
  | .hbm, ⟨21, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ProjCD.lean ====
abbrev S16384x1024 : Shape := ⟨2, ![16384, 1024]⟩
abbrev S1x1024 : Shape := ⟨2, ![1, 1024]⟩
abbrev S1024x1280 : Shape := ⟨2, ![1024, 1280]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S1024x512 : Shape := ⟨2, ![1024, 512]⟩
abbrev S1024x128 : Shape := ⟨2, ![1024, 128]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x1280, .f32⟩
  | .hbm, ⟨4, _⟩ => ⟨S1024x1280, .bf16⟩
  | .hbm, ⟨5, _⟩ => ⟨S16384x512, .f32⟩
  | .hbm, ⟨6, _⟩ => ⟨S16384x128, .f32⟩
  | .hbm, ⟨7, _⟩ => ⟨S16384x128, .bf16⟩
  | .hbm, ⟨8, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1280, .bf16⟩
  | .local _ .vmem, ⟨5, _⟩ => ⟨S512x512, .f32⟩
  | .local _ .vmem, ⟨6, _⟩ => ⟨S512x512, .f32⟩
  | .local _ .vmem, ⟨7, _⟩ => ⟨S512x128, .f32⟩
  | .local _ .vmem, ⟨8, _⟩ => ⟨S512x128, .f32⟩
  | .local _ .vmem, ⟨9, _⟩ => ⟨S512x128, .bf16⟩
  | .local _ .vmem, ⟨10, _⟩ => ⟨S512x128, .bf16⟩
  | .local _ .vmem, ⟨11, _⟩ => ⟨S512x512, .f32⟩
  | .local _ .vmem, ⟨12, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefCDIdeal.lean ====
abbrev S16384x1024 : Shape := ⟨2, ![16384, 1024]⟩
abbrev S1x1024 : Shape := ⟨2, ![1, 1024]⟩
abbrev S1024x1280 : Shape := ⟨2, ![1024, 1280]⟩
abbrev S_ : Shape := ⟨0, ![]⟩
abbrev S16384x1280 : Shape := ⟨2, ![16384, 1280]⟩
abbrev S16384x512 : Shape := ⟨2, ![16384, 512]⟩
abbrev S16384x128 : Shape := ⟨2, ![16384, 128]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x1280, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1280, .f32⟩
  | .hbm, ⟨12, _⟩ => ⟨S16384x512, .f32⟩
  | .hbm, ⟨13, _⟩ => ⟨S16384x128, .f32⟩
  | .hbm, ⟨14, _⟩ => ⟨S16384x128, .f32⟩
  | .hbm, ⟨15, _⟩ => ⟨S16384x512, .f32⟩
  | .hbm, ⟨16, _⟩ => ⟨S16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== OutProj.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S1024 : Shape := ⟨1, ![1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefOutIdeal.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024, .f32⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Keys.lean ====
abbrev S16384x128 : Shape := ⟨2, ![16384, 128]⟩
abbrev S64 : Shape := ⟨1, ![64]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x16x2 : Shape := ⟨3, ![16384, 16, 2]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S1x64 : Shape := ⟨2, ![1, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x1x64 : Shape := ⟨4, ![1, 1, 1, 64]⟩
abbrev S1x1x2x64 : Shape := ⟨4, ![1, 1, 2, 64]⟩
abbrev S512x128 : Shape := ⟨2, ![512, 128]⟩

abbrev nBuf : Space → Nat
  | .hbm => 147
  | .vmem => 10
  | .smem => 0
  | _ => 0

abbrev hbmTy0_0 (i : Nat) : BufTy := match i % 128 with
  | 0 => ⟨S16384x128, .f32⟩
  | 1 => ⟨S64, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16384, .i32⟩
  | 17 => ⟨S_, .i32⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S16384, .i32⟩
  | 26 => ⟨S16384, .i32⟩
  | 27 => ⟨S_, .i32⟩
  | 28 => ⟨S16384, .i32⟩
  | 29 => ⟨S16384, .i1⟩
  | 30 => ⟨S16384, .i1⟩
  | 31 => ⟨S_, .i32⟩
  | 32 => ⟨S16384, .i32⟩
  | 33 => ⟨S16384, .i32⟩
  | 34 => ⟨S16384, .i32⟩
  | 35 => ⟨S16384, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S16384, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i1⟩
  | 50 => ⟨S_, .i32⟩
  | 51 => ⟨S_, .i1⟩
  | 52 => ⟨S16384, .i1⟩
  | 53 => ⟨S16384, .i1⟩
  | 54 => ⟨S16384, .i1⟩
  | 55 => ⟨S16384, .i32⟩
  | 56 => ⟨S16384, .i32⟩
  | 57 => ⟨S16384, .i32⟩
  | 58 => ⟨S16384, .f32⟩
  | 59 => ⟨S16384x1, .f32⟩
  | 60 => ⟨S1x16, .f32⟩
  | 61 => ⟨S16384x16, .f32⟩
  | 62 => ⟨S16384x16, .f32⟩
  | 63 => ⟨S16384x16, .f32⟩
  | 64 => ⟨S16384x16x2, .f32⟩
  | 65 => ⟨S16384x32, .f32⟩
  | 66 => ⟨S16384x1, .f32⟩
  | 67 => ⟨S1x16, .f32⟩
  | 68 => ⟨S16384x16, .f32⟩
  | 69 => ⟨S16384x16, .f32⟩
  | 70 => ⟨S16384x16, .f32⟩
  | 71 => ⟨S16384x16x2, .f32⟩
  | 72 => ⟨S16384x32, .f32⟩
  | 73 => ⟨S16384x64, .f32⟩
  | 74 => ⟨S64, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S64, .i32⟩
  | 82 => ⟨S64, .i32⟩
  | 83 => ⟨S_, .i32⟩
  | 84 => ⟨S64, .i32⟩
  | 85 => ⟨S64, .i1⟩
  | 86 => ⟨S_, .i32⟩
  | 87 => ⟨S64, .i32⟩
  | 88 => ⟨S64, .i1⟩
  | 89 => ⟨S_, .i32⟩
  | 90 => ⟨S_, .i1⟩
  | 91 => ⟨S64, .i1⟩
  | 92 => ⟨S64, .i1⟩
  | 93 => ⟨S64, .i1⟩
  | 94 => ⟨S64, .i32⟩
  | 95 => ⟨S64, .i32⟩
  | 96 => ⟨S64, .i32⟩
  | 97 => ⟨S_, .i32⟩
  | 98 => ⟨S64, .i32⟩
  | 99 => ⟨S64, .i1⟩
  | 100 => ⟨S_, .f32⟩
  | 101 => ⟨S_, .f32⟩
  | 102 => ⟨S64, .f32⟩
  | 103 => ⟨S64, .f32⟩
  | 104 => ⟨S64, .f32⟩
  | 105 => ⟨S64, .f32⟩
  | 106 => ⟨S16384x64, .f32⟩
  | 107 => ⟨S1x16384x1x64, .f32⟩
  | 108 => ⟨S1x16384x2x64, .f32⟩
  | 109 => ⟨S16384x128, .f32⟩
  | 110 => ⟨S16384x64, .f32⟩
  | 111 => ⟨S1x64, .f32⟩
  | 112 => ⟨S16384x64, .f32⟩
  | 113 => ⟨S16384x64, .f32⟩
  | 114 => ⟨S1x16384x1x64, .f32⟩
  | 115 => ⟨S1x16384x2x64, .f32⟩
  | 116 => ⟨S16384x128, .f32⟩
  | 117 => ⟨S128, .i32⟩
  | 118 => ⟨S_, .i32⟩
  | 119 => ⟨S_, .i32⟩
  | 120 => ⟨S128, .i32⟩
  | 121 => ⟨S128, .i32⟩
  | 122 => ⟨S128, .i32⟩
  | 123 => ⟨S_, .i32⟩
  | 124 => ⟨S128, .i32⟩
  | 125 => ⟨S128, .i1⟩
  | 126 => ⟨S128, .i32⟩
  | 127 => ⟨S128, .i32⟩
  | _ => ⟨S16384x128, .f32⟩

abbrev hbmTy0_1 (i : Nat) : BufTy := match i % 128 with
  | 0 => ⟨S_, .i32⟩
  | 1 => ⟨S128, .i32⟩
  | 2 => ⟨S128, .i1⟩
  | 3 => ⟨S128, .i1⟩
  | 4 => ⟨S_, .i32⟩
  | 5 => ⟨S128, .i32⟩
  | 6 => ⟨S128, .i32⟩
  | 7 => ⟨S128, .i32⟩
  | 8 => ⟨S128x1, .i32⟩
  | 9 => ⟨S1x128, .i32⟩
  | 10 => ⟨S128x128, .i32⟩
  | 11 => ⟨S128x128, .i32⟩
  | 12 => ⟨S128x128, .i1⟩
  | 13 => ⟨S128x128, .bf16⟩
  | 14 => ⟨S1x64, .f32⟩
  | 15 => ⟨S1x1x1x64, .f32⟩
  | 16 => ⟨S1x1x2x64, .f32⟩
  | 17 => ⟨S1x128, .f32⟩
  | 18 => ⟨S16384x128, .bf16⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S128x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_4 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v31 : Ref sig .tc := ⟨.hbm, 96, rfl⟩
abbrev main_c_5 : Ref sig .tc := ⟨.hbm, 97, rfl⟩
abbrev main_v32 : Ref sig .tc := ⟨.hbm, 98, rfl⟩
abbrev main_v33 : Ref sig .tc := ⟨.hbm, 99, rfl⟩
abbrev main_cst_6 : Ref sig .tc := ⟨.hbm, 100, rfl⟩
abbrev main_cst_7 : Ref sig .tc := ⟨.hbm, 101, rfl⟩
abbrev main_call3_v0 : Ref sig .tc := ⟨.hbm, 102, rfl⟩
abbrev main_call3_v1 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_c_8 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_c : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_0 : Ref sig .tc := ⟨.hbm, 132, rfl⟩
abbrev main_call4_v12 : Ref sig .tc := ⟨.hbm, 133, rfl⟩
abbrev main_call4_v13 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefKeysIdeal.lean ====
abbrev S16384x128 : Shape := ⟨2, ![16384, 128]⟩
abbrev S64 : Shape := ⟨1, ![64]⟩
abbrev S16384x2x64 : Shape := ⟨3, ![16384, 2, 64]⟩
abbrev S_ : Shape := ⟨0, ![]⟩
abbrev S16384x2 : Shape := ⟨2, ![16384, 2]⟩
abbrev S16384x2x1 : Shape := ⟨3, ![16384, 2, 1]⟩
abbrev S1x1x64 : Shape := ⟨3, ![1, 1, 64]⟩
abbrev S16384 : Shape := ⟨1, ![16384]⟩
abbrev S16 : Shape := ⟨1, ![16]⟩
abbrev S16384x2x32 : Shape := ⟨3, ![16384, 2, 32]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x2x16 : Shape := ⟨3, ![16384, 2, 16]⟩
abbrev S16384x2x16x1 : Shape := ⟨4, ![16384, 2, 16, 1]⟩
abbrev S16384x2x16x2 : Shape := ⟨4, ![16384, 2, 16, 2]⟩

abbrev nBuf : Space → Nat
  | .hbm => 131
  | .vmem => 0
  | .smem => 0
  | _ => 0

abbrev hbmTy0_0 (i : Nat) : BufTy := match i % 128 with
  | 0 => ⟨S16384x128, .f32⟩
  | 1 => ⟨S64, .f32⟩
  | 2 => ⟨S16384x2x64, .f32⟩
  | 3 => ⟨S16384x2x64, .f32⟩
  | 4 => ⟨S_, .f32⟩
  | 5 => ⟨S16384x2, .f32⟩
  | 6 => ⟨S16384x2x1, .f32⟩
  | 7 => ⟨S_, .f32⟩
  | 8 => ⟨S16384x2x1, .f32⟩
  | 9 => ⟨S16384x2x1, .f32⟩
  | 10 => ⟨S_, .f32⟩
  | 11 => ⟨S16384x2x1, .f32⟩
  | 12 => ⟨S16384x2x1, .f32⟩
  | 13 => ⟨S16384x2x1, .f32⟩
  | 14 => ⟨S16384x2x64, .f32⟩
  | 15 => ⟨S16384x2x64, .f32⟩
  | 16 => ⟨S1x1x64, .f32⟩
  | 17 => ⟨S16384x2x64, .f32⟩
  | 18 => ⟨S16384x2x64, .f32⟩
  | 19 => ⟨S16384, .i32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S16384x2x32, .f32⟩
  | 35 => ⟨S_, .i32⟩
  | 36 => ⟨S_, .i32⟩
  | 37 => ⟨S16384, .i32⟩
  | 38 => ⟨S16384, .i32⟩
  | 39 => ⟨S16384, .i32⟩
  | 40 => ⟨S_, .i32⟩
  | 41 => ⟨S16384, .i32⟩
  | 42 => ⟨S16384, .i1⟩
  | 43 => ⟨S16384, .i32⟩
  | 44 => ⟨S16384, .i32⟩
  | 45 => ⟨S_, .i32⟩
  | 46 => ⟨S16384, .i32⟩
  | 47 => ⟨S16384, .i1⟩
  | 48 => ⟨S16384, .i1⟩
  | 49 => ⟨S_, .i32⟩
  | 50 => ⟨S16384, .i32⟩
  | 51 => ⟨S16384, .i32⟩
  | 52 => ⟨S16384, .i32⟩
  | 53 => ⟨S16384, .f32⟩
  | 54 => ⟨S16384x1, .f32⟩
  | 55 => ⟨S1x16, .f32⟩
  | 56 => ⟨S16384x16, .f32⟩
  | 57 => ⟨S16384x16, .f32⟩
  | 58 => ⟨S16384x16, .f32⟩
  | 59 => ⟨S16384x16, .f32⟩
  | 60 => ⟨S16384x1x16, .f32⟩
  | 61 => ⟨S16384x16, .f32⟩
  | 62 => ⟨S16384x1x16, .f32⟩
  | 63 => ⟨S16384x2x16, .f32⟩
  | 64 => ⟨S16384x2x16, .f32⟩
  | 65 => ⟨S16384x2x16, .f32⟩
  | 66 => ⟨S16384x2x16, .f32⟩
  | 67 => ⟨S16384x2x16, .f32⟩
  | 68 => ⟨S16384x2x16, .f32⟩
  | 69 => ⟨S16384x2x16, .f32⟩
  | 70 => ⟨S16384x2x16, .f32⟩
  | 71 => ⟨S16384x2x16, .f32⟩
  | 72 => ⟨S16384x2x16, .f32⟩
  | 73 => ⟨S16384x2x16, .f32⟩
  | 74 => ⟨S16384x2x16, .f32⟩
  | 75 => ⟨S16384x2x16x1, .f32⟩
  | 76 => ⟨S16384x2x16x1, .f32⟩
  | 77 => ⟨S16384x2x16x2, .f32⟩
  | 78 => ⟨S16384x2x32, .f32⟩
  | 79 => ⟨S16384x2x32, .f32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S16384, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i1⟩
  | 94 => ⟨S_, .i32⟩
  | 95 => ⟨S_, .i1⟩
  | 96 => ⟨S16384, .i1⟩
  | 97 => ⟨S16384, .i1⟩
  | 98 => ⟨S16384, .i1⟩
  | 99 => ⟨S16384, .i32⟩
  | 100 => ⟨S16384, .i32⟩
  | 101 => ⟨S16384, .i32⟩
  | 102 => ⟨S16384, .f32⟩
  | 103 => ⟨S16384x1, .f32⟩
  | 104 => ⟨S1x16, .f32⟩
  | 105 => ⟨S16384x16, .f32⟩
  | 106 => ⟨S16384x16, .f32⟩
  | 107 => ⟨S16384x16, .f32⟩
  | 108 => ⟨S16384x16, .f32⟩
  | 109 => ⟨S16384x1x16, .f32⟩
  | 110 => ⟨S16384x16, .f32⟩
  | 111 => ⟨S16384x1x16, .f32⟩
  | 112 => ⟨S16384x2x16, .f32⟩
  | 113 => ⟨S16384x2x16, .f32⟩
  | 114 => ⟨S16384x2x16, .f32⟩
  | 115 => ⟨S16384x2x16, .f32⟩
  | 116 => ⟨S16384x2x16, .f32⟩
  | 117 => ⟨S16384x2x16, .f32⟩
  | 118 => ⟨S16384x2x16, .f32⟩
  | 119 => ⟨S16384x2x16, .f32⟩
  | 120 => ⟨S16384x2x16, .f32⟩
  | 121 => ⟨S16384x2x16, .f32⟩
  | 122 => ⟨S16384x2x16, .f32⟩
  | 123 => ⟨S16384x2x16, .f32⟩
  | 124 => ⟨S16384x2x16x1, .f32⟩
  | 125 => ⟨S16384x2x16x1, .f32⟩
  | 126 => ⟨S16384x2x16x2, .f32⟩
  | 127 => ⟨S16384x2x32, .f32⟩
  | _ => ⟨S16384x128, .f32⟩

abbrev hbmTy0_1 (i : Nat) : BufTy := match i % 128 with
  | 0 => ⟨S16384x2x64, .f32⟩
  | 1 => ⟨S16384x128, .f32⟩
  | 2 => ⟨S16384x128, .bf16⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_6 : Ref sig .tc := ⟨.hbm, 80, rfl⟩
abbrev main_call1_v0 : Ref sig .tc := ⟨.hbm, 81, rfl⟩
abbrev main_call1_c : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_c_1 : Ref sig .tc := ⟨.hbm, 88, rfl⟩
abbrev main_call1_v5 : Ref sig .tc := ⟨.hbm, 89, rfl⟩
abbrev main_call1_v6 : Ref sig .tc := ⟨.hbm, 90, rfl⟩
abbrev main_call1_c_2 : Ref sig .tc := ⟨.hbm, 91, rfl⟩
abbrev main_call1_v7 : Ref sig .tc := ⟨.hbm, 92, rfl⟩
abbrev main_call1_v8 : Ref sig .tc := ⟨.hbm, 93, rfl⟩
abbrev main_call1_c_3 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩

abbrev nD : Nat := 1
abbrev τ : Topo := Topo.v7x

variable {F : FTy → Type} [FloatOps F]
-- ==== CtxKeys.lean ====
abbrev S256x128 : Shape := ⟨2, ![256, 128]⟩
abbrev S64 : Shape := ⟨1, ![64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S1x1x1x64 : Shape := ⟨4, ![1, 1, 1, 64]⟩
abbrev S1x1x2x64 : Shape := ⟨4, ![1, 1, 2, 64]⟩

abbrev nBuf : Space → Nat
  | .hbm => 32
  | .vmem => 4
  | .smem => 0
  | _ => 0

abbrev bufTy : (tb : Table) → Fin (tcTables nBuf tb) → BufTy
  | .hbm, ⟨0, _⟩ => ⟨S256x128, .f32⟩
  | .hbm, ⟨1, _⟩ => ⟨S64, .f32⟩
  | .hbm, ⟨2, _⟩ => ⟨S128, .i32⟩
  | .hbm, ⟨3, _⟩ => ⟨S_, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S128x1, .i32⟩
  | .hbm, ⟨22, _⟩ => ⟨S1x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S128x128, .bf16⟩
  | .hbm, ⟨27, _⟩ => ⟨S1x64, .f32⟩
  | .hbm, ⟨28, _⟩ => ⟨S1x1x1x64, .f32⟩
  | .hbm, ⟨29, _⟩ => ⟨S1x1x2x64, .f32⟩
  | .hbm, ⟨30, _⟩ => ⟨S1x128, .f32⟩
  | .hbm, ⟨31, _⟩ => ⟨S256x128, .bf16⟩
  | .local _ .vmem, ⟨0, _⟩ => ⟨S256x128, .f32⟩
  | .local _ .vmem, ⟨1, _⟩ => ⟨S1x128, .f32⟩
  | .local _ .vmem, ⟨2, _⟩ => ⟨S128x128, .bf16⟩
  | .local _ .vmem, ⟨3, _⟩ => ⟨S256x128, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== RefCtxKeysIdeal.lean ====
abbrev S256x128 : Shape := ⟨2, ![256, 128]⟩
abbrev S64 : Shape := ⟨1, ![64]⟩
abbrev S256x2x64 : Shape := ⟨3, ![256, 2, 64]⟩
abbrev S_ : Shape := ⟨0, ![]⟩
abbrev S256x2 : Shape := ⟨2, ![256, 2]⟩
abbrev S256x2x1 : Shape := ⟨3, ![256, 2, 1]⟩
abbrev S1x1x64 : Shape := ⟨3, ![1, 1, 64]⟩

abbrev nBuf : Space → Nat
  | .hbm => 21
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S64, .f32⟩
  | .hbm, ⟨2, _⟩ => ⟨S256x2x64, .f32⟩
  | .hbm, ⟨3, _⟩ => ⟨S256x2x64, .f32⟩
  | .hbm, ⟨4, _⟩ => ⟨S_, .f32⟩
  | .hbm, ⟨5, _⟩ => ⟨S256x2, .f32⟩
  | .hbm, ⟨6, _⟩ => ⟨S256x2x1, .f32⟩
  | .hbm, ⟨7, _⟩ => ⟨S_, .f32⟩
  | .hbm, ⟨8, _⟩ => ⟨S256x2x1, .f32⟩
  | .hbm, ⟨9, _⟩ => ⟨S256x2x1, .f32⟩
  | .hbm, ⟨10, _⟩ => ⟨S_, .f32⟩
  | .hbm, ⟨11, _⟩ => ⟨S256x2x1, .f32⟩
  | .hbm, ⟨12, _⟩ => ⟨S256x2x1, .f32⟩
  | .hbm, ⟨13, _⟩ => ⟨S256x2x1, .f32⟩
  | .hbm, ⟨14, _⟩ => ⟨S256x2x64, .f32⟩
  | .hbm, ⟨15, _⟩ => ⟨S256x2x64, .f32⟩
  | .hbm, ⟨16, _⟩ => ⟨S1x1x64, .f32⟩
  | .hbm, ⟨17, _⟩ => ⟨S256x2x64, .f32⟩
  | .hbm, ⟨18, _⟩ => ⟨S256x2x64, .f32⟩
  | .hbm, ⟨19, _⟩ => ⟨S256x128, .f32⟩
  | .hbm, ⟨20, _⟩ => ⟨S256x128, .bf16⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Mod.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefModIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Queries.lean ====
abbrev S16384x512 : Shape := ⟨2, ![16384, 512]⟩
abbrev S64 : Shape := ⟨1, ![64]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x16x2 : Shape := ⟨3, ![16384, 16, 2]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x64 : Shape := ⟨2, ![1, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1x1x64 : Shape := ⟨4, ![1, 1, 1, 64]⟩
abbrev S1x1x8x64 : Shape := ⟨4, ![1, 1, 8, 64]⟩
abbrev S512x16384 : Shape := ⟨2, ![512, 16384]⟩
abbrev S512x128 : Shape := ⟨2, ![512, 128]⟩

abbrev nBuf : Space → Nat
  | .hbm => 147
  | .vmem => 10
  | .smem => 0
  | _ => 0

abbrev hbmTy0_0 (i : Nat) : BufTy := match i % 128 with
  | 0 => ⟨S16384x512, .f32⟩
  | 1 => ⟨S64, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16384, .i32⟩
  | 17 => ⟨S_, .i32⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S16384, .i32⟩
  | 26 => ⟨S16384, .i32⟩
  | 27 => ⟨S_, .i32⟩
  | 28 => ⟨S16384, .i32⟩
  | 29 => ⟨S16384, .i1⟩
  | 30 => ⟨S16384, .i1⟩
  | 31 => ⟨S_, .i32⟩
  | 32 => ⟨S16384, .i32⟩
  | 33 => ⟨S16384, .i32⟩
  | 34 => ⟨S16384, .i32⟩
  | 35 => ⟨S16384, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S16384, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i1⟩
  | 50 => ⟨S_, .i32⟩
  | 51 => ⟨S_, .i1⟩
  | 52 => ⟨S16384, .i1⟩
  | 53 => ⟨S16384, .i1⟩
  | 54 => ⟨S16384, .i1⟩
  | 55 => ⟨S16384, .i32⟩
  | 56 => ⟨S16384, .i32⟩
  | 57 => ⟨S16384, .i32⟩
  | 58 => ⟨S16384, .f32⟩
  | 59 => ⟨S16384x1, .f32⟩
  | 60 => ⟨S1x16, .f32⟩
  | 61 => ⟨S16384x16, .f32⟩
  | 62 => ⟨S16384x16, .f32⟩
  | 63 => ⟨S16384x16, .f32⟩
  | 64 => ⟨S16384x16x2, .f32⟩
  | 65 => ⟨S16384x32, .f32⟩
  | 66 => ⟨S16384x1, .f32⟩
  | 67 => ⟨S1x16, .f32⟩
  | 68 => ⟨S16384x16, .f32⟩
  | 69 => ⟨S16384x16, .f32⟩
  | 70 => ⟨S16384x16, .f32⟩
  | 71 => ⟨S16384x16x2, .f32⟩
  | 72 => ⟨S16384x32, .f32⟩
  | 73 => ⟨S16384x64, .f32⟩
  | 74 => ⟨S64, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S64, .i32⟩
  | 82 => ⟨S64, .i32⟩
  | 83 => ⟨S_, .i32⟩
  | 84 => ⟨S64, .i32⟩
  | 85 => ⟨S64, .i1⟩
  | 86 => ⟨S_, .i32⟩
  | 87 => ⟨S64, .i32⟩
  | 88 => ⟨S64, .i1⟩
  | 89 => ⟨S_, .i32⟩
  | 90 => ⟨S_, .i1⟩
  | 91 => ⟨S64, .i1⟩
  | 92 => ⟨S64, .i1⟩
  | 93 => ⟨S64, .i1⟩
  | 94 => ⟨S64, .i32⟩
  | 95 => ⟨S64, .i32⟩
  | 96 => ⟨S64, .i32⟩
  | 97 => ⟨S_, .i32⟩
  | 98 => ⟨S64, .i32⟩
  | 99 => ⟨S64, .i1⟩
  | 100 => ⟨S_, .f32⟩
  | 101 => ⟨S_, .f32⟩
  | 102 => ⟨S64, .f32⟩
  | 103 => ⟨S64, .f32⟩
  | 104 => ⟨S64, .f32⟩
  | 105 => ⟨S64, .f32⟩
  | 106 => ⟨S16384x64, .f32⟩
  | 107 => ⟨S1x16384x1x64, .f32⟩
  | 108 => ⟨S1x16384x2x64, .f32⟩
  | 109 => ⟨S16384x128, .f32⟩
  | 110 => ⟨S16384x64, .f32⟩
  | 111 => ⟨S1x64, .f32⟩
  | 112 => ⟨S16384x64, .f32⟩
  | 113 => ⟨S16384x64, .f32⟩
  | 114 => ⟨S1x16384x1x64, .f32⟩
  | 115 => ⟨S1x16384x2x64, .f32⟩
  | 116 => ⟨S16384x128, .f32⟩
  | 117 => ⟨S512, .i32⟩
  | 118 => ⟨S_, .i32⟩
  | 119 => ⟨S_, .i32⟩
  | 120 => ⟨S512, .i32⟩
  | 121 => ⟨S512, .i32⟩
  | 122 => ⟨S512, .i32⟩
  | 123 => ⟨S_, .i32⟩
  | 124 => ⟨S512, .i32⟩
  | 125 => ⟨S512, .i1⟩
  | 126 => ⟨S512, .i32⟩
  | 127 => ⟨S512, .i32⟩
  | _ => ⟨S16384x512, .f32⟩

abbrev hbmTy0_1 (i : Nat) : BufTy := match i % 128 with
  | 0 => ⟨S_, .i32⟩
  | 1 => ⟨S512, .i32⟩
  | 2 => ⟨S512, .i1⟩
  | 3 => ⟨S512, .i1⟩
  | 4 => ⟨S_, .i32⟩
  | 5 => ⟨S512, .i32⟩
  | 6 => ⟨S512, .i32⟩
  | 7 => ⟨S512, .i32⟩
  | 8 => ⟨S512x1, .i32⟩
  | 9 => ⟨S1x512, .i32⟩
  | 10 => ⟨S512x512, .i32⟩
  | 11 => ⟨S512x512, .i32⟩
  | 12 => ⟨S512x512, .i1⟩
  | 13 => ⟨S512x512, .bf16⟩
  | 14 => ⟨S1x64, .f32⟩
  | 15 => ⟨S1x1x1x64, .f32⟩
  | 16 => ⟨S1x1x8x64, .f32⟩
  | 17 => ⟨S1x512, .f32⟩
  | 18 => ⟨S512x16384, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_4 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_c_1 : Ref sig .tc := ⟨.hbm, 83, rfl⟩
abbrev main_call2_v5 : Ref sig .tc := ⟨.hbm, 84, rfl⟩
abbrev main_call2_v6 : Ref sig .tc := ⟨.hbm, 85, rfl⟩
abbrev main_call2_c_2 : Ref sig .tc := ⟨.hbm, 86, rfl⟩
abbrev main_call2_v7 : Ref sig .tc := ⟨.hbm, 87, rfl⟩
abbrev main_call2_v8 : Ref sig .tc := ⟨.hbm, 88, rfl⟩
abbrev main_call2_c_3 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_v31 : Ref sig .tc := ⟨.hbm, 96, rfl⟩
abbrev main_c_5 : Ref sig .tc := ⟨.hbm, 97, rfl⟩
abbrev main_v32 : Ref sig .tc := ⟨.hbm, 98, rfl⟩
abbrev main_v33 : Ref sig .tc := ⟨.hbm, 99, rfl⟩
abbrev main_cst_6 : Ref sig .tc := ⟨.hbm, 100, rfl⟩
abbrev main_cst_7 : Ref sig .tc := ⟨.hbm, 101, rfl⟩
abbrev main_call3_v0 : Ref sig .tc := ⟨.hbm, 102, rfl⟩
abbrev main_call3_v1 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_c_8 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_c : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_0 : Ref sig .tc := ⟨.hbm, 132, rfl⟩
abbrev main_call4_v12 : Ref sig .tc := ⟨.hbm, 133, rfl⟩
abbrev main_call4_v13 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QueriesIdeal.lean ====
variable {F : FTy → Type} [FloatOps F] [Named F]
def κ : String → Option EReal := fun
  | "scale" => some (((8 * (Real.log 2))⁻¹ : ℝ) : EReal)
  | _ => none
-- ==== RefQueriesIdeal.lean ====
abbrev S16384x512 : Shape := ⟨2, ![16384, 512]⟩
abbrev S64 : Shape := ⟨1, ![64]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S1x1x64 : Shape := ⟨3, ![1, 1, 64]⟩
abbrev S16384 : Shape := ⟨1, ![16384]⟩
abbrev S16 : Shape := ⟨1, ![16]⟩
abbrev S16384x8x32 : Shape := ⟨3, ![16384, 8, 32]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x8x16 : Shape := ⟨3, ![16384, 8, 16]⟩
abbrev S16384x8x16x1 : Shape := ⟨4, ![16384, 8, 16, 1]⟩
abbrev S16384x8x16x2 : Shape := ⟨4, ![16384, 8, 16, 2]⟩
abbrev S512x16384 : Shape := ⟨2, ![512, 16384]⟩

abbrev nBuf : Space → Nat
  | .hbm => 138
  | .vmem => 0
  | .smem => 0
  | _ => 0

abbrev hbmTy0_0 (i : Nat) : BufTy := match i % 128 with
  | 0 => ⟨S16384x512, .f32⟩
  | 1 => ⟨S64, .f32⟩
  | 2 => ⟨S16384x8x64, .f32⟩
  | 3 => ⟨S16384x8x64, .f32⟩
  | 4 => ⟨S_, .f32⟩
  | 5 => ⟨S16384x8, .f32⟩
  | 6 => ⟨S16384x8x1, .f32⟩
  | 7 => ⟨S_, .f32⟩
  | 8 => ⟨S16384x8x1, .f32⟩
  | 9 => ⟨S16384x8x1, .f32⟩
  | 10 => ⟨S_, .f32⟩
  | 11 => ⟨S16384x8x1, .f32⟩
  | 12 => ⟨S16384x8x1, .f32⟩
  | 13 => ⟨S16384x8x1, .f32⟩
  | 14 => ⟨S16384x8x64, .f32⟩
  | 15 => ⟨S16384x8x64, .f32⟩
  | 16 => ⟨S1x1x64, .f32⟩
  | 17 => ⟨S16384x8x64, .f32⟩
  | 18 => ⟨S16384x8x64, .f32⟩
  | 19 => ⟨S16384, .i32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S16384x8x32, .f32⟩
  | 35 => ⟨S_, .i32⟩
  | 36 => ⟨S_, .i32⟩
  | 37 => ⟨S16384, .i32⟩
  | 38 => ⟨S16384, .i32⟩
  | 39 => ⟨S16384, .i32⟩
  | 40 => ⟨S_, .i32⟩
  | 41 => ⟨S16384, .i32⟩
  | 42 => ⟨S16384, .i1⟩
  | 43 => ⟨S16384, .i32⟩
  | 44 => ⟨S16384, .i32⟩
  | 45 => ⟨S_, .i32⟩
  | 46 => ⟨S16384, .i32⟩
  | 47 => ⟨S16384, .i1⟩
  | 48 => ⟨S16384, .i1⟩
  | 49 => ⟨S_, .i32⟩
  | 50 => ⟨S16384, .i32⟩
  | 51 => ⟨S16384, .i32⟩
  | 52 => ⟨S16384, .i32⟩
  | 53 => ⟨S16384, .f32⟩
  | 54 => ⟨S16384x1, .f32⟩
  | 55 => ⟨S1x16, .f32⟩
  | 56 => ⟨S16384x16, .f32⟩
  | 57 => ⟨S16384x16, .f32⟩
  | 58 => ⟨S16384x16, .f32⟩
  | 59 => ⟨S16384x16, .f32⟩
  | 60 => ⟨S16384x1x16, .f32⟩
  | 61 => ⟨S16384x16, .f32⟩
  | 62 => ⟨S16384x1x16, .f32⟩
  | 63 => ⟨S16384x8x16, .f32⟩
  | 64 => ⟨S16384x8x16, .f32⟩
  | 65 => ⟨S16384x8x16, .f32⟩
  | 66 => ⟨S16384x8x16, .f32⟩
  | 67 => ⟨S16384x8x16, .f32⟩
  | 68 => ⟨S16384x8x16, .f32⟩
  | 69 => ⟨S16384x8x16, .f32⟩
  | 70 => ⟨S16384x8x16, .f32⟩
  | 71 => ⟨S16384x8x16, .f32⟩
  | 72 => ⟨S16384x8x16, .f32⟩
  | 73 => ⟨S16384x8x16, .f32⟩
  | 74 => ⟨S16384x8x16, .f32⟩
  | 75 => ⟨S16384x8x16x1, .f32⟩
  | 76 => ⟨S16384x8x16x1, .f32⟩
  | 77 => ⟨S16384x8x16x2, .f32⟩
  | 78 => ⟨S16384x8x32, .f32⟩
  | 79 => ⟨S16384x8x32, .f32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S16384, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i1⟩
  | 94 => ⟨S_, .i32⟩
  | 95 => ⟨S_, .i1⟩
  | 96 => ⟨S16384, .i1⟩
  | 97 => ⟨S16384, .i1⟩
  | 98 => ⟨S16384, .i1⟩
  | 99 => ⟨S16384, .i32⟩
  | 100 => ⟨S16384, .i32⟩
  | 101 => ⟨S16384, .i32⟩
  | 102 => ⟨S16384, .f32⟩
  | 103 => ⟨S16384x1, .f32⟩
  | 104 => ⟨S1x16, .f32⟩
  | 105 => ⟨S16384x16, .f32⟩
  | 106 => ⟨S16384x16, .f32⟩
  | 107 => ⟨S16384x16, .f32⟩
  | 108 => ⟨S16384x16, .f32⟩
  | 109 => ⟨S16384x1x16, .f32⟩
  | 110 => ⟨S16384x16, .f32⟩
  | 111 => ⟨S16384x1x16, .f32⟩
  | 112 => ⟨S16384x8x16, .f32⟩
  | 113 => ⟨S16384x8x16, .f32⟩
  | 114 => ⟨S16384x8x16, .f32⟩
  | 115 => ⟨S16384x8x16, .f32⟩
  | 116 => ⟨S16384x8x16, .f32⟩
  | 117 => ⟨S16384x8x16, .f32⟩
  | 118 => ⟨S16384x8x16, .f32⟩
  | 119 => ⟨S16384x8x16, .f32⟩
  | 120 => ⟨S16384x8x16, .f32⟩
  | 121 => ⟨S16384x8x16, .f32⟩
  | 122 => ⟨S16384x8x16, .f32⟩
  | 123 => ⟨S16384x8x16, .f32⟩
  | 124 => ⟨S16384x8x16x1, .f32⟩
  | 125 => ⟨S16384x8x16x1, .f32⟩
  | 126 => ⟨S16384x8x16x2, .f32⟩
  | 127 => ⟨S16384x8x32, .f32⟩
  | _ => ⟨S16384x512, .f32⟩

abbrev hbmTy0_1 (i : Nat) : BufTy := match i % 128 with
  | 0 => ⟨S16384x8x64, .f32⟩
  | 1 => ⟨S16384x512, .f32⟩
  | 2 => ⟨S_, .f32⟩
  | 3 => ⟨S_, .f32⟩
  | 4 => ⟨S_, .f32⟩
  | 5 => ⟨S_, .f32⟩
  | 6 => ⟨S16384x512, .f32⟩
  | 7 => ⟨S16384x512, .f32⟩
  | 8 => ⟨S512x16384, .f32⟩
  | 9 => ⟨S512x16384, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_6 : Ref sig .tc := ⟨.hbm, 80, rfl⟩
abbrev main_call1_v0 : Ref sig .tc := ⟨.hbm, 81, rfl⟩
abbrev main_call1_c : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_c_1 : Ref sig .tc := ⟨.hbm, 88, rfl⟩
abbrev main_call1_v5 : Ref sig .tc := ⟨.hbm, 89, rfl⟩
abbrev main_call1_v6 : Ref sig .tc := ⟨.hbm, 90, rfl⟩
abbrev main_call1_c_2 : Ref sig .tc := ⟨.hbm, 91, rfl⟩
abbrev main_call1_v7 : Ref sig .tc := ⟨.hbm, 92, rfl⟩
abbrev main_call1_v8 : Ref sig .tc := ⟨.hbm, 93, rfl⟩
abbrev main_call1_c_3 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_7 : Ref sig .tc := ⟨.hbm, 130, rfl⟩
abbrev main_v83 : Ref sig .tc := ⟨.hbm, 131, rfl⟩
abbrev main_cst_8 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩

abbrev nD : Nat := 1
abbrev τ : Topo := Topo.v7x

variable {F : FTy → Type} [FloatOps F]
-- ==== Proof.Attn.Run.lean ====
/- What one grid point of the attention kernel does to its memrefs: a value found by running the body once. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof: the frame kit's. -/
local notation "𝕄" => MT nD τ sig Unit (Elt F) ℕ (UR sig nD τ) ℕ

abbrev 𝒱₀ : Variants := Variants.none

set_option maxRecDepth 8192 in
set_option maxHeartbeats 4000000 in
/-- The block the body leaves in the result's staging memref, with the proof that it does: the three inputs keep their
    blocks, and the five scratch memrefs go from the contents `x6 … x10` to some contents. -/
noncomputable def kernelRun (c : Dev nD) (i : grid0.Coords)
    (M2 : Memref sig .tc .vmem S256x256 .bf16) (h2 : M2.IsWhole) (M3 : Memref sig .tc .vmem S1x16640x64 .bf16) (h3 : M3.IsWhole)
    (M4 : Memref sig .tc .vmem S1x64x16640 .bf16) (h4 : M4.IsWhole) (M5 : Memref sig .tc .vmem S256x256 .bf16) (h5 : M5.IsWhole)
    (M6 : Memref sig .tc .vmem S64x1024 .bf16) (h6 : M6.IsWhole) (M7 : Memref sig .tc .vmem S2x1280x1024 .f32) (h7 : M7.IsWhole)
    (M8 : Memref sig .tc .vmem S1x1024 .f32) (h8 : M8.IsWhole) (M9 : Memref sig .tc .vmem S1x1024 .f32) (h9 : M9.IsWhole)
    (M10 : Memref sig .tc .vmem S64x1024 .f32) (h10 : M10.IsWhole)
    (x2 : Vec F S256x256 .bf16) (x3 : Vec F S1x16640x64 .bf16) (x4 : Vec F S1x64x16640 .bf16) (x5 : Vec F S256x256 .bf16)
    (x6 : Vec F S64x1024 .bf16) (x7 : Vec F S2x1280x1024 .f32) (x8 : Vec F S1x1024 .f32) (x9 : Vec F S1x1024 .f32) (x10 : Vec F S64x1024 .f32) :
    { Y : M5.view.ty.Contents (Elt F) //
      ∀ (E : Set ℕ) (K : PUnit → sProp 𝕄),
        iprop(owns (c : Thread nD τ) M2 fullShare x2 ∗ owns (c : Thread nD τ) M3 fullShare x3 ∗ owns (c : Thread nD τ) M4 fullShare x4
            ∗ owns (c : Thread nD τ) M5 fullShare x5 ∗ owns (c : Thread nD τ) M6 fullShare x6 ∗ owns (c : Thread nD τ) M7 fullShare x7
            ∗ owns (c : Thread nD τ) M8 fullShare x8 ∗ owns (c : Thread nD τ) M9 fullShare x9 ∗ owns (c : Thread nD τ) M10 fullShare x10
            ∗ (iprop(owns (c : Thread nD τ) M2 fullShare x2 ∗ owns (c : Thread nD τ) M3 fullShare x3 ∗ owns (c : Thread nD τ) M4 fullShare x4
                ∗ owns (c : Thread nD τ) M5 fullShare (M5.view.read (Elt F) Y) ∗ (∃ d, owns (c : Thread nD τ) M6 fullShare d)
                ∗ (∃ d, owns (c : Thread nD τ) M7 fullShare d) ∗ (∃ d, owns (c : Thread nD τ) M8 fullShare d)
                ∗ (∃ d, owns (c : Thread nD τ) M9 fullShare d) ∗ (∃ d, owns (c : Thread nD τ) M10 fullShare d)) -∗ K ⟨⟩))
          ⊢ wp frame (wpE (defs₀ (F := F)) 𝒱₀ c none) E
              (cc0_gqa_attention i M2 h2 M3 h3 M4 h4 M5 h5 M6 h6 M7 h7 M8 h8 M9 h9 M10 h10) K } := by
  refine ⟨?_, fun E K => ?run⟩
  case run =>
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
      ⟨%f9, %e9, H9⟩, ⟨%f10, %e10, H10⟩, Hk⟩
    obtain rfl := h2.eq_unread e2; obtain rfl := h3.eq_unread e3; obtain rfl := h4.eq_unread e4; obtain rfl := h5.eq_unread e5
    obtain rfl := h6.eq_unread e6; obtain rfl := h7.eq_unread e7; obtain rfl := h8.eq_unread e8; obtain rfl := h9.eq_unread e9
    obtain rfl := h10.eq_unread e10
    sl_unfold [cc0_gqa_attention]
    sl_exec!
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; swap; · iexact H5
      ipureintro; rfl
    isplitl [H6]
    · iexists _; iexists _; isplitr; swap; · iexact H6
      ipureintro; rfl
    isplitl [H7]
    · iexists _; iexists _; isplitr; swap; · iexact H7
      ipureintro; rfl
    isplitl [H8]
    · iexists _; iexists _; isplitr; swap; · iexact H8
      ipureintro; rfl
    isplitl [H9]
    · iexists _; iexists _; isplitr; swap; · iexact H9
      ipureintro; rfl
    iexists _; iexists _; isplitr; swap; · iexact H10
    ipureintro; rfl

end Cert.Proof.Attn

end
-- ==== Proof.Attn.Trip.lean ====
/- The state the attention kernel carries from chunk to chunk, and what one trip of its loop does to it. -/
module

public import proofs.«01_k».proof.Proof.Attn.Run
public import Idealize.ShloMosaic.Lib.ValueIdx
public import Idealize.ShloMosaic.Lib.VecWindow
public import Idealize.ShloMosaic.Lib.WritesUnit

@[expose] public section

noncomputable section

namespace Cert.Proof.Attn

open Cert.KernelIdeal Cert.KernelIdeal.Gen
open Idealize.ShloMosaic Idealize.ShloMosaic.TcCoe Idealize.SL.Sem Idealize.ShloMosaic.ValueIdx

variable {F : FTy → Type} [FloatOps F]

/-- A load through the rectangle stored last reads what was stored. -/
theorem readAt_writes_last {Val : EltTy → Type} {κ : Kind} {sp : Space} {s : Shape} {e : EltTy} (v : View sig κ sp s e)
    (f : v.ty.Contents Val) (r : Rect s) (w : r.shape.Idx → Val e) (L : List (View.Piece Val s e)) :
    v.readAt Val r.toLoadRect (v.writes Val f (⟨r, w⟩ :: L)) = w := by
  funext j
  exact View.read_writes_cons_emb v f r w L j

/-- The running maximum, the running sum and the running weighted sum of values, one column per query row. -/
abbrev MLA (F : FTy → Type) := Vec F S1x1024 .f32 × Vec F S1x1024 .f32 × Vec F S64x1024 .f32

/-- One chunk of scores `s` and values `v` taken into the running state. -/
def absorb (s : Vec F S1x1280x1024 .f32) (v : Vec F S1x64x1280 .bf16) (st : MLA F) : MLA F :=
  (k0_pay9 (k0_pay4 s st.1), k0_pay7 s st.1 st.2.1, k0_pay8 (k0_pay5 s st.1) (k0_pay6 s st.1) st.2.2 v)

/-- The same update, in the two other spellings the program has of it. -/
theorem absorb_eq_second (s : Vec F S1x1280x1024 .f32) (v : Vec F S1x64x1280 .bf16) (st : MLA F) :
    absorb s v st = (k0_pay26 (k0_pay11 s) st.1, k0_pay24 (k0_pay11 s) st.1 st.2.1, k0_pay25 (k0_pay11 s) st.1 st.2.2 v) := rfl

theorem absorb_eq_tail (s : Vec F S1x1280x1024 .f32) (v : Vec F S1x64x1280 .bf16) (st : MLA F) :
    absorb s v st = (k0_pay35 (k0_pay28 s st.1), k0_pay33 (k0_pay31 s st.1 st.2.1) (k0_pay32 s st.1),
      k0_pay34 (k0_pay29 s st.1) (k0_pay30 s st.1) st.2.2 v) := rfl

/-- The scores the loop finds waiting, with the running state. -/
abbrev St (F : FTy → Type) := Vec F S1x1280x1024 .f32 × MLA F

/-- One trip: the waiting scores are taken in with their values, then the scores of the next chunk; the scores of the
    chunk after that wait. -/
def tripStep (k₁ k₂ : Vec F S1x1280x64 .bf16) (v₀ v₁ : Vec F S1x64x1280 .bf16) (q : Vec F S64x1024 .bf16) (st : St F) : St F :=
  (k0_pay10 k₂ q, absorb (k0_pay2 k₁ q) v₁ (absorb st.1 v₀ st.2))

section
variable (M7 : Memref sig .tc .vmem S2x1280x1024 .f32) (M8 : Memref sig .tc .vmem S1x1024 .f32)
  (M9 : Memref sig .tc .vmem S1x1024 .f32) (M10 : Memref sig .tc .vmem S64x1024 .f32)
  (f7 : BufTy.Contents (Elt F) M7.view.ty) (f8 : BufTy.Contents (Elt F) M8.view.ty)
  (f9 : BufTy.Contents (Elt F) M9.view.ty) (f10 : BufTy.Contents (Elt F) M10.view.ty)

/-- The state the scratch memrefs hold: the first half of the score buffer, and the three running ones. -/
def stOf : St F :=
  (View.readAt (Elt F) M7.view (Rect.unit (s := S2x1280x1024) ![0, 0, 0] S1x1280x1024.size inb_S2x1280x1024_S1x1280x1024_0_0_0).toLoadRect f7,
   View.readAt (Elt F) M8.view (Rect.unit ![0, 0] S1x1024.size inb_S1x1024_S1x1024_0_0).toLoadRect f8,
   View.readAt (Elt F) M9.view (Rect.unit ![0, 0] S1x1024.size inb_S1x1024_S1x1024_0_0).toLoadRect f9,
   View.readAt (Elt F) M10.view (Rect.unit ![0, 0] S64x1024.size inb_S64x1024_S64x1024_0_0).toLoadRect f10)

end

/-- A load of the second half of the score buffer does not see a store into the first half. -/
theorem readCov_second_half (v : View sig .tc .vmem S2x1280x1024 .f32)
    (w : (Rect.unit (s := S2x1280x1024) ![0, 0, 0] ![1, 1280, 1024] inb_S2x1280x1024_S1x1280x1024_0_0_0).shape.Idx → Elt F .f32)
    (L : List (View.Piece (Elt F) S2x1280x1024 .f32)) :
    v.readCov (⟨Rect.unit (s := S2x1280x1024) ![0, 0, 0] ![1, 1280, 1024] inb_S2x1280x1024_S1x1280x1024_0_0_0, w⟩ :: L)
        (Rect.unit (s := S2x1280x1024) ![1, 0, 0] ![1, 1280, 1024] inb_S2x1280x1024_S1x1280x1024_1_0_0).toLoadRect
      = v.readCov L (Rect.unit (s := S2x1280x1024) ![1, 0, 0] ![1, 1280, 1024] inb_S2x1280x1024_S1x1280x1024_1_0_0).toLoadRect := by
  apply View.readCov_cons_of_disjoint
  rw [Finset.disjoint_left]
  intro y hy hy'
  have h0 := (((Rect.mem_set_unit (inb := inb_S2x1280x1024_S1x1280x1024_0_0_0)).mp hy) 0).2
  have h1 := (((Rect.mem_set_unit (inb := inb_S2x1280x1024_S1x1280x1024_1_0_0)).mp hy') 0).1
  simp at h0 h1
  omega

set_option maxRecDepth 8192 in
theorem stOf_trip (c : Dev nD) (bd : Option 𝒱₀.V) (i : grid0.Coords)
    (M2 : Memref sig .tc .vmem S256x256 .bf16) (h2 : M2.IsWhole) (M3 : Memref sig .tc .vmem S1x16640x64 .bf16) (h3 : M3.IsWhole)
    (M4 : Memref sig .tc .vmem S1x64x16640 .bf16) (h4 : M4.IsWhole) (M5 : Memref sig .tc .vmem S256x256 .bf16) (h5 : M5.IsWhole)
    (M6 : Memref sig .tc .vmem S64x1024 .bf16) (h6 : M6.IsWhole) (M7 : Memref sig .tc .vmem S2x1280x1024 .f32) (h7 : M7.IsWhole)
    (M8 : Memref sig .tc .vmem S1x1024 .f32) (h8 : M8.IsWhole) (M9 : Memref sig .tc .vmem S1x1024 .f32) (h9 : M9.IsWhole)
    (M10 : Memref sig .tc .vmem S64x1024 .f32) (h10 : M10.IsWhole) (v28 : FVec F S64x1024 .f32)
    (X3 : BufTy.Contents (Elt F) M3.view.ty) (X4 : BufTy.Contents (Elt F) M4.view.ty) (X6 : BufTy.Contents (Elt F) M6.view.ty)
    (k : Fin k0_t1_loop.trips)
    (f7 : BufTy.Contents (Elt F) M7.view.ty) (f8 : BufTy.Contents (Elt F) M8.view.ty)
    (f9 : BufTy.Contents (Elt F) M9.view.ty) (f10 : BufTy.Contents (Elt F) M10.view.ty) :
    stOf M7 M8 M9 M10
      (M7.view.writes (Elt F) f7 (tripL_k0_t1 𝒱₀ c bd i M2 h2 M3 h3 M4 h4 M5 h5 M6 h6 M7 h7 M8 h8 M9 h9 M10 h10 v28 X3 X4 X6 k f7 f8 f9 f10).1)
      (M8.view.writes (Elt F) f8 (tripL_k0_t1 𝒱₀ c bd i M2 h2 M3 h3 M4 h4 M5 h5 M6 h6 M7 h7 M8 h8 M9 h9 M10 h10 v28 X3 X4 X6 k f7 f8 f9 f10).2.1)
      (M9.view.writes (Elt F) f9 (tripL_k0_t1 𝒱₀ c bd i M2 h2 M3 h3 M4 h4 M5 h5 M6 h6 M7 h7 M8 h8 M9 h9 M10 h10 v28 X3 X4 X6 k f7 f8 f9 f10).2.2.1)
      (M10.view.writes (Elt F) f10 (tripL_k0_t1 𝒱₀ c bd i M2 h2 M3 h3 M4 h4 M5 h5 M6 h6 M7 h7 M8 h8 M9 h9 M10 h10 v28 X3 X4 X6 k f7 f8 f9 f10).2.2.2)
    = tripStep
        (View.readAt (Elt F) M3.view (Rect.unit (s := S1x16640x64) (k0_off2 k 1#32) S1x1280x64.size (k0_off2_inb k 0)).toLoadRect X3)
        (View.readAt (Elt F) M3.view (Rect.unit (s := S1x16640x64) (k0_off2 k 2#32) S1x1280x64.size (k0_off2_inb k 1)).toLoadRect X3)
        (View.readAt (Elt F) M4.view (Rect.unit (s := S1x64x16640) (k0_off3 k) S1x64x1280.size (k0_off3_inb k)).toLoadRect X4)
        (View.readAt (Elt F) M4.view (Rect.unit (s := S1x64x16640) (k0_off4 k) S1x64x1280.size (k0_off4_inb k)).toLoadRect X4)
        (View.readAt (Elt F) M6.view (Rect.unit ![0, 0] S64x1024.size inb_S64x1024_S64x1024_0_0).toLoadRect X6)
        (stOf M7 M8 M9 M10 f7 f8 f9 f10) := by
  unfold tripL_k0_t1 trip_k0_t1
  dsimp only
  unfold tripStep
  rw [absorb_eq_second]
  unfold stOf absorb
  dsimp only [trip_k0_t1.sl.HW_arg7_2, trip_k0_t1.sl.r_4, trip_k0_t1.sl.v165, trip_k0_t1.sl.HW_arg8_1, trip_k0_t1.sl.v174,
    trip_k0_t1.sl.HW_arg9_1, trip_k0_t1.sl.v182, trip_k0_t1.sl.HW_arg10_1, trip_k0_t1.sl.r, trip_k0_t1.sl.r_1, trip_k0_t1.sl.r_2, trip_k0_t1.sl.r_3,
    trip_k0_t1.sl.v161, trip_k0_t1.sl.v112]
  simp only [readAt_writes_last, View.readCov_cons_toLoadRect, readCov_second_half]

/-! ## The chunks, by their number -/

/-- Row `j` of chunk `n` of the keys. -/
abbrev key (n : ℕ) (j : Fin 1280) : Fin 16640 := ⟨(1280 * n + j.val) % 16640, Nat.mod_lt _ (by norm_num)⟩

def kChunk (x : Vec F S1x16640x64 .bf16) (n : ℕ) : Vec F S1x1280x64 .bf16 := fun j => x (ix3 0 (key n (j 1)) (j 2))
def vChunk (x : Vec F S1x64x16640 .bf16) (n : ℕ) : Vec F S1x64x1280 .bf16 := fun j => x (ix3 0 (j 1) (key n (j 2)))

theorem ld_kChunk (x : Vec F S1x16640x64 .bf16) (n : ℕ) (hn : n < 13) (off : Fin 3 → ℕ) (inb) (h : off = ![0, 1280 * n, 0]) :
    View.ld x (Rect.unit (s := S1x16640x64) off S1x1280x64.size inb) = kChunk x n := by
  subst h
  funext j
  refine congrArg x (funext fun a => Fin.ext ?_)
  have hj : (j 1).val < 1280 := (j 1).isLt
  have h0 : (j 0).val < 1 := (j 0).isLt
  fin_cases a
  · show 0 + 1 * (j 0).val = 0
    omega
  · show 1280 * n + 1 * (j 1).val = (1280 * n + (j 1).val) % 16640
    rw [Nat.mod_eq_of_lt (by omega)]; omega
  · show 0 + 1 * (j 2).val = (j 2).val
    omega

theorem ld_vChunk (x : Vec F S1x64x16640 .bf16) (n : ℕ) (hn : n < 13) (off : Fin 3 → ℕ) (inb) (h : off = ![0, 0, 1280 * n]) :
    View.ld x (Rect.unit (s := S1x64x16640) off S1x64x1280.size inb) = vChunk x n := by
  subst h
  funext j
  refine congrArg x (funext fun a => Fin.ext ?_)
  have hj : (j 2).val < 1280 := (j 2).isLt
  have h0 : (j 0).val < 1 := (j 0).isLt
  fin_cases a
  · show 0 + 1 * (j 0).val = 0
    omega
  · show 0 + 1 * (j 1).val = (j 1).val
    omega
  · show 1280 * n + 1 * (j 2).val = (1280 * n + (j 2).val) % 16640
    rw [Nat.mod_eq_of_lt (by omega)]; omega

theorem vec3_mid {a b : ℕ} (h : a = b) : (![0, a, 0] : Fin 3 → ℕ) = ![0, b, 0] := by rw [h]
theorem vec3_last {a b : ℕ} (h : a = b) : (![0, 0, a] : Fin 3 → ℕ) = ![0, 0, b] := by rw [h]

/-- The scores of chunk `n` against the queries `q`. -/
def score (x : Vec F S1x16640x64 .bf16) (q : Vec F S64x1024 .bf16) (n : ℕ) : Vec F S1x1280x1024 .f32 := k0_pay2 (kChunk x n) q

/-- The running state after `n` chunks. -/
def accN (x3 : Vec F S1x16640x64 .bf16) (x4 : Vec F S1x64x16640 .bf16) (q : Vec F S64x1024 .bf16) : ℕ → MLA F
  | 0 => (k0_pay16, k0_pay17, k0_pay19 k0_pay18)
  | n + 1 => absorb (score x3 q n) (vChunk x4 n) (accN x3 x4 q n)

theorem trips_eq : k0_t1_loop.trips = 6 := by decide +kernel

/-- After `k` trips the scores of chunk `2 k` wait and `2 k` chunks have been taken in. -/
theorem stOf_loop (c : Dev nD) (bd : Option 𝒱₀.V) (i : grid0.Coords)
    (M2 : Memref sig .tc .vmem S256x256 .bf16) (h2 : M2.IsWhole) (M3 : Memref sig .tc .vmem S1x16640x64 .bf16) (h3 : M3.IsWhole)
    (M4 : Memref sig .tc .vmem S1x64x16640 .bf16) (h4 : M4.IsWhole) (M5 : Memref sig .tc .vmem S256x256 .bf16) (h5 : M5.IsWhole)
    (M6 : Memref sig .tc .vmem S64x1024 .bf16) (h6 : M6.IsWhole) (M7 : Memref sig .tc .vmem S2x1280x1024 .f32) (h7 : M7.IsWhole)
    (M8 : Memref sig .tc .vmem S1x1024 .f32) (h8 : M8.IsWhole) (M9 : Memref sig .tc .vmem S1x1024 .f32) (h9 : M9.IsWhole)
    (M10 : Memref sig .tc .vmem S64x1024 .f32) (h10 : M10.IsWhole) (v28 : FVec F S64x1024 .f32)
    (x3 : Vec F S1x16640x64 .bf16) (x4 : Vec F S1x64x16640 .bf16) (X6 : BufTy.Contents (Elt F) M6.view.ty)
    (q : Vec F S64x1024 .bf16)
    (hq : View.readAt (Elt F) M6.view (Rect.unit ![0, 0] S64x1024.size inb_S64x1024_S64x1024_0_0).toLoadRect X6 = q)
    (G7 : BufTy.Contents (Elt F) M7.view.ty) (G8 : BufTy.Contents (Elt F) M8.view.ty)
    (G9 : BufTy.Contents (Elt F) M9.view.ty) (G10 : BufTy.Contents (Elt F) M10.view.ty)
    (h0 : stOf M7 M8 M9 M10 G7 G8 G9 G10 = (score x3 q 0, accN x3 x4 q 0)) :
    ∀ k : ℕ, k ≤ 6 → stOf M7 M8 M9 M10
      (M7.view.writes (Elt F) G7 (pb_k0_t1 𝒱₀ c bd i M2 h2 M3 h3 M4 h4 M5 h5 M6 h6 M7 h7 M8 h8 M9 h9 M10 h10 v28 (h3.unread x3) (h4.unread x4) X6 G7 G8 G9 G10 k).1)
      (M8.view.writes (Elt F) G8 (pb_k0_t1 𝒱₀ c bd i M2 h2 M3 h3 M4 h4 M5 h5 M6 h6 M7 h7 M8 h8 M9 h9 M10 h10 v28 (h3.unread x3) (h4.unread x4) X6 G7 G8 G9 G10 k).2.1)
      (M9.view.writes (Elt F) G9 (pb_k0_t1 𝒱₀ c bd i M2 h2 M3 h3 M4 h4 M5 h5 M6 h6 M7 h7 M8 h8 M9 h9 M10 h10 v28 (h3.unread x3) (h4.unread x4) X6 G7 G8 G9 G10 k).2.2.1)
      (M10.view.writes (Elt F) G10 (pb_k0_t1 𝒱₀ c bd i M2 h2 M3 h3 M4 h4 M5 h5 M6 h6 M7 h7 M8 h8 M9 h9 M10 h10 v28 (h3.unread x3) (h4.unread x4) X6 G7 G8 G9 G10 k).2.2.2)
    = (score x3 q (2 * k), accN x3 x4 q (2 * k)) := by
  intro k
  induction k with
  | zero => intro _; exact h0
  | succ k ih =>
    intro hk
    have hk' : k < k0_t1_loop.trips := by rw [trips_eq]; omega
    have e := pb_k0_t1_succ (F := F) 𝒱₀ c bd i M2 h2 M3 h3 M4 h4 M5 h5 M6 h6 M7 h7 M8 h8 M9 h9 M10 h10 v28 (h3.unread x3) (h4.unread x4) X6 G7 G8 G9 G10 ⟨k, hk'⟩
    have t := stOf_trip (F := F) c bd i M2 h2 M3 h3 M4 h4 M5 h5 M6 h6 M7 h7 M8 h8 M9 h9 M10 h10 v28 (h3.unread x3) (h4.unread x4) X6 ⟨k, hk'⟩
      (M7.view.writes (Elt F) G7 (pb_k0_t1 𝒱₀ c bd i M2 h2 M3 h3 M4 h4 M5 h5 M6 h6 M7 h7 M8 h8 M9 h9 M10 h10 v28 (h3.unread x3) (h4.unread x4) X6 G7 G8 G9 G10 k).1)
      (M8.view.writes (Elt F) G8 (pb_k0_t1 𝒱₀ c bd i M2 h2 M3 h3 M4 h4 M5 h5 M6 h6 M7 h7 M8 h8 M9 h9 M10 h10 v28 (h3.unread x3) (h4.unread x4) X6 G7 G8 G9 G10 k).2.1)
      (M9.view.writes (Elt F) G9 (pb_k0_t1 𝒱₀ c bd i M2 h2 M3 h3 M4 h4 M5 h5 M6 h6 M7 h7 M8 h8 M9 h9 M10 h10 v28 (h3.unread x3) (h4.unread x4) X6 G7 G8 G9 G10 k).2.2.1)
      (M10.view.writes (Elt F) G10 (pb_k0_t1 𝒱₀ c bd i M2 h2 M3 h3 M4 h4 M5 h5 M6 h6 M7 h7 M8 h8 M9 h9 M10 h10 v28 (h3.unread x3) (h4.unread x4) X6 G7 G8 G9 G10 k).2.2.2)
    have e1 : View.readAt (Elt F) M3.view (Rect.unit (s := S1x16640x64) (k0_off2 ⟨k, hk'⟩ 1#32) S1x1280x64.size (k0_off2_inb ⟨k, hk'⟩ 0)).toLoadRect (h3.unread x3)
        = kChunk x3 (2 * k + 1) := by
      rw [View.readAt_eq_ld, h3.read_unread]
      exact ld_kChunk x3 (2 * k + 1) (by omega) _ _ ((k0_off2_eq ⟨k, hk'⟩ 0).trans (vec3_mid (by simp; omega)))
    have e2 : View.readAt (Elt F) M3.view (Rect.unit (s := S1x16640x64) (k0_off2 ⟨k, hk'⟩ 2#32) S1x1280x64.size (k0_off2_inb ⟨k, hk'⟩ 1)).toLoadRect (h3.unread x3)
        = kChunk x3 (2 * k + 2) := by
      rw [View.readAt_eq_ld, h3.read_unread]
      exact ld_kChunk x3 (2 * k + 2) (by omega) _ _ ((k0_off2_eq ⟨k, hk'⟩ 1).trans (vec3_mid (by simp; omega)))
    have e3 : View.readAt (Elt F) M4.view (Rect.unit (s := S1x64x16640) (k0_off3 ⟨k, hk'⟩) S1x64x1280.size (k0_off3_inb ⟨k, hk'⟩)).toLoadRect (h4.unread x4)
        = vChunk x4 (2 * k) := by
      rw [View.readAt_eq_ld, h4.read_unread]
      exact ld_vChunk x4 (2 * k) (by omega) _ _ ((k0_off3_eq ⟨k, hk'⟩).trans (vec3_last (by simp; omega)))
    have e4 : View.readAt (Elt F) M4.view (Rect.unit (s := S1x64x16640) (k0_off4 ⟨k, hk'⟩) S1x64x1280.size (k0_off4_inb ⟨k, hk'⟩)).toLoadRect (h4.unread x4)
        = vChunk x4 (2 * k + 1) := by
      rw [View.readAt_eq_ld, h4.read_unread]
      exact ld_vChunk x4 (2 * k + 1) (by omega) _ _ ((k0_off4_eq ⟨k, hk'⟩).trans (vec3_last (by simp; omega)))
    rw [ih (by omega), hq, e1, e2, e3, e4] at t
    rw [e]
    simp only [View.writes_append]
    exact t

end Cert.Proof.Attn

end
-- ==== Proof.Attn.Block.lean ====
/- The block one grid point writes, as a function of the three blocks it reads. -/
module

public import proofs.«01_k».proof.Proof.Attn.Trip
public import Idealize.ShloMosaic.Lib.ValueLayout
public import Idealize.ShloMosaic.Lib.Pipeline.Value

@[expose] public section

noncomputable section

namespace Cert.Proof.Attn

open Cert.KernelIdeal Cert.KernelIdeal.Gen
open Idealize.ShloMosaic Idealize.ShloMosaic.TcCoe Idealize.SL.Sem Idealize.ShloMosaic.ValueIdx

variable {F : FTy → Type} [FloatOps F]

/-- The queries of a block, the four heads side by side: column `256 r + n` is query row `n` of head `r`. -/
def qOf (x : Vec F S256x256 .bf16) : Vec F S64x1024 .bf16 := fun j =>
  x (ix2 ⟨64 * ((j 1).val / 256) + (j 0).val, by have h0 : (j 0).val < 64 := (j 0).isLt; have h1 : (j 1).val < 1024 := (j 1).isLt; omega⟩
    ⟨(j 1).val % 256, Nat.mod_lt _ (by norm_num)⟩)

/-- The four heads of a result, brought back to rows of 256. -/
def unheads (o : FVec F S64x1024 .f32) : FVec F S256x256 .f32 := fun j =>
  o (ix2 ⟨(j 1).val % 64, Nat.mod_lt _ (by norm_num)⟩
    ⟨256 * ((j 1).val / 64) + (j 0).val, by have h0 : (j 0).val < 256 := (j 0).isLt; have h1 : (j 1).val < 256 := (j 1).isLt; omega⟩)

/-- The block a grid point writes. -/
def outBlk (x2 : Vec F S256x256 .bf16) (x3 : Vec F S1x16640x64 .bf16) (x4 : Vec F S1x64x16640 .bf16) : Vec F S256x256 .bf16 :=
  truncf .bf16 (unheads (k0_pay36 (accN x3 x4 (qOf x2) 13).2.2 (accN x3 x4 (qOf x2) 13).2.1)) bitsLt_bf16_f32

/-- Four stores side by side, each of `w` columns, together hold what each of them holds. -/
theorem four_blocks {a b w o1 o2 o3 : ℕ} {φ : EltTy} (hb : b = 4 * w) (ho1 : o1 = w) (ho2 : o2 = 2 * w) (ho3 : o3 = 3 * w)
    (v : View sig .tc .vmem (⟨2, ![a, b]⟩ : Shape) φ) (f : v.ty.Contents (Elt F)) (Y : (⟨2, ![a, b]⟩ : Shape).Idx → Elt F φ)
    (w0 w1 w2 w3 : (⟨2, ![a, w]⟩ : Shape).Idx → Elt F φ)
    (i0 : ∀ x, (![0, 0] : Fin 2 → ℕ) x + (![a, w] : Fin 2 → ℕ) x ≤ (![a, b] : Fin 2 → ℕ) x)
    (i1 : ∀ x, (![0, o1] : Fin 2 → ℕ) x + (![a, w] : Fin 2 → ℕ) x ≤ (![a, b] : Fin 2 → ℕ) x)
    (i2 : ∀ x, (![0, o2] : Fin 2 → ℕ) x + (![a, w] : Fin 2 → ℕ) x ≤ (![a, b] : Fin 2 → ℕ) x)
    (i3 : ∀ x, (![0, o3] : Fin 2 → ℕ) x + (![a, w] : Fin 2 → ℕ) x ≤ (![a, b] : Fin 2 → ℕ) x)
    (e0 : ∀ (n : Fin a) (d : Fin w), w0 (ix2 n d) = Y (ix2 n ⟨0 + d.val, by omega⟩))
    (e1 : ∀ (n : Fin a) (d : Fin w), w1 (ix2 n d) = Y (ix2 n ⟨o1 + d.val, by omega⟩))
    (e2 : ∀ (n : Fin a) (d : Fin w), w2 (ix2 n d) = Y (ix2 n ⟨o2 + d.val, by omega⟩))
    (e3 : ∀ (n : Fin a) (d : Fin w), w3 (ix2 n d) = Y (ix2 n ⟨o3 + d.val, by omega⟩)) :
    v.read (Elt F) (v.writes (Elt F) f
      [⟨Rect.unit (s := ⟨2, ![a, b]⟩) ![0, o3] ![a, w] i3, w3⟩, ⟨Rect.unit (s := ⟨2, ![a, b]⟩) ![0, o2] ![a, w] i2, w2⟩,
       ⟨Rect.unit (s := ⟨2, ![a, b]⟩) ![0, o1] ![a, w] i1, w1⟩, ⟨Rect.unit (s := ⟨2, ![a, b]⟩) ![0, 0] ![a, w] i0, w0⟩]) = Y := by
  funext y
  obtain ⟨n, c, rfl⟩ : ∃ (n : Fin a) (c : Fin b), y = ix2 n c := ⟨y 0, y 1, eq_ix2 y⟩
  have key : ∀ (o : ℕ) (d : Fin w) (hc : c.val = o + d.val) (x : Fin 2),
      ((ix2 n c : (⟨2, ![a, b]⟩ : Shape).Idx) x).val = (![0, o] : Fin 2 → ℕ) x + ((ix2 n d : (⟨2, ![a, w]⟩ : Shape).Idx) x).val := by
    intro o d hc x
    fin_cases x
    · show n.val = 0 + n.val; omega
    · exact hc
  have hc := c.isLt
  have put : ∀ (o : ℕ) (ho : o ≤ c.val) (hw : c.val - o < w), Y (ix2 n ⟨o + (⟨c.val - o, hw⟩ : Fin w).val, by simp; omega⟩) = Y (ix2 n c) :=
    fun o ho hw => congrArg Y (congrArg (ix2 n) (Fin.ext (by simp; omega)))
  by_cases h3 : o3 ≤ c.val
  · exact (View.read_writes_cons_unit_of_mem v f i3 w3 _ (ix2 n c) (ix2 n ⟨c.val - o3, by omega⟩) rfl (key o3 ⟨c.val - o3, by omega⟩ (by simp; omega))).trans
      ((e3 _ _).trans (put o3 h3 (by omega)))
  refine (View.read_writes_cons_unit_of_not_mem v f i3 w3 _ (ix2 n c) rfl 1 (.inl (by show c.val < o3; omega))).trans ?_
  by_cases h2 : o2 ≤ c.val
  · exact (View.read_writes_cons_unit_of_mem v f i2 w2 _ (ix2 n c) (ix2 n ⟨c.val - o2, by omega⟩) rfl (key o2 ⟨c.val - o2, by omega⟩ (by simp; omega))).trans
      ((e2 _ _).trans (put o2 h2 (by omega)))
  refine (View.read_writes_cons_unit_of_not_mem v f i2 w2 _ (ix2 n c) rfl 1 (.inl (by show c.val < o2; omega))).trans ?_
  by_cases h1 : o1 ≤ c.val
  · exact (View.read_writes_cons_unit_of_mem v f i1 w1 _ (ix2 n c) (ix2 n ⟨c.val - o1, by omega⟩) rfl (key o1 ⟨c.val - o1, by omega⟩ (by simp; omega))).trans
      ((e1 _ _).trans (put o1 h1 (by omega)))
  refine (View.read_writes_cons_unit_of_not_mem v f i1 w1 _ (ix2 n c) rfl 1 (.inl (by show c.val < o1; omega))).trans ?_
  exact (View.read_writes_cons_unit_of_mem v f i0 w0 _ (ix2 n c) (ix2 n ⟨c.val - 0, by omega⟩) rfl (key 0 ⟨c.val - 0, by omega⟩ (by simp))).trans
    ((e0 _ _).trans (put 0 (by omega) (by omega)))

/-- A row block of the queries, read off the window. -/
theorem read_head (M2 : Memref sig .tc .vmem S256x256 .bf16) (h2 : M2.IsWhole) (x2 : Vec F S256x256 .bf16) {o o' : ℕ}
    (inb : ∀ x, (![o, 0] : Fin 2 → ℕ) x + S64x256.size x ≤ S256x256.size x) (r : ℕ) (hr : r < 4) (ho : o = 64 * r) (ho' : o' = 256 * r)
    (n : Fin 64) (d : Fin 256) (hq : o' + d.val < 1024) :
    View.readAt (Elt F) M2.view (Rect.unit (s := S256x256) ![o, 0] S64x256.size inb).toLoadRect (h2.unread x2) (ix2 n d)
      = qOf x2 (ix2 n ⟨o' + d.val, hq⟩) := by
  rw [View.readAt_eq_ld, h2.read_unread]
  have hn := n.isLt
  have hd := d.isLt
  refine congrArg x2 (funext fun x => Fin.ext ?_)
  fin_cases x
  · show o + 1 * n.val = 64 * ((o' + d.val) / 256) + n.val
    omega
  · show 0 + 1 * d.val = (o' + d.val) % 256
    omega

theorem v38_eq (c : Dev nD) (M2 : Memref sig .tc .vmem S256x256 .bf16) (h2 : M2.IsWhole) (M6 : Memref sig .tc .vmem S64x1024 .bf16)
    (x2 : Vec F S256x256 .bf16) : kernelRun.sl.v38 c M2 h2 M6 x2 = qOf x2 := by
  unfold kernelRun.sl.v38 kernelRun.sl.H6_4
  unfold View.readCov
  rw [View.readAt_full]
  refine four_blocks (a := 64) (b := 1024) (w := 256) (o1 := 256) (o2 := 512) (o3 := 768) rfl rfl rfl rfl M6.view _ (qOf x2) _ _ _ _ inb_S64x1024_S64x256_0_0 inb_S64x1024_S64x256_0_256 inb_S64x1024_S64x256_0_512 inb_S64x1024_S64x256_0_768 ?_ ?_ ?_ ?_
  · intro n d
    unfold k0_pay12
    rw [shapeCast_self, shapeCast_self]
    exact read_head (o := 0) (o' := 0) M2 h2 x2 _ 0 (by norm_num) rfl rfl n d _
  · intro n d
    unfold k0_pay13
    rw [shapeCast_self, shapeCast_self]
    exact read_head (o := 64) (o' := 256) M2 h2 x2 _ 1 (by norm_num) rfl rfl n d _
  · intro n d
    unfold k0_pay14
    rw [shapeCast_self, shapeCast_self]
    exact read_head (o := 128) (o' := 512) M2 h2 x2 _ 2 (by norm_num) rfl rfl n d _
  · intro n d
    unfold k0_pay15
    rw [shapeCast_self, shapeCast_self]
    exact read_head (o := 192) (o' := 768) M2 h2 x2 _ 3 (by norm_num) rfl rfl n d _

/-- A load under a list whose first store covers it reads the same over any contents. -/
theorem readCov_append_last (v : View sig .tc .vmem S2x1280x1024 .f32) (f : v.ty.Contents (Elt F)) (r : Rect S2x1280x1024)
    (w : r.shape.Idx → Elt F .f32) (L : List (View.Piece (Elt F) S2x1280x1024 .f32)) :
    v.readCov (L ++ [⟨r, w⟩]) r.toLoadRect = v.readAt (Elt F) r.toLoadRect (v.writes (Elt F) (v.writes (Elt F) f [⟨r, w⟩]) L) := by
  rw [← View.writes_append]
  exact (View.readAt_writes_of_cover v f (L ++ [⟨r, w⟩]) r.toLoadRect
    fun j => ⟨⟨r, w⟩, by simp, r.toLoadRect.idx_mem j⟩).symm

set_option maxRecDepth 8192 in
/-- What the body finds after the loop: the scores of the last chunk, and the state before it. -/
theorem found_eq (c : Dev nD) (i : grid0.Coords)
    (M2 : Memref sig .tc .vmem S256x256 .bf16) (h2 : M2.IsWhole) (M3 : Memref sig .tc .vmem S1x16640x64 .bf16) (h3 : M3.IsWhole)
    (M4 : Memref sig .tc .vmem S1x64x16640 .bf16) (h4 : M4.IsWhole) (M5 : Memref sig .tc .vmem S256x256 .bf16) (h5 : M5.IsWhole)
    (M6 : Memref sig .tc .vmem S64x1024 .bf16) (h6 : M6.IsWhole) (M7 : Memref sig .tc .vmem S2x1280x1024 .f32) (h7 : M7.IsWhole)
    (M8 : Memref sig .tc .vmem S1x1024 .f32) (h8 : M8.IsWhole) (M9 : Memref sig .tc .vmem S1x1024 .f32) (h9 : M9.IsWhole)
    (M10 : Memref sig .tc .vmem S64x1024 .f32) (h10 : M10.IsWhole)
    (x2 : Vec F S256x256 .bf16) (x3 : Vec F S1x16640x64 .bf16) (x4 : Vec F S1x64x16640 .bf16) (x7 : Vec F S2x1280x1024 .f32) :
    (kernelRun.sl.v44 c i M2 h2 M3 h3 M4 h4 M5 h5 M6 h6 M7 h7 M8 h8 M9 h9 M10 h10 x2 x3 x4 x7, kernelRun.sl.v47 c i M2 h2 M3 h3 M4 h4 M5 h5 M6 h6 M7 h7 M8 h8 M9 h9 M10 h10 x2 x3 x4 x7, kernelRun.sl.v56 c i M2 h2 M3 h3 M4 h4 M5 h5 M6 h6 M7 h7 M8 h8 M9 h9 M10 h10 x2 x3 x4 x7, kernelRun.sl.v64 c i M2 h2 M3 h3 M4 h4 M5 h5 M6 h6 M7 h7 M8 h8 M9 h9 M10 h10 x2 x3 x4 x7)
      = (score x3 (qOf x2) 12, accN x3 x4 (qOf x2) 12) := by
  have hk : View.readAt (Elt F) M3.view (Rect.unit (s := S1x16640x64) k0_off1 S1x1280x64.size k0_off1_inb).toLoadRect (h3.unread x3) = kChunk x3 0 := by
    rw [View.readAt_eq_ld, h3.read_unread]
    exact ld_kChunk x3 0 (by norm_num) _ _ k0_off1_eq
  refine Eq.trans ?_ (stOf_loop (F := F) c none i M2 h2 M3 h3 M4 h4 M5 h5 M6 h6 M7 h7 M8 h8 M9 h9 M10 h10 k0_pay18 x3 x4
    (M6.view.writes (Elt F) M6.view.junk (kernelRun.sl.H6_4 c M2 h2 x2)) (qOf x2) (v38_eq c M2 h2 M6 x2)
    (M7.view.writes (Elt F) (h7.unread x7) [⟨Rect.unit (s := S2x1280x1024) ![0, 0, 0] S1x1280x1024.size inb_S2x1280x1024_S1x1280x1024_0_0_0,
      k0_pay20 (View.readAt (Elt F) M3.view (Rect.unit (s := S1x16640x64) k0_off1 S1x1280x64.size k0_off1_inb).toLoadRect (h3.unread x3))
        (kernelRun.sl.v38 c M2 h2 M6 x2)⟩])
    (M8.view.writes (Elt F) M8.view.junk kernelRun.sl.H8_1) (M9.view.writes (Elt F) M9.view.junk kernelRun.sl.H9_1)
    (M10.view.writes (Elt F) M10.view.junk kernelRun.sl.H10_1) ?_ 6 (le_refl 6))
  · unfold kernelRun.sl.v44 kernelRun.sl.v47 kernelRun.sl.v56 kernelRun.sl.v64
    rw [show Scf.trips k0_t1_loop.lb k0_t1_loop.ub k0_t1_loop.st = 6 from trips_eq]
    rw [readCov_append_last _ (h7.unread x7)]
    unfold stOf View.readCov
    simp only [View.writes_append]
  · unfold stOf
    rw [readAt_writes_last, hk, v38_eq]
    unfold kernelRun.sl.H8_1 kernelRun.sl.H9_1 kernelRun.sl.H10_1
    rw [readAt_writes_last, readAt_writes_last, readAt_writes_last]
    rfl

theorem v80_eq (c : Dev nD) (i : grid0.Coords)
    (M2 : Memref sig .tc .vmem S256x256 .bf16) (h2 : M2.IsWhole) (M3 : Memref sig .tc .vmem S1x16640x64 .bf16) (h3 : M3.IsWhole)
    (M4 : Memref sig .tc .vmem S1x64x16640 .bf16) (h4 : M4.IsWhole) (M5 : Memref sig .tc .vmem S256x256 .bf16) (h5 : M5.IsWhole)
    (M6 : Memref sig .tc .vmem S64x1024 .bf16) (h6 : M6.IsWhole) (M7 : Memref sig .tc .vmem S2x1280x1024 .f32) (h7 : M7.IsWhole)
    (M8 : Memref sig .tc .vmem S1x1024 .f32) (h8 : M8.IsWhole) (M9 : Memref sig .tc .vmem S1x1024 .f32) (h9 : M9.IsWhole)
    (M10 : Memref sig .tc .vmem S64x1024 .f32) (h10 : M10.IsWhole)
    (x2 : Vec F S256x256 .bf16) (x3 : Vec F S1x16640x64 .bf16) (x4 : Vec F S1x64x16640 .bf16) (x7 : Vec F S2x1280x1024 .f32) :
    kernelRun.sl.v80 c i M2 h2 M3 h3 M4 h4 M5 h5 M6 h6 M7 h7 M8 h8 M9 h9 M10 h10 x2 x3 x4 x7 = (accN x3 x4 (qOf x2) 13).2.1 := by
  have e := found_eq c i M2 h2 M3 h3 M4 h4 M5 h5 M6 h6 M7 h7 M8 h8 M9 h9 M10 h10 x2 x3 x4 x7
  obtain ⟨e1, e2⟩ := Prod.mk.inj e
  obtain ⟨e2, e3⟩ := Prod.mk.inj (e2.trans (Prod.mk.eta).symm)
  obtain ⟨e3, e4⟩ := Prod.mk.inj (e3.trans (Prod.mk.eta).symm)
  unfold kernelRun.sl.v80 kernelRun.sl.H9_1_1
  rw [View.readCov_cons_toLoadRect]
  unfold kernelRun.sl.r_3 kernelRun.sl.r_4
  rw [e1, e2, e3]
  rfl

theorem v79_eq (c : Dev nD) (i : grid0.Coords)
    (M2 : Memref sig .tc .vmem S256x256 .bf16) (h2 : M2.IsWhole) (M3 : Memref sig .tc .vmem S1x16640x64 .bf16) (h3 : M3.IsWhole)
    (M4 : Memref sig .tc .vmem S1x64x16640 .bf16) (h4 : M4.IsWhole) (M5 : Memref sig .tc .vmem S256x256 .bf16) (h5 : M5.IsWhole)
    (M6 : Memref sig .tc .vmem S64x1024 .bf16) (h6 : M6.IsWhole) (M7 : Memref sig .tc .vmem S2x1280x1024 .f32) (h7 : M7.IsWhole)
    (M8 : Memref sig .tc .vmem S1x1024 .f32) (h8 : M8.IsWhole) (M9 : Memref sig .tc .vmem S1x1024 .f32) (h9 : M9.IsWhole)
    (M10 : Memref sig .tc .vmem S64x1024 .f32) (h10 : M10.IsWhole)
    (x2 : Vec F S256x256 .bf16) (x3 : Vec F S1x16640x64 .bf16) (x4 : Vec F S1x64x16640 .bf16) (x7 : Vec F S2x1280x1024 .f32) :
    kernelRun.sl.v79 c i M2 h2 M3 h3 M4 h4 M5 h5 M6 h6 M7 h7 M8 h8 M9 h9 M10 h10 x2 x3 x4 x7 = (accN x3 x4 (qOf x2) 13).2.2 := by
  have e := found_eq c i M2 h2 M3 h3 M4 h4 M5 h5 M6 h6 M7 h7 M8 h8 M9 h9 M10 h10 x2 x3 x4 x7
  obtain ⟨e1, e2⟩ := Prod.mk.inj e
  obtain ⟨e2, e3⟩ := Prod.mk.inj (e2.trans (Prod.mk.eta).symm)
  obtain ⟨e3, e4⟩ := Prod.mk.inj (e3.trans (Prod.mk.eta).symm)
  have ev : View.readAt (Elt F) M4.view (Rect.unit (s := S1x64x16640) ![0, 0, 15360] S1x64x1280.size inb_S1x64x16640_S1x64x1280_0_0_15360).toLoadRect (h4.unread x4)
      = vChunk x4 12 := by
    rw [View.readAt_eq_ld, h4.read_unread]
    exact ld_vChunk x4 12 (by norm_num) _ _ rfl
  unfold kernelRun.sl.v79 kernelRun.sl.H10_1_1
  rw [View.readCov_cons_toLoadRect]
  unfold kernelRun.sl.r_2 kernelRun.sl.r_1
  rw [e1, e2, e4, ev]
  rfl

/-- One head of the output block. -/
theorem out_head (a : FVec F S64x1024 .f32) (t : FVec F S64x256 .f32) (u : FVec F S256x64 .f32) (o o' r : ℕ) (hr : r < 4) (ho : o = 64 * r) (ho' : o' = 256 * r)
    (ht : ∀ (d : Fin 64) (n : Fin 256), t (ix2 d n) = a (ix2 d ⟨o' + n.val, by omega⟩))
    (hu : ∀ (n : Fin 256) (d : Fin 64), u (ix2 n d) = t (ix2 d n)) (n : Fin 256) (d : Fin 64) (hd : o + d.val < 256) :
    truncf .bf16 u bitsLt_bf16_f32 (ix2 n d) = truncf .bf16 (unheads a) bitsLt_bf16_f32 (ix2 n ⟨o + d.val, hd⟩) := by
  have hn := n.isLt
  have hd' := d.isLt
  refine congrArg (FloatOps.truncf .bf16 bitsLt_bf16_f32) ?_
  rw [hu, ht]
  refine congrArg a (funext fun x => Fin.ext ?_)
  fin_cases x
  · show d.val = (o + d.val) % 64
    omega
  · show o' + n.val = 256 * ((o + d.val) / 64) + n.val
    omega

set_option maxRecDepth 8192 in
theorem kernelRun_read (c : Dev nD) (i : grid0.Coords)
    (M2 : Memref sig .tc .vmem S256x256 .bf16) (h2 : M2.IsWhole) (M3 : Memref sig .tc .vmem S1x16640x64 .bf16) (h3 : M3.IsWhole)
    (M4 : Memref sig .tc .vmem S1x64x16640 .bf16) (h4 : M4.IsWhole) (M5 : Memref sig .tc .vmem S256x256 .bf16) (h5 : M5.IsWhole)
    (M6 : Memref sig .tc .vmem S64x1024 .bf16) (h6 : M6.IsWhole) (M7 : Memref sig .tc .vmem S2x1280x1024 .f32) (h7 : M7.IsWhole)
    (M8 : Memref sig .tc .vmem S1x1024 .f32) (h8 : M8.IsWhole) (M9 : Memref sig .tc .vmem S1x1024 .f32) (h9 : M9.IsWhole)
    (M10 : Memref sig .tc .vmem S64x1024 .f32) (h10 : M10.IsWhole)
    (x2 : Vec F S256x256 .bf16) (x3 : Vec F S1x16640x64 .bf16) (x4 : Vec F S1x64x16640 .bf16) (x5 : Vec F S256x256 .bf16)
    (x6 : Vec F S64x1024 .bf16) (x7 : Vec F S2x1280x1024 .f32) (x8 : Vec F S1x1024 .f32) (x9 : Vec F S1x1024 .f32) (x10 : Vec F S64x1024 .f32) :
    M5.view.read (Elt F) (kernelRun c i M2 h2 M3 h3 M4 h4 M5 h5 M6 h6 M7 h7 M8 h8 M9 h9 M10 h10 x2 x3 x4 x5 x6 x7 x8 x9 x10).1
      = outBlk x2 x3 x4 := by
  unfold kernelRun

  dsimp only
  unfold kernelRun.sl.H5_4 kernelRun.sl.r_5 kernelRun.sl.r_6
  rw [v79_eq, v80_eq]
  refine four_blocks (a := 256) (b := 256) (w := 64) (o1 := 64) (o2 := 128) (o3 := 192) rfl rfl rfl rfl M5.view _ (outBlk x2 x3 x4) _ _ _ _ inb_S256x256_S256x64_0_0 inb_S256x256_S256x64_0_64 inb_S256x256_S256x64_0_128 inb_S256x256_S256x64_0_192 ?_ ?_ ?_ ?_
  · intro n d
    exact out_head _ _ _ 0 0 0 (by norm_num) rfl rfl (fun d n => slice2_axis1_eq 0 _ _ d n) (fun n d => transpose_ix2_apply _ _ n d) n d _
  · intro n d
    exact out_head _ _ _ 64 256 1 (by norm_num) rfl rfl (fun d n => slice2_axis1_eq 256 _ _ d n) (fun n d => transpose_ix2_apply _ _ n d) n d _
  · intro n d
    exact out_head _ _ _ 128 512 2 (by norm_num) rfl rfl (fun d n => slice2_axis1_eq 512 _ _ d n) (fun n d => transpose_ix2_apply _ _ n d) n d _
  · intro n d
    exact out_head _ _ _ 192 768 3 (by norm_num) rfl rfl (fun d n => slice2_axis1_eq 768 _ _ d n) (fun n d => transpose_ix2_apply _ _ n d) n d _

end Cert.Proof.Attn

end
-- ==== Proof.Attn.Frame.lean ====
/- The run of the attention kernel over any float values, and its frames. -/
module

public import proofs.«01_k».proof.Proof.Attn.Block
public import proofs.«01_k».proof.Defs
public import proofs.«01_k».proof.Proof.Gen.Kernel
public import Idealize.ShloMosaic.PureOps.BitExact

@[expose] public section

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the proof: the frame kit's. -/
local notation "𝕄" => MT nD τ sig Unit (Elt F) ℕ (UR sig nD τ) ℕ

/-- `kernelRun` with the block it writes spelt out, from any contents of the scratch memory. -/
theorem kernel_triple (c : Dev nD) (i : grid0.Coords)
    (M2 : Memref sig .tc .vmem S256x256 .bf16) (h2 : M2.IsWhole) (M3 : Memref sig .tc .vmem S1x16640x64 .bf16) (h3 : M3.IsWhole)
    (M4 : Memref sig .tc .vmem S1x64x16640 .bf16) (h4 : M4.IsWhole) (M5 : Memref sig .tc .vmem S256x256 .bf16) (h5 : M5.IsWhole)
    (M6 : Memref sig .tc .vmem S64x1024 .bf16) (h6 : M6.IsWhole) (M7 : Memref sig .tc .vmem S2x1280x1024 .f32) (h7 : M7.IsWhole)
    (M8 : Memref sig .tc .vmem S1x1024 .f32) (h8 : M8.IsWhole) (M9 : Memref sig .tc .vmem S1x1024 .f32) (h9 : M9.IsWhole)
    (M10 : Memref sig .tc .vmem S64x1024 .f32) (h10 : M10.IsWhole)
    (x2 : Vec F S256x256 .bf16) (x3 : Vec F S1x16640x64 .bf16) (x4 : Vec F S1x64x16640 .bf16) (x5 : Vec F S256x256 .bf16)
    (x6 : Vec F S64x1024 .bf16) (x7 : Vec F S2x1280x1024 .f32) (x8 : Vec F S1x1024 .f32) (x9 : Vec F S1x1024 .f32) (x10 : Vec F S64x1024 .f32)
    (E : Set ℕ) (K : PUnit → sProp 𝕄) :
    iprop(owns (c : Thread nD τ) M2 fullShare x2 ∗ owns (c : Thread nD τ) M3 fullShare x3 ∗ owns (c : Thread nD τ) M4 fullShare x4
            ∗ owns (c : Thread nD τ) M5 fullShare x5 ∗ owns (c : Thread nD τ) M6 fullShare x6 ∗ owns (c : Thread nD τ) M7 fullShare x7
            ∗ owns (c : Thread nD τ) M8 fullShare x8 ∗ owns (c : Thread nD τ) M9 fullShare x9 ∗ owns (c : Thread nD τ) M10 fullShare x10
            ∗ (iprop(owns (c : Thread nD τ) M2 fullShare x2 ∗ owns (c : Thread nD τ) M3 fullShare x3 ∗ owns (c : Thread nD τ) M4 fullShare x4
                ∗ owns (c : Thread nD τ) M5 fullShare (outBlk x2 x3 x4) ∗ (∃ d, owns (c : Thread nD τ) M6 fullShare d)
                ∗ (∃ d, owns (c : Thread nD τ) M7 fullShare d) ∗ (∃ d, owns (c : Thread nD τ) M8 fullShare d)
                ∗ (∃ d, owns (c : Thread nD τ) M9 fullShare d) ∗ (∃ d, owns (c : Thread nD τ) M10 fullShare d)) -∗ K ⟨⟩))
          ⊢ wp frame (wpE (defs₀ (F := F)) 𝒱₀ c none) E
              (cc0_gqa_attention i M2 h2 M3 h3 M4 h4 M5 h5 M6 h6 M7 h7 M8 h8 M9 h9 M10 h10) K := by
  have h := (kernelRun c i M2 h2 M3 h3 M4 h4 M5 h5 M6 h6 M7 h7 M8 h8 M9 h9 M10 h10 x2 x3 x4 x5 x6 x7 x8 x9 x10).2 E K
  rw [kernelRun_read] at h
  exact h

variable (m : (ℓ : Loc nD τ sig) → Buf (Elt F) ℓ) (ρ : Dev nD → PrngReg)

/-- The block grid point `t` writes. -/
def outsAt (c : Dev nD) (t : Fin cfg0.N) : Vec F S256x256 .bf16 := outBlk (iblk m c 0 t) (iblk m c 1 t) (iblk m c 2 t)

/-- The proof data: the arrays as the region finds them; after the body each input's buffer at its block, the result's
    at `outsAt`; the scratch memory at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body at a grid point: the scratch memory is taken out of the invariant, handed to the body and put back. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold outsAt Pipeline.ΦA
  rw [scopedRest0_eq]
  simp only [← owns_whole]
  iintro ⟨⟨⟨⟨%f6, H6⟩, ⟨%f7, H7⟩, ⟨%f8, H8⟩, ⟨%f9, H9⟩, ⟨%f10, H10⟩⟩, Hp⟩, Ho, ⟨%d0, H0⟩, ⟨%d1, H1⟩, ⟨%d2, H2⟩, ⟨%d3, H3⟩⟩
  iapply (kernel_triple c _ _ _ _ _ _ _ _ _ _ _ _ _ _ _ _ _ _ _ (iblk m c 0 t) (iblk m c 1 t) (iblk m c 2 t) _ _ _ _ _ _ Set.univ _)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  iintro ⟨H0, H1, H2, H3, H6, H7, H8, H9, H10⟩
  isplitl [H6 H7 H8 H9 H10 Hp]
  · isplitl [H6 H7 H8 H9 H10]
    · isplitl [H6]; · iexact H6
      isplitl [H7]; · iexact H7
      isplitl [H8]; · iexact H8
      isplitl [H9]; · iexact H9
      iexact H10
    · iexact Hp
  isplitl [Ho]; · iexact Ho
  isplitl [H0]; · iexact H0
  isplitl [H1]; · iexact H1
  isplitl [H2]; · iexact H2
  iexact H3

set_option backward.isDefEq.respectTransparency.types false in
/-- Every execution terminates, with every array at what the proof data computes and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame of the program at any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

/-- The two printed programs have one table of kernels. -/
theorem defs₀_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | ⟨0, _⟩, (t, s) => rfl
  | ⟨n + 1, h⟩, _ => exact absurd h (Nat.not_lt.2 (Nat.le_add_left _ _))

theorem defs_eq : Cert.Kernel.defs (F := F) = Cert.KernelIdeal.defs (F := F) :=
  congrArg (Pipeline.defs (Cert.KernelIdeal.pcfgs (F := F))) defs₀_eq

theorem frame_kernel : Cert.quiescent_Kernel := fun m ρ _ => by
  rw [defs_eq (F := Bits)]
  exact frame_any (F := Bits) m ρ

theorem frame_kernelIdeal : Cert.quiescent_KernelIdeal := fun m ρ _ =>
  frame_any (F := Ideal) m ρ

end Cert.Proof.Attn

end
-- ==== Proof.Attn.Softmax.lean ====
/- The softmax average over the extended reals, taken in one pass with a running maximum and taken all at once. -/
module

public import Idealize.ShloMosaic.PureOps.Ideal

@[expose] public section

noncomputable section

namespace Cert.Proof.Attn

open Idealize.ShloMosaic

/-- A real factor that is not negative goes into a sum of extended reals. -/
theorem coe_mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (EReal.coe_nonneg.2 hc) (EReal.coe_ne_top c)]

/-- A sum of reals is a real. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The larger of a real and of finitely many reals is a real. -/
theorem max_fold_coe {ι : Type} (m : ℝ) (S : Finset ι) (f : ι → ℝ) :
    ∃ r : ℝ, max (m : EReal) (S.fold max ⊥ fun i => (f i : EReal)) = (r : EReal) := by
  classical
  induction S using Finset.induction_on with
  | empty => exact ⟨m, by simp⟩
  | insert a S ha ih =>
    obtain ⟨r, hr⟩ := ih
    refine ⟨max (f a) r, ?_⟩
    rw [Finset.fold_insert ha, max_left_comm, hr]
    exact (EReal.coe_strictMono.monotone.map_max).symm

/-- The largest of finitely many reals, of one at least, is a real. -/
theorem fold_coe {ι : Type} (S : Finset ι) (f : ι → ℝ) (i : ι) (hi : i ∈ S) :
    ∃ r : ℝ, (S.fold max ⊥ fun i => (f i : EReal)) = (r : EReal) := by
  obtain ⟨r, hr⟩ := max_fold_coe (f i) S f
  refine ⟨r, hr ▸ (max_eq_right ?_).symm⟩
  exact (Finset.le_fold_max _).2 (.inr ⟨i, hi, le_rfl⟩)

theorem exp2_sub (x y : ℝ) : Ideal.exp2 ((x : EReal) - (y : EReal)) = (((2 : ℝ) ^ (x - y) : ℝ) : EReal) := by
  rw [← EReal.coe_sub, Ideal.exp2_coe]; rfl

section
variable {N : ℕ} (z : ℕ → Fin N → ℝ) (v : ℕ → Fin N → EReal)

/-- What one pass holds after `n` chunks of scores `z` and values `v`: a real `M`, the sum of the powers of two of the
    scores less `M`, and the sum of the values weighted by them. -/
def Holds (n : ℕ) (m l a : EReal) : Prop :=
  ∃ M : ℝ, m = (M : EReal) ∧ l = ((∑ c ∈ Finset.range n, ∑ x, (2 : ℝ) ^ (z c x - M) : ℝ) : EReal)
    ∧ a = ∑ c ∈ Finset.range n, ∑ x, v c x * (((2 : ℝ) ^ (z c x - M) : ℝ) : EReal)

theorem holds_zero (M : ℝ) : Holds z v 0 (M : EReal) 0 0 := ⟨M, rfl, by simp, by simp⟩

/-- One more chunk: the maximum moves, and what is held is brought to it. -/
theorem Holds.step {n : ℕ} {m l a : EReal} (h : Holds z v n m l a) {m' : EReal}
    (hm' : m' = max m (Finset.univ.fold max ⊥ fun x => (z n x : EReal))) :
    Holds z v (n + 1) m' (Ideal.exp2 (m - m') * l + ∑ x, Ideal.exp2 ((z n x : EReal) - m'))
      (Ideal.exp2 (m - m') * a + ∑ x, v n x * Ideal.exp2 ((z n x : EReal) - m')) := by
  obtain ⟨M, rfl, rfl, rfl⟩ := h
  obtain ⟨M', hM'⟩ := max_fold_coe M Finset.univ (z n)
  rw [hM'] at hm'
  subst hm'
  have key : ∀ c x, (2 : ℝ) ^ (M - M') * (2 : ℝ) ^ (z c x - M) = (2 : ℝ) ^ (z c x - M') := fun c x => by
    rw [← Real.rpow_add two_pos]; congr 1; ring
  refine ⟨M', rfl, ?_, ?_⟩
  · simp only [exp2_sub]
    rw [coe_sum, ← EReal.coe_mul, ← EReal.coe_add, Finset.sum_range_succ, Finset.mul_sum]
    simp only [Finset.mul_sum, key]
  · simp only [exp2_sub]
    rw [Finset.sum_range_succ, coe_mul_sum _ (Real.rpow_nonneg two_pos.le _)]
    refine congrArg (· + _) (Finset.sum_congr rfl fun c _ => ?_)
    rw [coe_mul_sum _ (Real.rpow_nonneg two_pos.le _)]
    refine Finset.sum_congr rfl fun x _ => ?_
    rw [mul_left_comm, ← EReal.coe_mul, key]

/-- What one pass ends with: the quotient is the average of the values under the weights `2 ^ z`, normalized. -/
theorem Holds.quotient {n : ℕ} {m l a : EReal} (h : Holds z v n m l a) (hn : 0 < n) (hN : 0 < N) :
    Ideal.div a l = ∑ c ∈ Finset.range n, ∑ x,
      v c x * (((2 : ℝ) ^ z c x / ∑ c ∈ Finset.range n, ∑ x, (2 : ℝ) ^ z c x : ℝ) : EReal) := by
  obtain ⟨M, rfl, rfl, rfl⟩ := h
  haveI : Nonempty (Fin N) := ⟨⟨0, hN⟩⟩
  have hsum : ∑ c ∈ Finset.range n, ∑ x, (2 : ℝ) ^ (z c x - M) = (∑ c ∈ Finset.range n, ∑ x, (2 : ℝ) ^ z c x) * (2 : ℝ) ^ (-M) := by
    simp only [Finset.sum_mul]
    exact Finset.sum_congr rfl fun c _ => Finset.sum_congr rfl fun x _ => by rw [← Real.rpow_add two_pos, sub_eq_add_neg]
  have hpos : 0 < ∑ c ∈ Finset.range n, ∑ x, (2 : ℝ) ^ z c x :=
    Finset.sum_pos (fun c _ => Finset.sum_pos (fun x _ => Real.rpow_pos_of_pos two_pos _) Finset.univ_nonempty)
      (Finset.nonempty_range_iff.2 hn.ne')
  have hM : (0 : ℝ) < (2 : ℝ) ^ (-M) := Real.rpow_pos_of_pos two_pos _
  rw [hsum, Ideal.div_coe (mul_pos hpos hM).ne', mul_comm, coe_mul_sum _ (one_div_nonneg.2 (mul_pos hpos hM).le)]
  refine Finset.sum_congr rfl fun c _ => ?_
  rw [coe_mul_sum _ (one_div_nonneg.2 (mul_pos hpos hM).le)]
  refine Finset.sum_congr rfl fun x _ => ?_
  rw [mul_left_comm, ← EReal.coe_mul]
  congr 2
  rw [sub_eq_add_neg, Real.rpow_add two_pos]
  field_simp

end

/-- The softmax average of the values `v` under the scores `s`. -/
def average {N : ℕ} (s : Fin N → ℝ) (v : Fin N → EReal) : EReal :=
  ∑ t, v t * ((Real.exp (s t) / ∑ t, Real.exp (s t) : ℝ) : EReal)

/-- The weights taken all at once, with the scores less any real first. -/
theorem average_eq_at_once {N : ℕ} (hN : 0 < N) (s : Fin N → ℝ) (v : Fin N → EReal) (M : ℝ) :
    ∑ t, v t * Ideal.div (Ideal.exp ((s t : EReal) - (M : EReal))) (∑ t, Ideal.exp ((s t : EReal) - (M : EReal))) = average s v := by
  haveI : Nonempty (Fin N) := ⟨⟨0, hN⟩⟩
  have hpos : 0 < ∑ t, Real.exp (s t) := Finset.sum_pos (fun t _ => Real.exp_pos _) Finset.univ_nonempty
  have hM := Real.exp_pos (-M)
  have hsum : ∑ t, Real.exp (s t - M) = (∑ t, Real.exp (s t)) * Real.exp (-M) := by
    rw [Finset.sum_mul]
    exact Finset.sum_congr rfl fun t _ => by rw [← Real.exp_add, sub_eq_add_neg]
  have hexp : ∀ t, Ideal.exp ((s t : EReal) - (M : EReal)) = (Real.exp (s t - M) : EReal) := fun t => by
    rw [← EReal.coe_sub, Ideal.exp_coe]
  simp only [hexp]
  rw [coe_sum, hsum]
  unfold average
  refine Finset.sum_congr rfl fun t _ => ?_
  rw [Ideal.div_coe (mul_pos hpos hM).ne', ← EReal.coe_mul]
  congr 2
  rw [sub_eq_add_neg, Real.exp_add]
  field_simp

/-- A sum over chunks is a sum over all positions. -/
theorem sum_chunks {M : Type} [AddCommMonoid M] {n N : ℕ} (f : Fin (n * N) → M) (g : ℕ → Fin N → M)
    (h : ∀ (c : Fin n) (x : Fin N), g c.val x = f (finProdFinEquiv (c, x))) :
    ∑ c ∈ Finset.range n, ∑ x, g c x = ∑ t, f t := by
  rw [Finset.sum_range, ← finProdFinEquiv.sum_comp, Fintype.sum_prod_type]
  exact Finset.sum_congr rfl fun c _ => Finset.sum_congr rfl fun x _ => h c x

/-- One pass over chunks of scores in base two ends with the softmax average. -/
theorem Holds.average {n N : ℕ} {z : ℕ → Fin N → ℝ} {w : ℕ → Fin N → EReal} {m l a : EReal} (h : Holds z w n m l a)
    (hn : 0 < n) (hN : 0 < N) (s : Fin (n * N) → ℝ) (v : Fin (n * N) → EReal)
    (hz : ∀ (c : Fin n) (x : Fin N), z c.val x = s (finProdFinEquiv (c, x)) / Real.log 2)
    (hw : ∀ (c : Fin n) (x : Fin N), w c.val x = v (finProdFinEquiv (c, x))) :
    Ideal.div a l = average s v := by
  have e : ∀ (c : Fin n) (x : Fin N), (2 : ℝ) ^ z c.val x = Real.exp (s (finProdFinEquiv (c, x))) := fun c x => by
    rw [hz, Real.rpow_def_of_pos two_pos, mul_div_cancel₀ _ (Real.log_pos one_lt_two).ne']
  rw [h.quotient z w hn hN, sum_chunks (fun t => Real.exp (s t)) (fun c x => (2 : ℝ) ^ z c x) e]
  exact sum_chunks (fun t => v t * ((Real.exp (s t) / ∑ t, Real.exp (s t) : ℝ) : EReal)) _ fun c x => by rw [hw, e]

end Cert.Proof.Attn

end
-- ==== Proof.Attn.Spec.lean ====
/- What the attention's result is, as a function of its arguments: the vocabulary both programs are brought to. -/
module

public import proofs.«01_k».proof.Proof.Attn.Softmax
public import proofs.«01_k».proof.KernelIdeal
public import Idealize.ShloMosaic.Lib.Pointwise

@[expose] public section

noncomputable section

namespace Cert.Proof.Attn

open Cert.KernelIdeal
open Idealize.ShloMosaic

/-- The rows a query attends to: the 16384 of its own sequence, then the 256 handed over from before it. -/
def joined {α : Type} (k : S16384x128.Idx → α) (kc : S256x128.Idx → α) (t : Fin 16640) (col : Fin 128) : α :=
  if h : t.val < 16384 then k (ix2 ⟨t.val, h⟩ col) else kc (ix2 ⟨t.val - 16384, by omega⟩ col)

/-- The score of query row `n` of head `h` against key row `t`: four heads in a row share one group of keys. -/
def logit (q : S16384x512.Idx → ℝ) (k : S16384x128.Idx → ℝ) (kc : S256x128.Idx → ℝ) (n : Fin 16384) (h : Fin 8)
    (t : Fin 16640) : ℝ :=
  ∑ d : Fin 64, joined k kc t ⟨64 * (h.val / 4) + d.val, by omega⟩ * (q (ix2 n ⟨64 * h.val + d.val, by omega⟩) * (1 / 8))

/-- The attention: at row `n` and column `col`, the average of the value rows of the column's group, weighted by the
    exponentials of the scores of the column's head. -/
def attend (q : S16384x512.Idx → ℝ) (k : S16384x128.Idx → ℝ) (v : S16384x128.Idx → EReal) (kc : S256x128.Idx → ℝ)
    (vc : S256x128.Idx → EReal) (n : Fin 16384) (col : Fin 512) : EReal :=
  average (logit q k kc n ⟨col.val / 64, by omega⟩)
    (fun t => joined v vc t ⟨64 * (col.val / 256) + col.val % 64, by omega⟩)

/-- Joining commutes with reading reals as extended reals. -/
theorem joined_coe (k : S16384x128.Idx → ℝ) (kc : S256x128.Idx → ℝ) (t : Fin 16640) (col : Fin 128) :
    joined (fun j => (k j : EReal)) (fun j => (kc j : EReal)) t col = ((joined k kc t col : ℝ) : EReal) := by
  unfold joined; split_ifs <;> rfl

/-- An array of two axes, read at the two coordinates of an index, is read at the index. -/
theorem ix2_coords {a b : ℕ} (j : (⟨2, ![a, b]⟩ : Shape).Idx) : (ix2 (j 0) (j 1) : (⟨2, ![a, b]⟩ : Shape).Idx) = j := by
  funext x; match x with
    | ⟨0, _⟩ => rfl
    | ⟨1, _⟩ => rfl

end Cert.Proof.Attn

end
-- ==== Proof.Attn.Payload.lean ====
/- The kernel's arithmetic over the extended reals, read at an index. -/
module

public import proofs.«01_k».proof.Proof.Attn.Block
public import Idealize.ShloMosaic.Lib.Pointwise
public import Idealize.ShloMosaic.PureOps.Ideal

@[expose] public section

noncomputable section

namespace Cert.Proof.Attn

open Cert.KernelIdeal Cert.KernelIdeal.Gen
open Idealize.ShloMosaic Idealize.ShloMosaic.TcCoe

/-! The constants of the two programs. -/

theorem ofBits_neg_infinity : Ideal.ofBits .f32 0xFF800000#32 = ⊥ := by
  simp [Ideal.ofBits, Ideal.ieee]

theorem ofBits_infinity : Ideal.ofBits .f32 0x7F800000#32 = ⊤ := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_start : ∃ r : ℝ, Ideal.ofBits .f32 0xF149F2CA#32 = (r : EReal) := by
  simp [Ideal.ofBits, Ideal.ieee, -EReal.coe_mul]
  exact ⟨_, (EReal.coe_neg _).symm⟩

theorem pay2_at (k : Vec Ideal S1x1280x64 .bf16) (q : Vec Ideal S64x1024 .bf16) (a : Fin 1280) (j : Fin 1024) :
    k0_pay2 (F := Ideal) k q (ix3 0 a j) = ∑ d : Fin 64, k (ix3 0 a d) * q (ix2 d j) := by
  pointwise [k0_pay2]

theorem pay4_at (s : Vec Ideal S1x1280x1024 .f32) (m : Vec Ideal S1x1024 .f32) (j : Fin 1024) :
    k0_pay4 (F := Ideal) s m (ix2 0 j) = max (m (ix2 0 j)) (Finset.univ.fold max ⊥ fun a : Fin 1280 => s (ix3 0 a j)) := by
  pointwise [k0_pay4, k0_pay3]
  rw [ofBits_neg_infinity]

theorem pay5_at (s : Vec Ideal S1x1280x1024 .f32) (m : Vec Ideal S1x1024 .f32) (j : Fin 1024) :
    k0_pay5 (F := Ideal) s m (ix2 0 j) = Ideal.exp2 (m (ix2 0 j) - k0_pay4 (F := Ideal) s m (ix2 0 j)) := by
  pointwise [k0_pay5]
  rfl

theorem pay6_at (s : Vec Ideal S1x1280x1024 .f32) (m : Vec Ideal S1x1024 .f32) (a : Fin 1280) (j : Fin 1024) :
    k0_pay6 (F := Ideal) s m (ix2 a j) = Ideal.exp2 (s (ix3 0 a j) - k0_pay4 (F := Ideal) s m (ix2 0 j)) := by
  pointwise [k0_pay6, k0_pay3]
  rfl

theorem pay7_at (s : Vec Ideal S1x1280x1024 .f32) (m l : Vec Ideal S1x1024 .f32) (j : Fin 1024) :
    k0_pay7 (F := Ideal) s m l (ix2 0 j)
      = k0_pay5 (F := Ideal) s m (ix2 0 j) * l (ix2 0 j) + ∑ a : Fin 1280, k0_pay6 (F := Ideal) s m (ix2 a j) := by
  pointwise [k0_pay7]

theorem pay8_at (al : FVec Ideal S1x1024 .f32) (p : FVec Ideal S1280x1024 .f32) (acc : Vec Ideal S64x1024 .f32)
    (v : Vec Ideal S1x64x1280 .bf16) (d : Fin 64) (j : Fin 1024) :
    k0_pay8 (F := Ideal) al p acc v (ix2 d j)
      = al (ix2 0 j) * acc (ix2 d j) + ∑ a : Fin 1280, v (ix3 0 d a) * p (ix2 a j) := by
  pointwise [k0_pay8]

theorem pay9_at (x : FVec Ideal S1x1024 .f32) (j : Fin 1024) : k0_pay9 (F := Ideal) x (ix2 0 j) = x (ix2 0 j) := by
  pointwise [k0_pay9]

theorem pay16_at (j : Fin 1024) : ∃ r : ℝ, k0_pay16 (F := Ideal) (ix2 0 j) = (r : EReal) := by
  pointwise [k0_pay16]
  exact ofBits_start

theorem pay17_at (j : Fin 1024) : k0_pay17 (F := Ideal) (ix2 0 j) = 0 := by
  pointwise [k0_pay17]

theorem pay19_at (d : Fin 64) (j : Fin 1024) : k0_pay19 (F := Ideal) k0_pay18 (ix2 d j) = 0 := by
  pointwise [k0_pay19, k0_pay18]

theorem pay36_at (acc : Vec Ideal S64x1024 .f32) (l : Vec Ideal S1x1024 .f32) (d : Fin 64) (j : Fin 1024) :
    k0_pay36 (F := Ideal) acc l (ix2 d j) = Ideal.div (acc (ix2 d j)) (l (ix2 0 j)) := by
  pointwise [k0_pay36]

end Cert.Proof.Attn

end
-- ==== Proof.Attn.Host.lean ====
/- What the host hands the kernel, over the extended reals, read at an index from the arguments. -/
module

public import proofs.«01_k».proof.Proof.Attn.Payload
public import proofs.«01_k».proof.Proof.Gen.KernelIdeal.Frame
public import Idealize.ShloMosaic.Lib.StableHlo.ReadAt

@[expose] public section

noncomputable section

namespace Cert.Proof.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The argument arrays, as functions of an index. -/
abbrev argQ : S16384x512.Idx → EReal := m ((c.tc : Thread nD τ).loc main_arg0)
abbrev argK : S16384x128.Idx → EReal := m ((c.tc : Thread nD τ).loc main_arg1)
abbrev argV : S16384x128.Idx → EReal := m ((c.tc : Thread nD τ).loc main_arg2)
abbrev argKc : S256x128.Idx → EReal := m ((c.tc : Thread nD τ).loc main_arg3)
abbrev argVc : S256x128.Idx → EReal := m ((c.tc : Thread nD τ).loc main_arg4)

/-- The arrays the kernel reads, as functions of an index. -/
abbrev hostQ : S512x16384.Idx → EReal := V (F := Ideal) m c main_v5
abbrev hostK : S2x16640x64.Idx → EReal := V (F := Ideal) m c main_v13
abbrev hostV : S2x64x16640.Idx → EReal := V (F := Ideal) m c main_v15

theorem hostQ_at (i : Fin 512) (n : Fin 16384) :
    hostQ m c (ix2 i n) = argQ m c (ix2 n i) * Ideal.div ((1 / 8 : ℝ) : EReal) (Real.log 2 : ℝ) := by
  unfold hostQ V
  after_reads_at
  rw [ofBits_two, ofBits_eighth, Ideal.log_coe, if_neg (by norm_num)]

theorem hostK_at (g : Fin 2) (t : Fin 16640) (d : Fin 64) :
    hostK m c (ix3 g t d) = if h : t.val < 16384 then argK m c (ix2 ⟨t.val, h⟩ ⟨64 * g.val + d.val, by omega⟩)
      else argKc m c (ix2 ⟨t.val - 16384, by omega⟩ ⟨64 * g.val + d.val, by omega⟩) := by
  unfold hostK V
  after_reads_at
  have e : g.val * 64 + d.val = 64 * g.val + d.val := by omega
  simp only [e]
  split_ifs
  · after_reads_at
  · after_reads_at
  · rename_i h; exact absurd rfl h

theorem hostV_at (g : Fin 2) (t : Fin 16640) (d : Fin 64) :
    hostV m c (ix3 g d t) = if h : t.val < 16384 then argV m c (ix2 ⟨t.val, h⟩ ⟨64 * g.val + d.val, by omega⟩)
      else argVc m c (ix2 ⟨t.val - 16384, by omega⟩ ⟨64 * g.val + d.val, by omega⟩) := by
  unfold hostV V
  after_reads_at
  have e : g.val * 64 + d.val = 64 * g.val + d.val := by omega
  simp only [e]
  split_ifs
  · after_reads_at
  · after_reads_at
  · rename_i h; exact absurd rfl h

end Cert.Proof.Attn

end
-- ==== Proof.Attn.BlockValue.lean ====
/- The block a grid point writes, over the extended reals: softmax averages. -/
module

public import proofs.«01_k».proof.Proof.Attn.Payload
public import proofs.«01_k».proof.Proof.Attn.Softmax

@[expose] public section

noncomputable section

namespace Cert.Proof.Attn

open Cert.KernelIdeal Cert.KernelIdeal.Gen
open Idealize.ShloMosaic Idealize.ShloMosaic.TcCoe

theorem kChunk_at (x : Vec Ideal S1x16640x64 .bf16) (n : ℕ) (a : Fin 1280) (d : Fin 64) :
    kChunk x n (ix3 0 a d) = x (ix3 0 (key n a) d) := by
  rw [ix3_eq_valueIdx, ix3_eq_valueIdx]; rfl

theorem vChunk_at (x : Vec Ideal S1x64x16640 .bf16) (n : ℕ) (d : Fin 64) (a : Fin 1280) :
    vChunk x n (ix3 0 d a) = x (ix3 0 d (key n a)) := by
  rw [ix3_eq_valueIdx, ix3_eq_valueIdx]; rfl

/-- The running state of one column of scores, at one coordinate of the values. -/
theorem accN_holds (x3 : Vec Ideal S1x16640x64 .bf16) (x4 : Vec Ideal S1x64x16640 .bf16) (q : Vec Ideal S64x1024 .bf16)
    (j : Fin 1024) (d : Fin 64) (s : Fin 16640 → ℝ)
    (hs : ∀ t, ∑ d' : Fin 64, x3 (ix3 0 t d') * q (ix2 d' j) = (s t : EReal)) (n : ℕ) :
    Holds (fun c (x : Fin 1280) => s (key c x)) (fun c x => x4 (ix3 0 d (key c x))) n
      ((accN x3 x4 q n).1 (ix2 0 j)) ((accN x3 x4 q n).2.1 (ix2 0 j)) ((accN x3 x4 q n).2.2 (ix2 d j)) := by
  induction n with
  | zero =>
    obtain ⟨r, hr⟩ := pay16_at j
    unfold accN
    dsimp only
    rw [hr, pay17_at, pay19_at]
    exact holds_zero _ _ r
  | succ n ih =>
    have hsc : ∀ a : Fin 1280, score x3 q n (ix3 0 a j) = (s (key n a) : EReal) := fun a => by
      unfold score
      rw [pay2_at, ← hs]
      simp only [kChunk_at]
    have hm : k0_pay4 (score x3 q n) (accN x3 x4 q n).1 (ix2 0 j)
        = max ((accN x3 x4 q n).1 (ix2 0 j)) (Finset.univ.fold max ⊥ fun a : Fin 1280 => (s (key n a) : EReal)) := by
      rw [pay4_at]; simp only [hsc]
    have key' := Holds.step _ _ ih hm
    rw [accN]
    unfold absorb
    dsimp only
    rw [pay9_at, pay7_at, pay8_at]
    simp only [pay6_at, pay5_at, hsc, vChunk_at]
    exact key'

/-- An element of the block: the softmax average of its coordinate of the values. -/
theorem outBlk_at (x2 : Vec Ideal S256x256 .bf16) (x3 : Vec Ideal S1x16640x64 .bf16) (x4 : Vec Ideal S1x64x16640 .bf16)
    (y0 y1 : Fin 256) (s : Fin 16640 → ℝ) (v : Fin 16640 → EReal)
    (hs : ∀ t, ∑ d : Fin 64, x3 (ix3 0 t d) * x2 (ix2 ⟨64 * (y1.val / 64) + d.val, by omega⟩ y0) = ((s t / Real.log 2 : ℝ) : EReal))
    (hv : ∀ t, x4 (ix3 0 ⟨y1.val % 64, Nat.mod_lt _ (by norm_num)⟩ t) = v t) :
    outBlk x2 x3 x4 (ix2 y0 y1) = average s v := by
  have hq : ∀ (d : Fin 64), qOf x2 (ix2 d ⟨256 * (y1.val / 64) + y0.val, by omega⟩) = x2 (ix2 ⟨64 * (y1.val / 64) + d.val, by omega⟩ y0) := fun d => by
    rw [ix2_eq_valueIdx, ix2_eq_valueIdx]
    unfold qOf
    congr 1
    rw [ValueIdx.eq_ix2 (ValueIdx.ix2 _ _), ValueIdx.eq_ix2 (ValueIdx.ix2 _ _)]
    congr 1
    · exact Fin.ext (by show 64 * ((256 * (y1.val / 64) + y0.val) / 256) + d.val = _; have := y0.isLt; show _ = 64 * (y1.val / 64) + d.val; omega)
    · exact Fin.ext (by show (256 * (y1.val / 64) + y0.val) % 256 = y0.val; have := y0.isLt; omega)
  have h := accN_holds x3 x4 (qOf x2) ⟨256 * (y1.val / 64) + y0.val, by omega⟩ ⟨y1.val % 64, Nat.mod_lt _ (by norm_num)⟩
    (fun t => s t / Real.log 2) (fun t => by simp only [hq]; exact hs t) 13
  have hk : ∀ (c : Fin 13) (x : Fin 1280), key c.val x = (finProdFinEquiv (c, x) : Fin (13 * 1280)) := fun c x =>
    Fin.ext (by show (1280 * c.val + x.val) % 16640 = x.val + 1280 * c.val; omega)
  have e : outBlk x2 x3 x4 (ix2 y0 y1) = k0_pay36 (accN x3 x4 (qOf x2) 13).2.2 (accN x3 x4 (qOf x2) 13).2.1
      (ix2 ⟨y1.val % 64, Nat.mod_lt _ (by norm_num)⟩ ⟨256 * (y1.val / 64) + y0.val, by omega⟩) := by
    unfold outBlk
    generalize accN x3 x4 (qOf x2) 13 = st
    generalize k0_pay36 st.2.2 st.2.1 = o
    rw [ix2_eq_valueIdx, ix2_eq_valueIdx]; rfl
  rw [e, pay36_at]
  exact h.average (by norm_num) (by norm_num) s v (fun c x => by rw [hk]) (fun c x => by rw [hv, hk])

end Cert.Proof.Attn

end
-- ==== Proof.Attn.Array.lean ====
/- The block one grid point of the kernel leaves: the attention of the rows and the columns it covers. -/
module

public import proofs.«01_k».proof.Proof.Attn.Spec
public import proofs.«01_k».proof.Proof.Attn.Host
public import proofs.«01_k».proof.Proof.Attn.BlockValue
public import proofs.«01_k».proof.Proof.Attn.Frame
public import Idealize.ShloMosaic.Lib.Pipeline.ValueKit.Geometry

@[expose] public section

noncomputable section

namespace Cert.Proof.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The blocks the windows name at each grid point. -/
theorem index0_0 : ∀ t : Fin cfg0.N, win0_0.index t = ![(grid0.coords t 0).val, (grid0.coords t 1).val] :=
  (by decide +kernel : ∀ t : Fin grid0.N, _)
theorem index0_1 : ∀ t : Fin cfg0.N, win0_1.index t = ![(grid0.coords t 0).val, 0, 0] :=
  (by decide +kernel : ∀ t : Fin grid0.N, _)
theorem index0_2 : ∀ t : Fin cfg0.N, win0_2.index t = ![(grid0.coords t 0).val, 0, 0] :=
  (by decide +kernel : ∀ t : Fin grid0.N, _)
theorem index0_3 : ∀ t : Fin cfg0.N, win0_3.index t = ![(grid0.coords t 1).val, (grid0.coords t 0).val] :=
  (by decide +kernel : ∀ t : Fin grid0.N, _)
theorem coords0_0 (t : Fin cfg0.N) : (grid0.coords t 0).val < 2 := (grid0.coords t 0).isLt
theorem coords0_1 (t : Fin cfg0.N) : (grid0.coords t 1).val < 64 := (grid0.coords t 1).isLt

/-- The kernel's blocks, read off the arrays. -/
theorem block0_at (t : Fin cfg0.N) (a b : Fin 256) :
    iblk m c 0 t (ix2 a b) = hostQ m c (ix2 ⟨256 * (grid0.coords t 0).val + a.val, by have := coords0_0 t; omega⟩
      ⟨256 * (grid0.coords t 1).val + b.val, by have := coords0_1 t; omega⟩) := by
  blk_simp [iblk]
  unfold hostQ
  blk_ext [index0_0]
theorem block1_at (t : Fin cfg0.N) (u : Fin 16640) (d : Fin 64) :
    iblk m c 1 t (ix3 0 u d) = hostK m c (ix3 ⟨(grid0.coords t 0).val, coords0_0 t⟩ u d) := by
  blk_simp [iblk]
  unfold hostK
  blk_ext [index0_1]
theorem block2_at (t : Fin cfg0.N) (d : Fin 64) (u : Fin 16640) :
    iblk m c 2 t (ix3 0 d u) = hostV m c (ix3 ⟨(grid0.coords t 0).val, coords0_0 t⟩ d u) := by
  blk_simp [iblk]
  unfold hostV
  blk_ext [index0_2]

/-- The keys and the values handed to the kernel are the joined rows. -/
theorem hostK_joined (g : Fin 2) (t : Fin 16640) (d : Fin 64) :
    hostK m c (ix3 g t d) = joined (argK m c) (argKc m c) t ⟨64 * g.val + d.val, by omega⟩ := by
  rw [hostK_at]; rfl
theorem hostV_joined (g : Fin 2) (t : Fin 16640) (d : Fin 64) :
    hostV m c (ix3 g d t) = joined (argV m c) (argVc m c) t ⟨64 * g.val + d.val, by omega⟩ := by
  rw [hostV_at]; rfl

variable (q : S16384x512.Idx → ℝ) (k : S16384x128.Idx → ℝ) (kc : S256x128.Idx → ℝ)

/-- One grid point's block: the attention of the rows and the columns it covers. -/
theorem outsAt_at (hq : argQ m c = fun j => (q j : EReal)) (hk : argK m c = fun j => (k j : EReal))
    (hkc : argKc m c = fun j => (kc j : EReal)) (t : Fin cfg0.N) (y0 y1 : Fin 256) :
    outsAt (F := Ideal) m c t (ix2 y0 y1) = attend q k (argV m c) kc (argVc m c)
      ⟨256 * (grid0.coords t 1).val + y0.val, by have := coords0_1 t; omega⟩
      ⟨256 * (grid0.coords t 0).val + y1.val, by have := coords0_0 t; omega⟩ := by
  have h0 := coords0_0 t
  have h1 := coords0_1 t
  unfold outsAt attend
  have hlog : (Real.log 2 : ℝ) ≠ 0 := (Real.log_pos (by norm_num)).ne'
  refine outBlk_at _ _ _ y0 y1 _ _ (fun u => ?_) (fun u => ?_)
  · unfold logit
    rw [Finset.sum_div, ← coe_sum]
    refine Finset.sum_congr rfl fun d _ => ?_
    have e1 : (256 * (grid0.coords t 0).val + y1.val) / 64 / 4 = (grid0.coords t 0).val := by omega
    have e2 : 64 * ((256 * (grid0.coords t 0).val + y1.val) / 64) + d.val
        = 256 * (grid0.coords t 0).val + (64 * (y1.val / 64) + d.val) := by omega
    rw [block0_at, block1_at, hostQ_at, hostK_joined, hq, hk, hkc, joined_coe, Ideal.div_coe hlog]
    dsimp only
    rw [← EReal.coe_mul, ← EReal.coe_mul, ← EReal.coe_mul]
    refine congrArg _ ?_
    simp only [e1, e2]
    ring
  · rw [block2_at, hostV_joined]
    have e3 : 64 * ((256 * (grid0.coords t 0).val + y1.val) / 256) + (256 * (grid0.coords t 0).val + y1.val) % 64
        = 64 * (grid0.coords t 0).val + y1.val % 64 := by omega
    simp only [e3]

end Cert.Proof.Attn

end
-- ==== Proof.Attn.Final.lean ====
/- The kernel's result array after the run: the attention of the arguments. -/
module

public import proofs.«01_k».proof.Proof.Attn.Array
public import Idealize.ShloMosaic.Lib.Pipeline.ValueKit.Geometry

@[expose] public section

noncomputable section

namespace Cert.Proof.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

variable (q : S16384x512.Idx → ℝ) (k : S16384x128.Idx → ℝ) (kc : S256x128.Idx → ℝ)

/-- The result array after the run. -/
theorem final (hq : argQ m c = fun j => (q j : EReal)) (hk : argK m c = fun j => (k j : EReal))
    (hkc : argKc m c = fun j => (kc j : EReal)) :
    (dats (F := Ideal) m 0 c).arrAt 3 cfg0.N
      = fun j : S16384x512.Idx => attend q k (argV m c) kc (argVc m c) (j 0) (j 1) := by
  refine (dats (F := Ideal) m 0 c).arrAt_eq_of_covers 3 _ (by decide +kernel) fun t hf y => ?_
  blk_simp
  rw [after0_3]
  refine Eq.trans (congrArg (outsAt (F := Ideal) m c t) (ix2_coords (a := 256) (b := 256) y).symm) ?_
  refine (outsAt_at m c q k kc hq hk hkc t (y 0) (y 1)).trans ?_
  congr 1
  · apply Fin.ext
    refine Eq.trans (b := 256 * (grid0.coords t 1).val + (y 0).val) rfl ?_
    blk_simp [index0_3]
    omega
  · apply Fin.ext
    refine Eq.trans (b := 256 * (grid0.coords t 0).val + (y 1).val) rfl ?_
    blk_simp [index0_3]
    omega

end Cert.Proof.Attn

end
-- ==== Proof.Attn.Reference.lean ====
/- The reference's result, read at an index: the attention of its arguments. -/
module

public import proofs.«01_k».proof.Proof.Attn.Spec
public import proofs.«01_k».proof.Proof.Attn.Payload
public import proofs.«01_k».proof.Proof.Gen.ReferenceIdeal.Read

@[expose] public section

noncomputable section

namespace Cert.Proof.Attn.Ref

open Cert.ReferenceIdeal Cert.ReferenceIdeal.Gen Cert.ReferenceIdeal.Read
open Idealize.ShloMosaic

/-- The reference's joined keys, and its joined values. -/
theorem keys_at (x : FVec Ideal S16384x128 .f32) (y : FVec Ideal S256x128 .f32) (t : Fin 16640) (g : Fin 2) (d : Fin 64) :
    val_main_v5 (F := Ideal) x y (ix3 t g d) = joined x y t ⟨64 * g.val + d.val, by omega⟩ := by
  have e : g.val * 64 + d.val = 64 * g.val + d.val := by omega
  unfold val_main_v5 val_main_v1 val_main_v3 joined
  pointwise
  simp only [e]

theorem values_at (x : FVec Ideal S16384x128 .f32) (y : FVec Ideal S256x128 .f32) (t : Fin 16640) (g : Fin 2) (d : Fin 64) :
    val_main_v6 (F := Ideal) x y (ix3 t g d) = joined x y t ⟨64 * g.val + d.val, by omega⟩ := by
  have e : g.val * 64 + d.val = 64 * g.val + d.val := by omega
  unfold val_main_v6 val_main_v2 val_main_v4 joined
  pointwise
  simp only [e]

/-- The reference's scaled queries. -/
theorem queries_at (x : FVec Ideal S16384x512 .f32) (n : Fin 16384) (g : Fin 2) (r : Fin 4) (d : Fin 64) :
    val_main_v9 (F := Ideal) x (ix4 n g r d)
      = x (ix2 n ⟨64 * (4 * g.val + r.val) + d.val, by omega⟩) * ((1 / 8 : ℝ) : EReal) := by
  unfold val_main_v9 val_main_v8 val_main_v7 val_main_v0 val_main_cst
  pointwise
  rw [ofBits_eighth]
  have e : (g.val * 4 + r.val) * 64 + d.val = 64 * (4 * g.val + r.val) + d.val := by omega
  simp only [e]

variable (q : S16384x512.Idx → ℝ) (k : S16384x128.Idx → ℝ) (v : S16384x128.Idx → EReal) (kc : S256x128.Idx → ℝ)
  (vc : S256x128.Idx → EReal)

/-- Its scores. -/
theorem scores_at (g : Fin 2) (r : Fin 4) (n : Fin 16384) (t : Fin 16640) :
    val_main_v11 (F := Ideal) (fun j => (q j : EReal)) (fun j => (k j : EReal)) (fun j => (kc j : EReal)) (ix4 g r n t)
      = ((logit q k kc n ⟨4 * g.val + r.val, by omega⟩ t : ℝ) : EReal) := by
  rw [val_main_v11_apply, val_main_v10_apply]
  unfold logit
  rw [← coe_sum]
  refine Finset.sum_congr rfl fun d _ => ?_
  have el : lidx_main_v10 (idx_main_v11 (ix4 g r n t)) d = ix3 t g d := by
    funext x; match x with | ⟨0, _⟩ => rfl | ⟨1, _⟩ => rfl | ⟨2, _⟩ => rfl
  have er : ridx_main_v10 (idx_main_v11 (ix4 g r n t)) d = ix4 n g r d := by
    funext x; match x with | ⟨0, _⟩ => rfl | ⟨1, _⟩ => rfl | ⟨2, _⟩ => rfl | ⟨3, _⟩ => rfl
  have e : (4 * g.val + r.val) / 4 = g.val := by omega
  rw [el, er, keys_at, queries_at, joined_coe]
  simp only [e]
  push_cast
  rfl

/-- The largest score of a row is a real. -/
theorem largest_at (g : Fin 2) (r : Fin 4) (n : Fin 16384) :
    ∃ M : ℝ, val_main_v12 (F := Ideal) (fun j => (q j : EReal)) (fun j => (k j : EReal)) (fun j => (kc j : EReal)) (ix3 g r n)
      = (M : EReal) := by
  unfold val_main_v12
  rw [Host.reduce_eq_fold_single (a := 3) _ _ _ _ (by decide)]
  obtain ⟨M, hM⟩ := fold_coe (Finset.univ : Finset (Fin 16640))
    (fun t => logit q k kc n ⟨4 * g.val + r.val, by omega⟩ t) 0 (Finset.mem_univ _)
  refine ⟨M, hM ▸ ?_⟩
  have hf : ((val_main_v11 (F := Ideal) (fun j => (q j : EReal)) (fun j => (k j : EReal)) fun j => (kc j : EReal)) ∘
      Shape.Reduces.lift (s := S2x4x16384x16640) (t := S2x4x16384) (a := 3) (by decide) (ix3 g r n))
      = fun t : Fin 16640 => ((logit q k kc n ⟨4 * g.val + r.val, by omega⟩ t : ℝ) : EReal) := by
    funext t
    refine Eq.trans ?_ (scores_at q k kc g r n t)
    refine congrArg (val_main_v11 (F := Ideal) _ _ _) ?_
    funext x; match x with | ⟨0, _⟩ => rfl | ⟨1, _⟩ => rfl | ⟨2, _⟩ => rfl | ⟨3, _⟩ => rfl
  have hi : val_main_cst_0 (F := Ideal) (Shape.Idx.first h_S_) = (⊥ : EReal) := ofBits_neg_infinity
  rw [hi]
  exact congrArg (fun f => Finset.univ.fold max (⊥ : EReal) f) hf

/-- The reference's result is the attention. -/
theorem result_at (n : Fin 16384) (col : Fin 512) :
    val_main_v26 (F := Ideal) (fun j => (q j : EReal)) (fun j => (k j : EReal)) v (fun j => (kc j : EReal)) vc (ix2 n col)
      = attend q k v kc vc n col := by
  have hc := col.isLt
  obtain ⟨M, hM⟩ := largest_at q k kc ⟨col.val / 256, by omega⟩ ⟨col.val / 64 % 4, by omega⟩ n
  have hs := scores_at q k kc ⟨col.val / 256, by omega⟩ ⟨col.val / 64 % 4, by omega⟩ n
  have eh : 4 * (col.val / 256) + col.val / 64 % 4 = col.val / 64 := by omega
  simp only [eh] at hs
  -- the exponentials
  have hx : ∀ t, val_main_v18 (F := Ideal) (fun j => (q j : EReal)) (fun j => (k j : EReal)) (fun j => (kc j : EReal))
      (ix4 ⟨col.val / 256, by omega⟩ ⟨col.val / 64 % 4, by omega⟩ n t)
      = Ideal.exp (((logit q k kc n ⟨col.val / 64, by omega⟩ t : ℝ) : EReal) - (M : EReal)) := by
    intro t
    rw [val_main_v18_apply, val_main_v17_apply, hs, val_main_v16_apply, val_main_v15_apply, val_main_v14_apply,
      val_main_v13_apply, val_main_cst_1_apply]
    have ei : idx_main_v15 (idx_main_v16 (ix4 (⟨col.val / 256, by omega⟩ : Fin 2) (⟨col.val / 64 % 4, by omega⟩ : Fin 4) n t))
        = ix3 ⟨col.val / 256, by omega⟩ ⟨col.val / 64 % 4, by omega⟩ n := by
      funext x; match x with | ⟨0, _⟩ => rfl | ⟨1, _⟩ => rfl | ⟨2, _⟩ => rfl
    rw [ei, hM, Ideal.ofBits_def, ofBits_neg_infinity, Ideal.hostUnary_exp_def, Ideal.subf_def, Ideal.maximumf_def, max_eq_right bot_le]
  -- their sum
  have hl : ∀ t, val_main_v21 (F := Ideal) (fun j => (q j : EReal)) (fun j => (k j : EReal)) (fun j => (kc j : EReal))
      (ix4 ⟨col.val / 256, by omega⟩ ⟨col.val / 64 % 4, by omega⟩ n t)
      = ∑ t, Ideal.exp (((logit q k kc n ⟨col.val / 64, by omega⟩ t : ℝ) : EReal) - (M : EReal)) := by
    intro t
    rw [val_main_v21_apply, val_main_v20_apply, val_main_v19_apply, val_main_cst_2_apply, Ideal.ofBits_def, Ideal.ofBits_zero, zero_add]
    refine Finset.sum_congr rfl fun u _ => ?_
    rw [← hx u]
    refine congrArg (val_main_v18 (F := Ideal) _ _ _) ?_
    funext x; match x with | ⟨0, _⟩ => rfl | ⟨1, _⟩ => rfl | ⟨2, _⟩ => rfl | ⟨3, _⟩ => rfl
  rw [val_main_v26_apply, val_main_v25_apply, val_main_v24_apply, val_main_v23_apply]
  unfold attend
  rw [← average_eq_at_once (by norm_num) _ _ M]
  refine Finset.sum_congr rfl fun t _ => ?_
  have el : lidx_main_v23 (idx_main_v24 (idx_main_v25 (ix2 n col))) t
      = ix3 t ⟨col.val / 256, by omega⟩ ⟨col.val % 64, by omega⟩ := by
    funext x; match x with
      | ⟨0, _⟩ => rfl
      | ⟨1, _⟩ => exact Fin.ext (show (n.val * 512 + col.val) / 256 % 2 = col.val / 256 by omega)
      | ⟨2, _⟩ => exact Fin.ext (show (n.val * 512 + col.val) % 64 = col.val % 64 by omega)
  have er : ridx_main_v23 (idx_main_v24 (idx_main_v25 (ix2 n col))) t
      = ix4 ⟨col.val / 256, by omega⟩ ⟨col.val / 64 % 4, by omega⟩ n t := by
    funext x; match x with
      | ⟨0, _⟩ => exact Fin.ext (show (n.val * 512 + col.val) / 256 % 2 = col.val / 256 by omega)
      | ⟨1, _⟩ => exact Fin.ext (show (n.val * 512 + col.val) / 64 % 4 = col.val / 64 % 4 by omega)
      | ⟨2, _⟩ => exact Fin.ext (show (n.val * 512 + col.val) / 512 = n.val by omega)
      | ⟨3, _⟩ => rfl
  rw [el, er, values_at, val_main_v22_apply, Ideal.hostDivf_def, hx, hl]

end Cert.Proof.Attn.Ref

end
-- ==== Proof.Attn.Algebraic.lean ====
/- The kernel and the reference have equal results where the scores' arguments are finite. -/
module

public import proofs.«01_k».proof.Defs
public import proofs.«01_k».proof.Proof.Attn.Final
public import proofs.«01_k».proof.Proof.Attn.Reference

@[expose] public section

noncomputable section

namespace Cert.Proof.Attn

open Idealize.ShloMosaic Idealize.ShloMosaic.TcCoe Idealize.SL.Sem

/-- The shape relations the precondition states. -/
instance preFacts : Cert.Pre_finite_scores.Facts := ⟨by decide, by decide, by decide⟩

/-- An extended real whose absolute value is below infinity is a real. -/
theorem real_of_abs (x : EReal) (h : FloatOps.cmpf (F := Ideal) (φ := .f32) .olt (FloatOps.hostAbsf (F := Ideal) (φ := .f32) x)
    (Ideal.ofBits .f32 0x7F800000#32) = 1#1) : x = ((x.toReal : ℝ) : EReal) := by
  rw [ofBits_infinity] at h
  have h' : max x (-x) < ⊤ := by
    by_contra hn
    have h : BitVec.ofBool (decide (max x (-x) < ⊤)) = 1#1 := h
    rw [decide_eq_false hn] at h
    exact absurd h (by decide)
  refine (EReal.coe_toReal ?_ ?_).symm
  · rintro rfl; simp at h'
  · rintro rfl; simp at h'

section
open Cert.KernelIdeal Cert.KernelIdeal.Gen

variable (m : (ℓ : Loc nD τ sig) → Buf (Elt Ideal) ℓ)

/-- Under the precondition the queries and the keys are reals. -/
theorem finite_args (h : Cert.Pre_KernelIdeal_finite_scores m) (c : Dev nD) :
    (argQ m c = fun j => (((argQ m c j).toReal : ℝ) : EReal)) ∧ (argK m c = fun j => (((argK m c j).toReal : ℝ) : EReal))
      ∧ (argKc m c = fun j => (((argKc m c j).toReal : ℝ) : EReal)) := by
  obtain ⟨h0, h1, h3⟩ := h c
  exact ⟨funext fun j => real_of_abs _ (congrFun h0 j), funext fun j => real_of_abs _ (congrFun h1 j),
    funext fun j => real_of_abs _ (congrFun h3 j)⟩

/-- The attention of the arguments, as the result array. -/
def result (c : Dev nD) : S16384x512.Idx → EReal := fun j =>
  attend (fun i => (argQ m c i).toReal) (fun i => (argK m c i).toReal) (argV m c) (fun i => (argKc m c i).toReal) (argVc m c)
    (j 0) (j 1)

/-- The kernel's run: the attention, and the arguments as they were. -/
theorem run_kernel (ρ : Dev nD → PrngReg) (h : Cert.Pre_KernelIdeal_finite_scores m) :
    θ_run (defs (F := Ideal)) (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r hr c => ⟨?_,
    (hr.1.rest_eq c main_arg0 (Pipeline.mem_restRefs_of main_arg0 (by decide) (by decide))).trans (V_main_arg0 m c),
    (hr.1.rest_eq c main_arg1 (Pipeline.mem_restRefs_of main_arg1 (by decide) (by decide))).trans (V_main_arg1 m c),
    (hr.1.rest_eq c main_arg2 (Pipeline.mem_restRefs_of main_arg2 (by decide) (by decide))).trans (V_main_arg2 m c),
    (hr.1.rest_eq c main_arg3 (Pipeline.mem_restRefs_of main_arg3 (by decide) (by decide))).trans (V_main_arg3 m c),
    (hr.1.rest_eq c main_arg4 (Pipeline.mem_restRefs_of main_arg4 (by decide) (by decide))).trans (V_main_arg4 m c)⟩)
    (run_main (F := Ideal) m ρ)
  obtain ⟨hq, hk, hkc⟩ := finite_args m h c
  exact (hr.1.out_eq c 3).trans (final m c _ _ _ hq hk hkc)

end

/-- The reference's term, of the same arguments. -/
theorem reference_result (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    Cert.ReferenceIdeal.Read.val_main_v26 (F := Ideal) (argQ m c) (argK m c) (argV m c) (argKc m c) (argVc m c) = result m c := by
  obtain ⟨hq, hk, hkc⟩ := finite_args m h c
  funext j
  have e := Ref.result_at (fun i => (argQ m c i).toReal) (fun i => (argK m c i).toReal) (argV m c)
    (fun i => (argKc m c i).toReal) (argVc m c) (j 0) (j 1)
  rw [← hq, ← hk, ← hkc] at e
  exact (congrArg (Cert.ReferenceIdeal.Read.val_main_v26 (F := Ideal) (argQ m c) (argK m c) (argV m c) (argKc m c) (argVc m c))
    (ix2_coords (a := 16384) (b := 512) j).symm).trans e

theorem algebraic : Cert.algebraic_KernelIdeal_ReferenceIdeal_pre_finite_scores := fun m g m' g' h ha => by
  refine ⟨result m, run_kernel m g h, ?_⟩
  refine (θ_run Cert.ReferenceIdeal.defs _ _).mono (fun r hr c => ⟨?_, (hr c).2⟩)
    (Cert.ReferenceIdeal.Value.run (F := Ideal) m' g')
  obtain ⟨h0, h1, h2, h3, h4⟩ := ha c
  refine (hr c).1.trans ?_
  rw [Cert.ReferenceIdeal.Read.val_main_v26_eq, h0, h1, h2, h3, h4]
  exact reference_result m h c

end Cert.Proof.Attn

end
-- ==== Proof.Proj.Spec.lean ====
/- What an input projection's results are, as functions of its arguments: the vocabulary both programs are brought to. -/
module

public import proofs.«01_k».proof.Proof.Attn.Payload
public import proofs.«01_k».proof.Proof.Attn.Spec
public import Idealize.ShloMosaic.Lib.Pipeline.Value

@[expose] public section

noncomputable section

namespace Cert.Proof.Proj

open Idealize.ShloMosaic

/-- The extended reals over a table of two axes. -/
abbrev Table (a b : ℕ) : Type := (⟨2, ![a, b]⟩ : Shape).Idx → EReal

/-- The projection: at row `i` and column `j`, the row scaled by one plus `sc` and moved by `sh`, against the column of the
    weights. -/
def project {a b : ℕ} (x : Table a 1024) (sc sh : Table 1 1024) (w : Table 1024 b) (i : Fin a) (j : Fin b) : EReal :=
  ∑ l : Fin 1024, (x (ix2 i l) * (1 + sc (ix2 0 l)) + sh (ix2 0 l)) * w (ix2 l j)

/-- The columns from `o` on. -/
def columns {a b n : ℕ} (f : Fin a → Fin b → EReal) (o : ℕ) (h : o + n ≤ b) : Table a n := fun j =>
  f (j 0) ⟨o + (j 1).val, lt_of_lt_of_le (Nat.add_lt_add_left (j 1).isLt o) h⟩

/-- The offsets of a load of a whole block. -/
theorem zero_offsets : (![0, 0] : Fin 2 → ℕ) = fun _ => 0 := by
  funext a; fin_cases a <;> rfl

/-- A load of the columns from `o` on, at an index. -/
theorem ld_columns {a b n o : ℕ} (x : Vec Ideal ⟨2, ![a, b]⟩ .bf16)
    (inb : ∀ y, (![0, o] : Fin 2 → ℕ) y + (![a, n] : Fin 2 → ℕ) y ≤ (⟨2, ![a, b]⟩ : Shape).size y) (h : o + n ≤ b) (i : Fin a) (j : Fin n) :
    View.ld x (Rect.unit (s := ⟨2, ![a, b]⟩) ![0, o] ![a, n] inb) (ix2 i j)
      = x (ix2 i ⟨o + j.val, by omega⟩) := by
  refine congrArg x (funext fun y => Fin.ext ?_)
  match y with
  | ⟨0, _⟩ => show 0 + 1 * i.val = i.val; omega
  | ⟨1, _⟩ => show o + 1 * j.val = o + j.val; omega

end Cert.Proof.Proj

end
-- ==== Proof.Proj.AB.lean ====
/- The input projection of the even layer, whose columns are the neighbourhood attention's queries, keys and values and the
   long convolution's input: the kernel and the reference have equal results. -/
module

public import proofs.«01_k».proof.Defs
public import proofs.«01_k».proof.Proof.Proj.Spec
public import proofs.«01_k».proof.Proof.Gen.ProjABIdeal.Value
public import proofs.«01_k».proof.Proof.Gen.RefABIdeal.Run
public import proofs.«01_k».proof.Proof.Gen.RefABIdeal.Read
public import Idealize.ShloMosaic.Lib.StableHlo.ReadAt
public import Idealize.ShloMosaic.Lib.Pipeline.ValueKit.Geometry

@[expose] public section

noncomputable section

namespace Cert.Proof.Proj.AB

open Idealize.ShloMosaic Idealize.ShloMosaic.TcCoe Idealize.SL.Sem

section
open Cert.ProjABIdeal Cert.ProjABIdeal.Gen

/-! The block a grid point leaves, from the blocks it finds. -/

variable (x : Vec Ideal S512x1024 .f32) (sc sh : Vec Ideal S1x1024 .f32) (w : Vec Ideal S1024x3072 .bf16)

theorem pay1_at (i : Fin 512) (l : Fin 1024) :
    k0_pay1 (F := Ideal) x sc sh (ix2 i l) = x (ix2 i l) * (1 + sc (ix2 0 l)) + sh (ix2 0 l) := by
  pointwise [k0_pay1]

theorem pay2_at (v : Vec Ideal S1024x512 .bf16) (i : Fin 512) (j : Fin 512) :
    k0_pay2 (F := Ideal) x sc sh v (ix2 i j) = project x sc sh v i j * ((1 / 8 : ℝ) : EReal) := by
  unfold project
  pointwise [k0_pay2]
  simp only [pay1_at, Attn.ofBits_eighth]

theorem pay3_at (v : Vec Ideal S1024x512 .bf16) (i : Fin 512) (j : Fin 512) :
    k0_pay3 (F := Ideal) x sc sh v (ix2 i j) = project x sc sh v i j := by
  unfold project
  pointwise [k0_pay3]
  simp only [pay1_at]

theorem pay4_at (v : Vec Ideal S1024x512 .bf16) (i : Fin 512) (j : Fin 512) :
    k0_pay4 (F := Ideal) x sc sh v (ix2 i j) = project x sc sh v i j := by
  unfold project
  pointwise [k0_pay4]
  simp only [pay1_at]

theorem pay5_at (v : Vec Ideal S1024x1536 .bf16) (i : Fin 512) (j : Fin 1536) :
    k0_pay5 (F := Ideal) x sc sh v (ix2 i j) = project x sc sh v i j := by
  unfold project
  pointwise [k0_pay5]
  simp only [pay1_at]

theorem out4_at (i : Fin 512) (j : Fin 512) :
    out0_4 (F := Ideal) x sc sh w (ix2 i j) = project x sc sh w i ⟨0 + j.val, by omega⟩ * ((1 / 8 : ℝ) : EReal) := by
  unfold out0_4
  rw [View.canon_unit_zero zero_offsets, View.ld_unit_zero zero_offsets, View.ld_unit_zero zero_offsets, View.ld_unit_zero zero_offsets, pay2_at]
  unfold project
  simp only [ld_columns w inb_S1024x3072_S1024x512_0_0 (by norm_num)]

theorem out5_at (i : Fin 512) (j : Fin 512) :
    out0_5 (F := Ideal) x sc sh w (ix2 i j) = project x sc sh w i ⟨512 + j.val, by omega⟩ := by
  unfold out0_5
  rw [View.canon_unit_zero zero_offsets, View.ld_unit_zero zero_offsets, View.ld_unit_zero zero_offsets, View.ld_unit_zero zero_offsets, pay3_at]
  unfold project
  simp only [ld_columns w inb_S1024x3072_S1024x512_0_512 (by norm_num)]

theorem out6_at (i : Fin 512) (j : Fin 512) :
    out0_6 (F := Ideal) x sc sh w (ix2 i j) = project x sc sh w i ⟨1024 + j.val, by omega⟩ := by
  unfold out0_6
  rw [View.canon_unit_zero zero_offsets, View.ld_unit_zero zero_offsets, View.ld_unit_zero zero_offsets, View.ld_unit_zero zero_offsets, pay4_at]
  unfold project
  simp only [ld_columns w inb_S1024x3072_S1024x512_0_1024 (by norm_num)]

theorem out7_at (i : Fin 512) (j : Fin 1536) :
    out0_7 (F := Ideal) x sc sh w (ix2 i j) = project x sc sh w i ⟨1536 + j.val, by omega⟩ := by
  unfold out0_7
  rw [View.canon_unit_zero zero_offsets, View.ld_unit_zero zero_offsets, View.ld_unit_zero zero_offsets, View.ld_unit_zero zero_offsets, pay5_at]
  unfold project
  simp only [ld_columns w inb_S1024x3072_S1024x1536_0_1536 (by norm_num)]

/-! The arrays after the run. -/

variable (m : (ℓ : Loc nD τ sig) → Buf (Elt Ideal) ℓ) (c : Dev nD)

/-- The argument arrays, as functions of an index. -/
abbrev argX : S16384x1024.Idx → EReal := m ((c.tc : Thread nD τ).loc main_arg0)
abbrev argScale : S1x1024.Idx → EReal := m ((c.tc : Thread nD τ).loc main_arg1)
abbrev argShift : S1x1024.Idx → EReal := m ((c.tc : Thread nD τ).loc main_arg2)
abbrev argW : S1024x3072.Idx → EReal := m ((c.tc : Thread nD τ).loc main_arg3)

/-- The projection of the arguments. -/
abbrev result : Fin 16384 → Fin 3072 → EReal := project (argX m c) (argScale m c) (argShift m c) (argW m c)

/-- The weights handed to the kernel are the argument's. -/
theorem weights_eq : (V (F := Ideal) m c main_v0 : S1024x3072.Idx → EReal) = argW m c := by
  funext j
  rw [← Attn.ix2_coords (a := 1024) (b := 3072) j]
  unfold V
  after_reads_at

/-- The blocks the windows name at each grid point. -/
theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)
theorem index0_7 : ∀ t : Fin cfg0.N, win0_7.index t = ![t.val, 0] := (by decide +kernel : ∀ t : Fin grid0.N, _)

theorem point_lt (t : Fin cfg0.N) : t.val < 32 := t.isLt

theorem block0_at (t : Fin cfg0.N) (i : Fin 512) (l : Fin 1024) :
    iblk (F := Ideal) m c 0 t (ix2 i l) = argX m c (ix2 ⟨512 * t.val + i.val, by have := point_lt t; omega⟩ l) := by
  unfold argX
  rw [← V_main_arg0 (F := Ideal) m c]
  blk_simp [iblk]
  blk_ext [index0_0]

theorem block1_at (t : Fin cfg0.N) (l : Fin 1024) : iblk (F := Ideal) m c 1 t (ix2 0 l) = argScale m c (ix2 0 l) := by
  unfold argScale
  rw [← V_main_arg1 (F := Ideal) m c]
  blk_simp [iblk]
  blk_ext [index0_1]

theorem block2_at (t : Fin cfg0.N) (l : Fin 1024) : iblk (F := Ideal) m c 2 t (ix2 0 l) = argShift m c (ix2 0 l) := by
  unfold argShift
  rw [← V_main_arg2 (F := Ideal) m c]
  blk_simp [iblk]
  blk_ext [index0_2]

theorem block3_at (t : Fin cfg0.N) (l : Fin 1024) (j : Fin 3072) : iblk (F := Ideal) m c 3 t (ix2 l j) = argW m c (ix2 l j) := by
  rw [← weights_eq m c]
  blk_simp [iblk]
  blk_ext [index0_3]

/-- The projection of a point's blocks is the projection of the arguments, at the point's rows. -/
theorem project_blocks (t : Fin cfg0.N) (i : Fin 512) (j : Fin 3072) :
    project (iblk (F := Ideal) m c 0 t) (iblk (F := Ideal) m c 1 t) (iblk (F := Ideal) m c 2 t) (iblk (F := Ideal) m c 3 t) i j
      = result m c ⟨512 * t.val + i.val, by have := point_lt t; omega⟩ j := by
  refine Finset.sum_congr rfl fun l _ => ?_
  rw [block0_at, block1_at, block2_at, block3_at]

theorem final4 : (dats (F := Ideal) m 0 c).arrAt 4 cfg0.N = fun j : S16384x512.Idx => columns (n := 512) (result m c) 0 (by norm_num) j * ((1 / 8 : ℝ) : EReal) := by
  refine (dats (F := Ideal) m 0 c).arrAt_eq_of_covers 4 _ (by decide +kernel) fun t hf y => ?_
  blk_simp
  rw [after0_4]
  refine Eq.trans (congrArg (out0_4 (F := Ideal) _ _ _ _) (Attn.ix2_coords (a := 512) (b := 512) y).symm) ?_
  refine (out4_at _ _ _ _ (y 0) (y 1)).trans ?_
  refine congrArg (· * ((1 / 8 : ℝ) : EReal)) ?_
  refine (project_blocks m c t (y 0) _).trans ?_
  unfold columns
  congr 1
  · apply Fin.ext
    refine Eq.trans (b := 512 * t.val + (y 0).val) rfl ?_
    blk_simp [index0_4]
    omega
  · apply Fin.ext
    refine Eq.trans (b := 0 + (y 1).val) rfl ?_
    blk_simp [index0_4]

theorem final5 : (dats (F := Ideal) m 0 c).arrAt 5 cfg0.N = columns (n := 512) (result m c) 512 (by norm_num) := by
  refine (dats (F := Ideal) m 0 c).arrAt_eq_of_covers 5 _ (by decide +kernel) fun t hf y => ?_
  blk_simp
  rw [after0_5]
  refine Eq.trans (congrArg (out0_5 (F := Ideal) _ _ _ _) (Attn.ix2_coords (a := 512) (b := 512) y).symm) ?_
  refine (out5_at _ _ _ _ (y 0) (y 1)).trans ?_
  refine (project_blocks m c t (y 0) _).trans ?_
  unfold columns
  congr 1
  · apply Fin.ext
    refine Eq.trans (b := 512 * t.val + (y 0).val) rfl ?_
    blk_simp [index0_5]
    omega
  · apply Fin.ext
    refine Eq.trans (b := 512 + (y 1).val) rfl ?_
    blk_simp [index0_5]

theorem final6 : (dats (F := Ideal) m 0 c).arrAt 6 cfg0.N = columns (n := 512) (result m c) 1024 (by norm_num) := by
  refine (dats (F := Ideal) m 0 c).arrAt_eq_of_covers 6 _ (by decide +kernel) fun t hf y => ?_
  blk_simp
  rw [after0_6]
  refine Eq.trans (congrArg (out0_6 (F := Ideal) _ _ _ _) (Attn.ix2_coords (a := 512) (b := 512) y).symm) ?_
  refine (out6_at _ _ _ _ (y 0) (y 1)).trans ?_
  refine (project_blocks m c t (y 0) _).trans ?_
  unfold columns
  congr 1
  · apply Fin.ext
    refine Eq.trans (b := 512 * t.val + (y 0).val) rfl ?_
    blk_simp [index0_6]
    omega
  · apply Fin.ext
    refine Eq.trans (b := 1024 + (y 1).val) rfl ?_
    blk_simp [index0_6]

theorem final7 : (dats (F := Ideal) m 0 c).arrAt 7 cfg0.N = columns (n := 1536) (result m c) 1536 (by norm_num) := by
  refine (dats (F := Ideal) m 0 c).arrAt_eq_of_covers 7 _ (by decide +kernel) fun t hf y => ?_
  blk_simp
  rw [after0_7]
  refine Eq.trans (congrArg (out0_7 (F := Ideal) _ _ _ _) (Attn.ix2_coords (a := 512) (b := 1536) y).symm) ?_
  refine (out7_at _ _ _ _ (y 0) (y 1)).trans ?_
  refine (project_blocks m c t (y 0) _).trans ?_
  unfold columns
  congr 1
  · apply Fin.ext
    refine Eq.trans (b := 512 * t.val + (y 0).val) rfl ?_
    blk_simp [index0_7]
    omega
  · apply Fin.ext
    refine Eq.trans (b := 1536 + (y 1).val) rfl ?_
    blk_simp [index0_7]

end

section
open Cert.RefABIdeal Cert.RefABIdeal.Read

/-! The reference's results, of the same arguments. -/

variable (x : S16384x1024.Idx → EReal) (sc sh : S1x1024.Idx → EReal) (w : S1024x3072.Idx → EReal)

theorem dot_at (i : Fin 16384) (j : Fin 3072) : val_main_v6 (F := Ideal) x sc sh w (ix2 i j) = project x sc sh w i j := by
  rw [val_main_v6_apply]
  refine Finset.sum_congr rfl fun l _ => ?_
  have el : lidx_main_v6 (ix2 i j) l = ix2 i l := by
    funext a; match a with | ⟨0, _⟩ => rfl | ⟨1, _⟩ => rfl
  have er : ridx_main_v6 (ix2 i j) l = ix2 l j := by
    funext a; match a with | ⟨0, _⟩ => rfl | ⟨1, _⟩ => rfl
  rw [el, er]
  unfold val_main_v5 val_main_v4 val_main_v3 val_main_v2 val_main_v1 val_main_v0 val_main_cst
  pointwise

theorem val_main_v13_columns : val_main_v13 (F := Ideal) x sc sh w = fun j : S16384x512.Idx => columns (n := 512) (project x sc sh w) 0 (by norm_num) j * ((1 / 8 : ℝ) : EReal) := by
  funext j
  have hj : (j 1).val < 512 := (j 1).isLt
  have e : idx_main_v7 j = ix2 ⟨(j 0).val, (j 0).isLt⟩ ⟨0 + (j 1).val, by omega⟩ := by
    funext a; match a with
      | ⟨0, _⟩ => rfl
      | ⟨1, _⟩ => exact Fin.ext (by show (j 1).val = 0 + (j 1).val; omega)
  rw [val_main_v13_apply, val_main_v12_apply, val_main_v11_apply, val_main_cst_0_apply, Ideal.truncf_def, Ideal.mulf_def, Ideal.ofBits_def, Attn.ofBits_eighth, val_main_v7_apply]
  refine congrArg (· * ((1 / 8 : ℝ) : EReal)) ?_
  exact (congrArg (val_main_v6 (F := Ideal) x sc sh w) e).trans (dot_at x sc sh w _ _)

theorem val_main_v14_columns : val_main_v14 (F := Ideal) x sc sh w = columns (n := 512) (project x sc sh w) 512 (by norm_num) := by
  funext j
  have hj : (j 1).val < 512 := (j 1).isLt
  have e : idx_main_v8 j = ix2 ⟨(j 0).val, (j 0).isLt⟩ ⟨512 + (j 1).val, by omega⟩ := by
    funext a; match a with
      | ⟨0, _⟩ => rfl
      | ⟨1, _⟩ => exact Fin.ext (by rfl)
  rw [val_main_v14_apply, Ideal.truncf_def, val_main_v8_apply]
  exact (congrArg (val_main_v6 (F := Ideal) x sc sh w) e).trans (dot_at x sc sh w _ _)

theorem val_main_v15_columns : val_main_v15 (F := Ideal) x sc sh w = columns (n := 512) (project x sc sh w) 1024 (by norm_num) := by
  funext j
  have hj : (j 1).val < 512 := (j 1).isLt
  have e : idx_main_v9 j = ix2 ⟨(j 0).val, (j 0).isLt⟩ ⟨1024 + (j 1).val, by omega⟩ := by
    funext a; match a with
      | ⟨0, _⟩ => rfl
      | ⟨1, _⟩ => exact Fin.ext (by rfl)
  rw [val_main_v15_apply, Ideal.truncf_def, val_main_v9_apply]
  exact (congrArg (val_main_v6 (F := Ideal) x sc sh w) e).trans (dot_at x sc sh w _ _)

theorem val_main_v10_columns : val_main_v10 (F := Ideal) x sc sh w = columns (n := 1536) (project x sc sh w) 1536 (by norm_num) := by
  funext j
  have hj : (j 1).val < 1536 := (j 1).isLt
  have e : idx_main_v10 j = ix2 ⟨(j 0).val, (j 0).isLt⟩ ⟨1536 + (j 1).val, by omega⟩ := by
    funext a; match a with
      | ⟨0, _⟩ => rfl
      | ⟨1, _⟩ => exact Fin.ext (by rfl)
  rw [val_main_v10_apply]
  exact (congrArg (val_main_v6 (F := Ideal) x sc sh w) e).trans (dot_at x sc sh w _ _)

end

/-- The kernel and the reference have equal results. -/
theorem algebraic : Cert.algebraic_ProjABIdeal_RefABIdeal := fun m g m' g' _ ha => by
  refine ⟨fun c => fun j : Cert.ProjABIdeal.S16384x512.Idx => columns (n := 512) (result m c) 0 (by norm_num) j * ((1 / 8 : ℝ) : EReal),
    fun c => columns (n := 512) (result m c) 512 (by norm_num), fun c => columns (n := 512) (result m c) 1024 (by norm_num),
    fun c => columns (n := 1536) (result m c) 1536 (by norm_num), ?_, ?_⟩
  · refine (θ_run Cert.ProjABIdeal.defs _ _).mono (fun r hr c => ?_) (Cert.ProjABIdeal.Value.run_blocks (F := Ideal) m g)
    obtain ⟨h4, h5, h6, h7, hk⟩ := hr c
    exact ⟨h4.trans (final4 m c), h5.trans (final5 m c), h6.trans (final6 m c), h7.trans (final7 m c), hk⟩
  · refine (θ_run Cert.RefABIdeal.defs _ _).mono (fun r hr c => ?_) (Cert.RefABIdeal.Value.run (F := Ideal) m' g')
    obtain ⟨h0, h1, h2, h3⟩ := ha c
    obtain ⟨r0, r1, r2, r3, hk⟩ := hr c
    refine ⟨r0.trans ?_, r1.trans ?_, r2.trans ?_, r3.trans ?_, hk⟩
    · rw [Cert.RefABIdeal.Read.val_main_v13_eq, h0, h1, h2, h3]
      exact val_main_v13_columns _ _ _ _
    · rw [Cert.RefABIdeal.Read.val_main_v14_eq, h0, h1, h2, h3]
      exact val_main_v14_columns _ _ _ _
    · rw [Cert.RefABIdeal.Read.val_main_v15_eq, h0, h1, h2, h3]
      exact val_main_v15_columns _ _ _ _
    · rw [Cert.RefABIdeal.Read.val_main_v10_eq, h0, h1, h2, h3]
      exact val_main_v10_columns _ _ _ _

end Cert.Proof.Proj.AB

end
-- ==== Proof.Proj.CD.lean ====
/- The input projection of the odd layer, whose columns are the grouped attention's queries, keys and values and the
   state space's input: the kernel and the reference have equal results. -/
module

public import proofs.«01_k».proof.Defs
public import proofs.«01_k».proof.Proof.Proj.Spec
public import proofs.«01_k».proof.Proof.Gen.ProjCDIdeal.Value
public import proofs.«01_k».proof.Proof.Gen.RefCDIdeal.Run
public import proofs.«01_k».proof.Proof.Gen.RefCDIdeal.Read
public import Idealize.ShloMosaic.Lib.StableHlo.ReadAt
public import Idealize.ShloMosaic.Lib.Pipeline.ValueKit.Geometry

@[expose] public section

noncomputable section

namespace Cert.Proof.Proj.CD

open Idealize.ShloMosaic Idealize.ShloMosaic.TcCoe Idealize.SL.Sem

section
open Cert.ProjCDIdeal Cert.ProjCDIdeal.Gen

/-! The block a grid point leaves, from the blocks it finds. -/

variable (x : Vec Ideal S512x1024 .f32) (sc sh : Vec Ideal S1x1024 .f32) (w : Vec Ideal S1024x1280 .bf16)

theorem pay1_at (i : Fin 512) (l : Fin 1024) :
    k0_pay1 (F := Ideal) x sc sh (ix2 i l) = x (ix2 i l) * (1 + sc (ix2 0 l)) + sh (ix2 0 l) := by
  pointwise [k0_pay1]

theorem pay2_at (v : Vec Ideal S1024x512 .bf16) (i : Fin 512) (j : Fin 512) :
    k0_pay2 (F := Ideal) x sc sh v (ix2 i j) = project x sc sh v i j := by
  unfold project
  pointwise [k0_pay2]
  simp only [pay1_at]

theorem pay3_at (v : Vec Ideal S1024x128 .bf16) (i : Fin 512) (j : Fin 128) :
    k0_pay3 (F := Ideal) x sc sh v (ix2 i j) = project x sc sh v i j := by
  unfold project
  pointwise [k0_pay3]
  simp only [pay1_at]

theorem pay4_at (v : Vec Ideal S1024x128 .bf16) (i : Fin 512) (j : Fin 128) :
    k0_pay4 (F := Ideal) x sc sh v (ix2 i j) = project x sc sh v i j := by
  unfold project
  pointwise [k0_pay4]
  simp only [pay1_at]

theorem pay5_at (v : Vec Ideal S1024x512 .bf16) (i : Fin 512) (j : Fin 512) :
    k0_pay5 (F := Ideal) x sc sh v (ix2 i j) = project x sc sh v i j := by
  unfold project
  pointwise [k0_pay5]
  simp only [pay1_at]

theorem out4_at (i : Fin 512) (j : Fin 512) :
    out0_4 (F := Ideal) x sc sh w (ix2 i j) = project x sc sh w i ⟨0 + j.val, by omega⟩ := by
  unfold out0_4
  rw [View.canon_unit_zero zero_offsets, View.ld_unit_zero zero_offsets, View.ld_unit_zero zero_offsets, View.ld_unit_zero zero_offsets, pay2_at]
  unfold project
  simp only [ld_columns w inb_S1024x1280_S1024x512_0_0 (by norm_num)]

theorem out5_at (i : Fin 512) (j : Fin 128) :
    out0_5 (F := Ideal) x sc sh w (ix2 i j) = project x sc sh w i ⟨512 + j.val, by omega⟩ := by
  unfold out0_5
  rw [View.canon_unit_zero zero_offsets, View.ld_unit_zero zero_offsets, View.ld_unit_zero zero_offsets, View.ld_unit_zero zero_offsets, pay3_at]
  unfold project
  simp only [ld_columns w inb_S1024x1280_S1024x128_0_512 (by norm_num)]

theorem out6_at (i : Fin 512) (j : Fin 128) :
    out0_6 (F := Ideal) x sc sh w (ix2 i j) = project x sc sh w i ⟨640 + j.val, by omega⟩ := by
  unfold out0_6
  rw [View.canon_unit_zero zero_offsets, View.ld_unit_zero zero_offsets, View.ld_unit_zero zero_offsets, View.ld_unit_zero zero_offsets, pay4_at]
  unfold project
  simp only [ld_columns w inb_S1024x1280_S1024x128_0_640 (by norm_num)]

theorem out7_at (i : Fin 512) (j : Fin 512) :
    out0_7 (F := Ideal) x sc sh w (ix2 i j) = project x sc sh w i ⟨768 + j.val, by omega⟩ := by
  unfold out0_7
  rw [View.canon_unit_zero zero_offsets, View.ld_unit_zero zero_offsets, View.ld_unit_zero zero_offsets, View.ld_unit_zero zero_offsets, pay5_at]
  unfold project
  simp only [ld_columns w inb_S1024x1280_S1024x512_0_768 (by norm_num)]

/-! The arrays after the run. -/

variable (m : (ℓ : Loc nD τ sig) → Buf (Elt Ideal) ℓ) (c : Dev nD)

/-- The argument arrays, as functions of an index. -/
abbrev argX : S16384x1024.Idx → EReal := m ((c.tc : Thread nD τ).loc main_arg0)
abbrev argScale : S1x1024.Idx → EReal := m ((c.tc : Thread nD τ).loc main_arg1)
abbrev argShift : S1x1024.Idx → EReal := m ((c.tc : Thread nD τ).loc main_arg2)
abbrev argW : S1024x1280.Idx → EReal := m ((c.tc : Thread nD τ).loc main_arg3)

/-- The projection of the arguments. -/
abbrev result : Fin 16384 → Fin 1280 → EReal := project (argX m c) (argScale m c) (argShift m c) (argW m c)

/-- The weights handed to the kernel are the argument's. -/
theorem weights_eq : (V (F := Ideal) m c main_v0 : S1024x1280.Idx → EReal) = argW m c := by
  funext j
  rw [← Attn.ix2_coords (a := 1024) (b := 1280) j]
  unfold V
  after_reads_at

/-- The blocks the windows name at each grid point. -/
theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)
theorem index0_7 : ∀ t : Fin cfg0.N, win0_7.index t = ![t.val, 0] := (by decide +kernel : ∀ t : Fin grid0.N, _)

theorem point_lt (t : Fin cfg0.N) : t.val < 32 := t.isLt

theorem block0_at (t : Fin cfg0.N) (i : Fin 512) (l : Fin 1024) :
    iblk (F := Ideal) m c 0 t (ix2 i l) = argX m c (ix2 ⟨512 * t.val + i.val, by have := point_lt t; omega⟩ l) := by
  unfold argX
  rw [← V_main_arg0 (F := Ideal) m c]
  blk_simp [iblk]
  blk_ext [index0_0]

theorem block1_at (t : Fin cfg0.N) (l : Fin 1024) : iblk (F := Ideal) m c 1 t (ix2 0 l) = argScale m c (ix2 0 l) := by
  unfold argScale
  rw [← V_main_arg1 (F := Ideal) m c]
  blk_simp [iblk]
  blk_ext [index0_1]

theorem block2_at (t : Fin cfg0.N) (l : Fin 1024) : iblk (F := Ideal) m c 2 t (ix2 0 l) = argShift m c (ix2 0 l) := by
  unfold argShift
  rw [← V_main_arg2 (F := Ideal) m c]
  blk_simp [iblk]
  blk_ext [index0_2]

theorem block3_at (t : Fin cfg0.N) (l : Fin 1024) (j : Fin 1280) : iblk (F := Ideal) m c 3 t (ix2 l j) = argW m c (ix2 l j) := by
  rw [← weights_eq m c]
  blk_simp [iblk]
  blk_ext [index0_3]

/-- The projection of a point's blocks is the projection of the arguments, at the point's rows. -/
theorem project_blocks (t : Fin cfg0.N) (i : Fin 512) (j : Fin 1280) :
    project (iblk (F := Ideal) m c 0 t) (iblk (F := Ideal) m c 1 t) (iblk (F := Ideal) m c 2 t) (iblk (F := Ideal) m c 3 t) i j
      = result m c ⟨512 * t.val + i.val, by have := point_lt t; omega⟩ j := by
  refine Finset.sum_congr rfl fun l _ => ?_
  rw [block0_at, block1_at, block2_at, block3_at]

theorem final4 : (dats (F := Ideal) m 0 c).arrAt 4 cfg0.N = columns (n := 512) (result m c) 0 (by norm_num) := by
  refine (dats (F := Ideal) m 0 c).arrAt_eq_of_covers 4 _ (by decide +kernel) fun t hf y => ?_
  blk_simp
  rw [after0_4]
  refine Eq.trans (congrArg (out0_4 (F := Ideal) _ _ _ _) (Attn.ix2_coords (a := 512) (b := 512) y).symm) ?_
  refine (out4_at _ _ _ _ (y 0) (y 1)).trans ?_
  refine (project_blocks m c t (y 0) _).trans ?_
  unfold columns
  congr 1
  · apply Fin.ext
    refine Eq.trans (b := 512 * t.val + (y 0).val) rfl ?_
    blk_simp [index0_4]
    omega
  · apply Fin.ext
    refine Eq.trans (b := 0 + (y 1).val) rfl ?_
    blk_simp [index0_4]

theorem final5 : (dats (F := Ideal) m 0 c).arrAt 5 cfg0.N = columns (n := 128) (result m c) 512 (by norm_num) := by
  refine (dats (F := Ideal) m 0 c).arrAt_eq_of_covers 5 _ (by decide +kernel) fun t hf y => ?_
  blk_simp
  rw [after0_5]
  refine Eq.trans (congrArg (out0_5 (F := Ideal) _ _ _ _) (Attn.ix2_coords (a := 512) (b := 128) y).symm) ?_
  refine (out5_at _ _ _ _ (y 0) (y 1)).trans ?_
  refine (project_blocks m c t (y 0) _).trans ?_
  unfold columns
  congr 1
  · apply Fin.ext
    refine Eq.trans (b := 512 * t.val + (y 0).val) rfl ?_
    blk_simp [index0_5]
    omega
  · apply Fin.ext
    refine Eq.trans (b := 512 + (y 1).val) rfl ?_
    blk_simp [index0_5]

theorem final6 : (dats (F := Ideal) m 0 c).arrAt 6 cfg0.N = columns (n := 128) (result m c) 640 (by norm_num) := by
  refine (dats (F := Ideal) m 0 c).arrAt_eq_of_covers 6 _ (by decide +kernel) fun t hf y => ?_
  blk_simp
  rw [after0_6]
  refine Eq.trans (congrArg (out0_6 (F := Ideal) _ _ _ _) (Attn.ix2_coords (a := 512) (b := 128) y).symm) ?_
  refine (out6_at _ _ _ _ (y 0) (y 1)).trans ?_
  refine (project_blocks m c t (y 0) _).trans ?_
  unfold columns
  congr 1
  · apply Fin.ext
    refine Eq.trans (b := 512 * t.val + (y 0).val) rfl ?_
    blk_simp [index0_6]
    omega
  · apply Fin.ext
    refine Eq.trans (b := 640 + (y 1).val) rfl ?_
    blk_simp [index0_6]

theorem final7 : (dats (F := Ideal) m 0 c).arrAt 7 cfg0.N = columns (n := 512) (result m c) 768 (by norm_num) := by
  refine (dats (F := Ideal) m 0 c).arrAt_eq_of_covers 7 _ (by decide +kernel) fun t hf y => ?_
  blk_simp
  rw [after0_7]
  refine Eq.trans (congrArg (out0_7 (F := Ideal) _ _ _ _) (Attn.ix2_coords (a := 512) (b := 512) y).symm) ?_
  refine (out7_at _ _ _ _ (y 0) (y 1)).trans ?_
  refine (project_blocks m c t (y 0) _).trans ?_
  unfold columns
  congr 1
  · apply Fin.ext
    refine Eq.trans (b := 512 * t.val + (y 0).val) rfl ?_
    blk_simp [index0_7]
    omega
  · apply Fin.ext
    refine Eq.trans (b := 768 + (y 1).val) rfl ?_
    blk_simp [index0_7]

end

section
open Cert.RefCDIdeal Cert.RefCDIdeal.Read

/-! The reference's results, of the same arguments. -/

variable (x : S16384x1024.Idx → EReal) (sc sh : S1x1024.Idx → EReal) (w : S1024x1280.Idx → EReal)

theorem dot_at (i : Fin 16384) (j : Fin 1280) : val_main_v6 (F := Ideal) x sc sh w (ix2 i j) = project x sc sh w i j := by
  rw [val_main_v6_apply]
  refine Finset.sum_congr rfl fun l _ => ?_
  have el : lidx_main_v6 (ix2 i j) l = ix2 i l := by
    funext a; match a with | ⟨0, _⟩ => rfl | ⟨1, _⟩ => rfl
  have er : ridx_main_v6 (ix2 i j) l = ix2 l j := by
    funext a; match a with | ⟨0, _⟩ => rfl | ⟨1, _⟩ => rfl
  rw [el, er]
  unfold val_main_v5 val_main_v4 val_main_v3 val_main_v2 val_main_v1 val_main_v0 val_main_cst
  pointwise

theorem val_main_v7_columns : val_main_v7 (F := Ideal) x sc sh w = columns (n := 512) (project x sc sh w) 0 (by norm_num) := by
  funext j
  have hj : (j 1).val < 512 := (j 1).isLt
  have e : idx_main_v7 j = ix2 ⟨(j 0).val, (j 0).isLt⟩ ⟨0 + (j 1).val, by omega⟩ := by
    funext a; match a with
      | ⟨0, _⟩ => rfl
      | ⟨1, _⟩ => exact Fin.ext (by show (j 1).val = 0 + (j 1).val; omega)
  rw [val_main_v7_apply]
  exact (congrArg (val_main_v6 (F := Ideal) x sc sh w) e).trans (dot_at x sc sh w _ _)

theorem val_main_v8_columns : val_main_v8 (F := Ideal) x sc sh w = columns (n := 128) (project x sc sh w) 512 (by norm_num) := by
  funext j
  have hj : (j 1).val < 128 := (j 1).isLt
  have e : idx_main_v8 j = ix2 ⟨(j 0).val, (j 0).isLt⟩ ⟨512 + (j 1).val, by omega⟩ := by
    funext a; match a with
      | ⟨0, _⟩ => rfl
      | ⟨1, _⟩ => exact Fin.ext (by rfl)
  rw [val_main_v8_apply]
  exact (congrArg (val_main_v6 (F := Ideal) x sc sh w) e).trans (dot_at x sc sh w _ _)

theorem val_main_v11_columns : val_main_v11 (F := Ideal) x sc sh w = columns (n := 128) (project x sc sh w) 640 (by norm_num) := by
  funext j
  have hj : (j 1).val < 128 := (j 1).isLt
  have e : idx_main_v9 j = ix2 ⟨(j 0).val, (j 0).isLt⟩ ⟨640 + (j 1).val, by omega⟩ := by
    funext a; match a with
      | ⟨0, _⟩ => rfl
      | ⟨1, _⟩ => exact Fin.ext (by rfl)
  rw [val_main_v11_apply, Ideal.truncf_def, val_main_v9_apply]
  exact (congrArg (val_main_v6 (F := Ideal) x sc sh w) e).trans (dot_at x sc sh w _ _)

theorem val_main_v10_columns : val_main_v10 (F := Ideal) x sc sh w = columns (n := 512) (project x sc sh w) 768 (by norm_num) := by
  funext j
  have hj : (j 1).val < 512 := (j 1).isLt
  have e : idx_main_v10 j = ix2 ⟨(j 0).val, (j 0).isLt⟩ ⟨768 + (j 1).val, by omega⟩ := by
    funext a; match a with
      | ⟨0, _⟩ => rfl
      | ⟨1, _⟩ => exact Fin.ext (by rfl)
  rw [val_main_v10_apply]
  exact (congrArg (val_main_v6 (F := Ideal) x sc sh w) e).trans (dot_at x sc sh w _ _)

end

/-- The kernel and the reference have equal results. -/
theorem algebraic : Cert.algebraic_ProjCDIdeal_RefCDIdeal := fun m g m' g' _ ha => by
  refine ⟨fun c => columns (n := 512) (result m c) 0 (by norm_num), fun c => columns (n := 128) (result m c) 512 (by norm_num),
    fun c => columns (n := 128) (result m c) 640 (by norm_num), fun c => columns (n := 512) (result m c) 768 (by norm_num), ?_, ?_⟩
  · refine (θ_run Cert.ProjCDIdeal.defs _ _).mono (fun r hr c => ?_) (Cert.ProjCDIdeal.Value.run_blocks (F := Ideal) m g)
    obtain ⟨h4, h5, h6, h7, hk⟩ := hr c
    exact ⟨h4.trans (final4 m c), h5.trans (final5 m c), h6.trans (final6 m c), h7.trans (final7 m c), hk⟩
  · refine (θ_run Cert.RefCDIdeal.defs _ _).mono (fun r hr c => ?_) (Cert.RefCDIdeal.Value.run (F := Ideal) m' g')
    obtain ⟨h0, h1, h2, h3⟩ := ha c
    obtain ⟨r0, r1, r2, r3, hk⟩ := hr c
    refine ⟨r0.trans ?_, r1.trans ?_, r2.trans ?_, r3.trans ?_, hk⟩
    · rw [Cert.RefCDIdeal.Read.val_main_v7_eq, h0, h1, h2, h3]
      exact val_main_v7_columns _ _ _ _
    · rw [Cert.RefCDIdeal.Read.val_main_v8_eq, h0, h1, h2, h3]
      exact val_main_v8_columns _ _ _ _
    · rw [Cert.RefCDIdeal.Read.val_main_v11_eq, h0, h1, h2, h3]
      exact val_main_v11_columns _ _ _ _
    · rw [Cert.RefCDIdeal.Read.val_main_v10_eq, h0, h1, h2, h3]
      exact val_main_v10_columns _ _ _ _

end Cert.Proof.Proj.CD

end
-- ==== Proof.Out.Spec.lean ====
/- What an output projection's result is, as a function of its arguments: the vocabulary both programs are brought to. -/
module

public import proofs.«01_k».proof.Proof.Proj.Spec

@[expose] public section

noncomputable section

namespace Cert.Proof.Out

open Idealize.ShloMosaic
open Cert.Proof.Proj

/-- The weight of the residual, the count of a row, and what is added to its variance, as both programs spell them. -/
def alpha : EReal := Ideal.ofBits .f32 0x3FB504F3#32
def count : EReal := Ideal.ofBits .f32 0x44800000#32
def epsilon : EReal := Ideal.ofBits .f32 0x3727C5AC#32

/-- The row of the residual `x` scaled by `alpha`, and of the two branches against their weights, scaled by `g`. -/
def mix {r : ℕ} (a b : Table r 512) (wa wb : Table 512 1024) (x : Table r 1024) (g : Table 1 1024) (i : Fin r) (j : Fin 1024) : EReal :=
  alpha * x (ix2 i j) + g (ix2 0 j) * ((∑ l : Fin 512, a (ix2 i l) * wa (ix2 l j)) + ∑ l : Fin 512, b (ix2 i l) * wb (ix2 l j))

/-- The mean of a row, and the row less its mean. -/
def mean (f : Fin 1024 → EReal) : EReal := Ideal.div (∑ l : Fin 1024, f l) count
def centred (f : Fin 1024 → EReal) (j : Fin 1024) : EReal := f j - mean f

/-- One over the deviation of a row. -/
def scale (f : Fin 1024 → EReal) : EReal := Ideal.rsqrt (mean (fun l => centred f l * centred f l) + epsilon)

/-- The rows of the weights from `o` on. -/
def rowsFrom (w : Table 1024 1024) (o : ℕ) (h : o + 512 ≤ 1024) : Table 512 1024 := fun j =>
  w (ix2 ⟨o + (j 0).val, lt_of_lt_of_le (Nat.add_lt_add_left (j 0).isLt o) h⟩ (j 1))

/-- A sum over the joined branches is a sum over each. -/
theorem sum_halves (f : Fin 1024 → EReal) :
    ∑ l : Fin 1024, f l = (∑ l : Fin 512, f ⟨0 + l.val, by omega⟩) + ∑ l : Fin 512, f ⟨512 + l.val, by omega⟩ := by
  refine (Fin.sum_univ_add (a := 512) (b := 512) f).trans (congrArg₂ (· + ·) ?_ ?_)
  · refine Finset.sum_congr rfl fun l _ => congrArg f (Fin.ext ?_)
    show l.val = 0 + l.val
    omega
  · exact Finset.sum_congr rfl fun l _ => congrArg f (Fin.ext rfl)

end Cert.Proof.Out

end
-- ==== Proof.Out.Projection.lean ====
/- The output projection with its residual and its layer norm: the kernel and the reference have equal results. -/
module

public import proofs.«01_k».proof.Defs
public import proofs.«01_k».proof.Proof.Out.Spec
public import proofs.«01_k».proof.Proof.Gen.OutProjIdeal.Value
public import proofs.«01_k».proof.Proof.Gen.RefOutIdeal.Run
public import proofs.«01_k».proof.Proof.Gen.RefOutIdeal.Read
public import Idealize.ShloMosaic.Lib.StableHlo.ReadAt
public import Idealize.ShloMosaic.Lib.Pipeline.ValueKit.Geometry

@[expose] public section

noncomputable section

namespace Cert.Proof.Out

open Idealize.ShloMosaic Idealize.ShloMosaic.TcCoe Idealize.SL.Sem
open Cert.Proof.Proj

section
open Cert.OutProjIdeal Cert.OutProjIdeal.Gen

/-! The block a grid point leaves, from the blocks it finds. -/

variable (a b : Vec Ideal S512x512 .bf16) (w : Vec Ideal S1024x1024 .bf16) (wa wb : Vec Ideal S512x1024 .bf16)
  (x : Vec Ideal S512x1024 .f32) (g ga be : Vec Ideal S1x1024 .f32)

theorem pay4_at (i : Fin 512) (j : Fin 1024) :
    k0_pay4 (F := Ideal) a wa b wb x g (ix2 i j) = centred (mix a b wa wb x g i) j := by
  unfold centred mean mix
  pointwise [k0_pay4]
  rfl

theorem pay5_at (i : Fin 512) (j : Fin 1024) :
    k0_pay5 (F := Ideal) a wa b wb x g (ix2 i j) = scale (mix a b wa wb x g i) := by
  unfold scale
  rw [mean]
  pointwise [k0_pay5]
  simp only [pay4_at]
  rfl

theorem pay1_at (v17 v19 : FVec Ideal S1x1024 .f32) (v25 v34 : FVec Ideal S512x1024 .f32) (i : Fin 512) (j : Fin 1024) :
    k0_pay1 (F := Ideal) v17 v19 v25 v34 (ix2 i j) = v25 (ix2 i j) * v34 (ix2 i j) * v17 (ix2 0 j) + v19 (ix2 0 j) := by
  pointwise [k0_pay1]

/-- A load of the rows from `o` on. -/
theorem ld_rows {o : ℕ} (inb : ∀ y, (![o, 0] : Fin 2 → ℕ) y + S512x1024.size y ≤ S1024x1024.size y) (h : o + 512 ≤ 1024) :
    View.ld w (Rect.unit (s := S1024x1024) ![o, 0] S512x1024.size inb) = rowsFrom w o h := by
  funext j
  refine congrArg w (funext fun y => Fin.ext ?_)
  match y with
  | ⟨0, _⟩ => show o + 1 * (j 0).val = o + (j 0).val; omega
  | ⟨1, _⟩ => show 0 + 1 * (j 1).val = (j 1).val; omega

theorem out7_at (i : Fin 512) (j : Fin 1024) :
    out0_7 (F := Ideal) a b w x g ga be (ix2 i j)
      = centred (mix a b (rowsFrom w 0 (by norm_num)) (rowsFrom w 512 (by norm_num)) x g i) j
        * scale (mix a b (rowsFrom w 0 (by norm_num)) (rowsFrom w 512 (by norm_num)) x g i) * ga (ix2 0 j) + be (ix2 0 j) := by
  unfold out0_7
  rw [View.canon_unit_zero zero_offsets, pay1_at, ld_rows w inb_S1024x1024_S512x1024_0_0 (by norm_num),
    ld_rows w inb_S1024x1024_S512x1024_512_0 (by norm_num), View.ld_unit_zero zero_offsets, View.ld_unit_zero zero_offsets,
    View.ld_unit_zero zero_offsets, View.ld_unit_zero zero_offsets, View.ld_unit_zero zero_offsets, View.ld_unit_zero zero_offsets,
    pay4_at, pay5_at]
  unfold k0_pay2 k0_pay3
  rw [shapeCast_self, shapeCast_self]

/-! The array after the run. -/

variable (m : (ℓ : Loc nD τ sig) → Buf (Elt Ideal) ℓ) (c : Dev nD)

/-- The argument arrays, as functions of an index. -/
abbrev argA : S16384x512.Idx → EReal := m ((c.tc : Thread nD τ).loc main_arg0)
abbrev argB : S16384x512.Idx → EReal := m ((c.tc : Thread nD τ).loc main_arg1)
abbrev argW : S1024x1024.Idx → EReal := m ((c.tc : Thread nD τ).loc main_arg2)
abbrev argX : S16384x1024.Idx → EReal := m ((c.tc : Thread nD τ).loc main_arg3)
abbrev argG : S1x1024.Idx → EReal := m ((c.tc : Thread nD τ).loc main_arg4)
abbrev argGamma : S1024.Idx → EReal := m ((c.tc : Thread nD τ).loc main_arg5)
abbrev argBeta : S1024.Idx → EReal := m ((c.tc : Thread nD τ).loc main_arg6)

/-- The result, as a function of the arguments: the layer norm of the mixed rows. -/
def normed (a b : Table 16384 512) (w : Table 1024 1024) (x : Table 16384 1024) (g : Table 1 1024) (ga be : S1024.Idx → EReal)
    (n : Fin 16384) (j : Fin 1024) : EReal :=
  centred (mix a b (rowsFrom w 0 (by norm_num)) (rowsFrom w 512 (by norm_num)) x g n) j
    * scale (mix a b (rowsFrom w 0 (by norm_num)) (rowsFrom w 512 (by norm_num)) x g n) * ga (ix1 j) + be (ix1 j)

/-- The result of the arguments. -/
def result : S16384x1024.Idx → EReal := fun j =>
  normed (argA m c) (argB m c) (argW m c) (argX m c) (argG m c) (argGamma m c) (argBeta m c) (j 0) (j 1)

/-- What the host hands the kernel. -/
theorem weights_eq : (V (F := Ideal) m c main_v0 : S1024x1024.Idx → EReal) = argW m c := by
  funext j
  rw [← Attn.ix2_coords (a := 1024) (b := 1024) j]
  unfold V
  after_reads_at

theorem gamma_at (j : Fin 1024) : (V (F := Ideal) m c main_v1 : S1x1024.Idx → EReal) (ix2 0 j) = argGamma m c (ix1 j) := by
  unfold V
  after_reads_at

theorem beta_at (j : Fin 1024) : (V (F := Ideal) m c main_v2 : S1x1024.Idx → EReal) (ix2 0 j) = argBeta m c (ix1 j) := by
  unfold V
  after_reads_at

/-- The blocks the windows name at each grid point. -/
theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![0, 0] := (by decide +kernel : ∀ t : Fin grid0.N, _)
theorem index0_7 : ∀ t : Fin cfg0.N, win0_7.index t = ![t.val, 0] := (by decide +kernel : ∀ t : Fin grid0.N, _)

theorem point_lt (t : Fin cfg0.N) : t.val < 32 := t.isLt

theorem block0_at (t : Fin cfg0.N) (i : Fin 512) (l : Fin 512) :
    iblk (F := Ideal) m c 0 t (ix2 i l) = argA m c (ix2 ⟨512 * t.val + i.val, by have := point_lt t; omega⟩ l) := by
  unfold argA
  rw [← V_main_arg0 (F := Ideal) m c]
  blk_simp [iblk]
  blk_ext [index0_0]

theorem block1_at (t : Fin cfg0.N) (i : Fin 512) (l : Fin 512) :
    iblk (F := Ideal) m c 1 t (ix2 i l) = argB m c (ix2 ⟨512 * t.val + i.val, by have := point_lt t; omega⟩ l) := by
  unfold argB
  rw [← V_main_arg1 (F := Ideal) m c]
  blk_simp [iblk]
  blk_ext [index0_1]

theorem block2_at (t : Fin cfg0.N) (l j : Fin 1024) : iblk (F := Ideal) m c 2 t (ix2 l j) = argW m c (ix2 l j) := by
  rw [← weights_eq m c]
  blk_simp [iblk]
  blk_ext [index0_2]

theorem block2_eq (t : Fin cfg0.N) : (iblk (F := Ideal) m c 2 t : S1024x1024.Idx → EReal) = argW m c := by
  funext j
  rw [← Attn.ix2_coords (a := 1024) (b := 1024) j]
  exact block2_at m c t _ _

theorem block3_at (t : Fin cfg0.N) (i : Fin 512) (l : Fin 1024) :
    iblk (F := Ideal) m c 3 t (ix2 i l) = argX m c (ix2 ⟨512 * t.val + i.val, by have := point_lt t; omega⟩ l) := by
  unfold argX
  rw [← V_main_arg3 (F := Ideal) m c]
  blk_simp [iblk]
  blk_ext [index0_3]

theorem block4_at (t : Fin cfg0.N) (l : Fin 1024) : iblk (F := Ideal) m c 4 t (ix2 0 l) = argG m c (ix2 0 l) := by
  unfold argG
  rw [← V_main_arg4 (F := Ideal) m c]
  blk_simp [iblk]
  blk_ext [index0_4]

theorem block5_at (t : Fin cfg0.N) (l : Fin 1024) : iblk (F := Ideal) m c 5 t (ix2 0 l) = argGamma m c (ix1 l) := by
  rw [← gamma_at m c]
  blk_simp [iblk]
  blk_ext [index0_5]

theorem block6_at (t : Fin cfg0.N) (l : Fin 1024) : iblk (F := Ideal) m c 6 t (ix2 0 l) = argBeta m c (ix1 l) := by
  rw [← beta_at m c]
  blk_simp [iblk]
  blk_ext [index0_6]

/-- The mixed rows of a point's blocks are the mixed rows of the arguments. -/
theorem mix_blocks (t : Fin cfg0.N) (i : Fin 512) :
    mix (iblk (F := Ideal) m c 0 t) (iblk (F := Ideal) m c 1 t) (rowsFrom (iblk (F := Ideal) m c 2 t) 0 (by norm_num))
        (rowsFrom (iblk (F := Ideal) m c 2 t) 512 (by norm_num)) (iblk (F := Ideal) m c 3 t) (iblk (F := Ideal) m c 4 t) i
      = mix (argA m c) (argB m c) (rowsFrom (argW m c) 0 (by norm_num)) (rowsFrom (argW m c) 512 (by norm_num)) (argX m c) (argG m c)
        ⟨512 * t.val + i.val, by have := point_lt t; omega⟩ := by
  funext j
  rw [block2_eq]
  unfold mix
  simp only [block0_at, block1_at, block3_at, block4_at]

/-- One grid point's block: the result at the point's rows. -/
theorem outs_at (t : Fin cfg0.N) (i : Fin 512) (j : Fin 1024) :
    out0_7 (F := Ideal) (iblk m c 0 t) (iblk m c 1 t) (iblk m c 2 t) (iblk m c 3 t) (iblk m c 4 t) (iblk m c 5 t) (iblk m c 6 t) (ix2 i j)
      = normed (argA m c) (argB m c) (argW m c) (argX m c) (argG m c) (argGamma m c) (argBeta m c)
        ⟨512 * t.val + i.val, by have := point_lt t; omega⟩ j := by
  rw [out7_at, mix_blocks, block5_at, block6_at]
  rfl

/-- The result array after the run. -/
theorem final : (dats (F := Ideal) m 0 c).arrAt 7 cfg0.N = result m c := by
  refine (dats (F := Ideal) m 0 c).arrAt_eq_of_covers 7 _ (by decide +kernel) fun t hf y => ?_
  blk_simp
  rw [after0_7]
  refine Eq.trans (congrArg (out0_7 (F := Ideal) _ _ _ _ _ _ _) (Attn.ix2_coords (a := 512) (b := 1024) y).symm) ?_
  refine (outs_at m c t (y 0) (y 1)).trans ?_
  unfold result
  congr 1
  · apply Fin.ext
    refine Eq.trans (b := 512 * t.val + (y 0).val) rfl ?_
    blk_simp [index0_7]
    omega
  · apply Fin.ext
    refine Eq.trans (b := (y 1).val) rfl ?_
    blk_simp [index0_7]

end

section
open Cert.RefOutIdeal Cert.RefOutIdeal.Read

/-! The reference's result, of the same arguments. -/

variable (a b : S16384x512.Idx → EReal) (w : S1024x1024.Idx → EReal) (x : S16384x1024.Idx → EReal) (g : S1x1024.Idx → EReal)
  (ga be : S1024.Idx → EReal)

/-- The mixed rows of the arguments. -/
abbrev mixed (n : Fin 16384) : Fin 1024 → EReal := mix a b (rowsFrom w 0 (by norm_num)) (rowsFrom w 512 (by norm_num)) x g n

theorem joined_low (n : Fin 16384) (l : Fin 512) : val_main_v2 (F := Ideal) a b (ix2 n ⟨0 + l.val, by omega⟩) = a (ix2 n l) := by
  unfold val_main_v2 val_main_v1 val_main_v0
  pointwise

theorem joined_high (n : Fin 16384) (l : Fin 512) : val_main_v2 (F := Ideal) a b (ix2 n ⟨512 + l.val, by omega⟩) = b (ix2 n l) := by
  unfold val_main_v2 val_main_v1 val_main_v0
  pointwise

theorem dot_at (n : Fin 16384) (j : Fin 1024) : val_main_v3 (F := Ideal) a b w (ix2 n j)
    = (∑ l : Fin 512, a (ix2 n l) * rowsFrom w 0 (by norm_num) (ix2 l j)) + ∑ l : Fin 512, b (ix2 n l) * rowsFrom w 512 (by norm_num) (ix2 l j) := by
  have e : ∀ l : Fin 1024, val_main_v2 (F := Ideal) a b (lidx_main_v3 (ix2 n j) l) * w (ridx_main_v3 (ix2 n j) l)
      = val_main_v2 (F := Ideal) a b (ix2 n l) * w (ix2 l j) := fun l => by
    have el : lidx_main_v3 (ix2 n j) l = ix2 n l := by
      funext y; match y with | ⟨0, _⟩ => rfl | ⟨1, _⟩ => rfl
    have er : ridx_main_v3 (ix2 n j) l = ix2 l j := by
      funext y; match y with | ⟨0, _⟩ => rfl | ⟨1, _⟩ => rfl
    rw [el, er]
  rw [val_main_v3_apply, Finset.sum_congr rfl fun l _ => e l, sum_halves]
  simp only [joined_low, joined_high]
  rfl

theorem mixed_at (n : Fin 16384) (j : Fin 1024) : val_main_v8 (F := Ideal) a b w x g (ix2 n j) = mixed a b w x g n j := by
  have e : idx_main_v6 (ix2 n j) = ix2 0 j := by
    funext y; match y with | ⟨0, _⟩ => rfl | ⟨1, _⟩ => rfl
  rw [val_main_v8_apply, val_main_v7_apply, val_main_v6_apply, val_main_v5_apply, val_main_v4_apply, e, dot_at]
  rfl

/-- The mean of a row. -/
theorem mean_at (n : Fin 16384) : val_main_v12 (F := Ideal) a b w x g (ix2 n 0) = mean (mixed a b w x g n) := by
  rw [val_main_v12_apply, val_main_v10_apply, val_main_v9_apply, val_main_cst_0_apply, Ideal.ofBits_def, Ideal.ofBits_zero, zero_add,
    Ideal.hostDivf_def]
  unfold mean
  refine congrArg₂ Ideal.div (Finset.sum_congr rfl fun l _ => ?_) rfl
  rw [← mixed_at]
  refine congrArg (val_main_v8 (F := Ideal) a b w x g) ?_
  funext y; match y with | ⟨0, _⟩ => rfl | ⟨1, _⟩ => rfl

/-- A row less its mean. -/
theorem centred_at (n : Fin 16384) (j : Fin 1024) : val_main_v14 (F := Ideal) a b w x g (ix2 n j) = centred (mixed a b w x g n) j := by
  have e : idx_main_v13 (ix2 n j) = ix2 n 0 := by
    funext y; match y with | ⟨0, _⟩ => rfl | ⟨1, _⟩ => rfl
  rw [val_main_v14_apply, val_main_v13_apply, e, mixed_at, mean_at]
  rfl

/-- One over the deviation of a row. -/
theorem scale_at (n : Fin 16384) : val_main_v24 (F := Ideal) a b w x g (ix2 n 0) = scale (mixed a b w x g n) := by
  rw [val_main_v24_apply, val_main_v23_apply, val_main_v19_apply, val_main_v17_apply, val_main_v16_apply, val_main_cst_2_apply,
    Ideal.ofBits_def, Ideal.ofBits_zero, zero_add, Ideal.hostDivf_def, Ideal.hostUnary_rsqrt_def]
  unfold scale
  refine congrArg Ideal.rsqrt (congrArg₂ (· + ·) ?_ rfl)
  unfold mean
  refine congrArg₂ Ideal.div (Finset.sum_congr rfl fun l _ => ?_) rfl
  have e : idx_main_v16 (idx_main_v17 (ix2 n 0)) l = ix2 n l := by
    funext y; match y with | ⟨0, _⟩ => rfl | ⟨1, _⟩ => rfl
  rw [val_main_v15_apply, e, centred_at]
  rfl

/-- The reference's result at an index. -/
theorem result_at (n : Fin 16384) (j : Fin 1024) :
    val_main_v32 (F := Ideal) a b w x g ga be (ix2 n j) = normed a b w x g ga be n j := by
  have e20 : idx_main_v20 (ix2 n j) = ix2 n 0 := by
    funext y; match y with | ⟨0, _⟩ => rfl | ⟨1, _⟩ => rfl
  have e25 : idx_main_v25 (ix2 n j) = ix2 n 0 := by
    funext y; match y with | ⟨0, _⟩ => rfl | ⟨1, _⟩ => rfl
  have e28 : idx_main_v27 (idx_main_v28 (ix2 n j)) = ix1 j := by
    funext y; match y with | ⟨0, _⟩ => rfl
  have e31 : idx_main_v30 (idx_main_v31 (ix2 n j)) = ix1 j := by
    funext y; match y with | ⟨0, _⟩ => rfl
  rw [val_main_v32_apply, val_main_v31_apply, val_main_v30_apply, e31, val_main_v29_apply, val_main_v28_apply, val_main_v27_apply, e28,
    val_main_v26_apply, val_main_v25_apply, e25, scale_at, val_main_v21_apply, val_main_v20_apply, e20, mean_at, mixed_at]
  rfl

end

/-- The kernel and the reference have equal results. -/
theorem algebraic : Cert.algebraic_OutProjIdeal_RefOutIdeal := fun m g m' g' _ ha => by
  refine ⟨result m, ?_, ?_⟩
  · refine (θ_run Cert.OutProjIdeal.defs _ _).mono (fun r hr c => ?_) (Cert.OutProjIdeal.Value.run_blocks (F := Ideal) m g)
    exact ⟨(hr c).1.trans (final m c), (hr c).2⟩
  · refine (θ_run Cert.RefOutIdeal.defs _ _).mono (fun r hr c => ⟨(hr c).1.trans ?_, (hr c).2⟩)
      (Cert.RefOutIdeal.Value.run (F := Ideal) m' g')
    obtain ⟨h0, h1, h2, h3, h4, h5, h6⟩ := ha c
    rw [Cert.RefOutIdeal.Read.val_main_v32_eq, h0, h1, h2, h3, h4, h5, h6]
    funext j
    refine (congrArg (Cert.RefOutIdeal.Read.val_main_v32 (F := Ideal) _ _ _ _ _ _ _)
      (Attn.ix2_coords (a := 16384) (b := 1024) j).symm).trans ?_
    exact result_at _ _ _ _ _ _ _ (j 0) (j 1)

end Cert.Proof.Out

end
-- ==== Proof.Keys.Spec.lean ====
/- What the normed and rotated keys are, as functions of their arguments: the vocabulary both programs are brought to. -/
module

public import proofs.«01_k».proof.Proof.Proj.Spec
public import proofs.«01_k».proof.Proof.Gen.RefKeysIdeal.Read

@[expose] public section

noncomputable section

namespace Cert.Proof.Keys

open Idealize.ShloMosaic

/-- The sum of the squares of a head of a row. -/
def squares (r : Fin 128 → EReal) (h : Fin 2) : EReal :=
  ∑ d : Fin 64, r ⟨64 * h.val + d.val, by omega⟩ * r ⟨64 * h.val + d.val, by omega⟩

/-- The norm of a head at one of the row's lanes: over the root of the mean square, times the gain. -/
def normed (r : Fin 128 → EReal) (g : Fin 64 → EReal) (j : Fin 128) : EReal :=
  r j * Ideal.rsqrt (Ideal.div (squares r ⟨j.val / 64, by omega⟩) ((64 : ℝ) : EReal) + Ideal.ofBits .f32 0x358637BD#32)
    * g ⟨j.val % 64, by omega⟩

/-- The lanes beside a lane. -/
def next (j : Fin 128) : Fin 128 := ⟨(j.val + 1) % 128, by omega⟩
def prev (j : Fin 128) : Fin 128 := ⟨(j.val + 127) % 128, by omega⟩

/-- The lanes rotated in pairs, an even lane and the odd one after it being the two coordinates of a point. -/
def rotated (y a : Fin 128 → EReal) (j : Fin 128) : EReal :=
  if j.val % 2 = 0 then y j * Ideal.cos (a j) - y (next j) * Ideal.sin (a j)
  else y (prev j) * Ideal.sin (a j) + y j * Ideal.cos (a j)

/-- The angle of a lane of a head: the row's in the first half, the column's in the second. -/
def angle (n : Fin 16384) (d : Nat) (hd : d < 64) : EReal :=
  if h : d < 32 then
    Cert.RefKeysIdeal.Read.val_main_v27 (F := Ideal) (ix1 n) * Cert.RefKeysIdeal.Read.val_main_v24 (F := Ideal) (ix1 ⟨d / 2, by omega⟩)
  else
    Cert.RefKeysIdeal.Read.val_main_v55 (F := Ideal) (ix1 n) * Cert.RefKeysIdeal.Read.val_main_v24 (F := Ideal) (ix1 ⟨(d - 32) / 2, by omega⟩)

/-- The keys at row `n` and lane `j`. -/
def keys (x : Proj.Table 16384 128) (g : (⟨1, ![64]⟩ : Shape).Idx → EReal) (n : Fin 16384) (j : Fin 128) : EReal :=
  rotated (normed (fun k => x (ix2 n k)) (fun d => g (ix1 d))) (fun k => angle n (k.val % 64) (by omega)) j

/-- A sum over the lanes of a row against the lanes of one head is the sum over the head. -/
theorem sum_head (f : Fin 128 → EReal) (j : Fin 128) :
    (∑ k : Fin 128, f k * (if k.val / 64 = j.val / 64 then 1 else 0)) = ∑ d : Fin 64, f ⟨64 * (j.val / 64) + d.val, by omega⟩ := by
  rw [← (finProdFinEquiv : Fin 2 × Fin 64 ≃ Fin (2 * 64)).sum_comp (fun k : Fin 128 => f k * (if k.val / 64 = j.val / 64 then 1 else 0)),
    Fintype.sum_prod_type, Fin.sum_univ_two]
  have e : ∀ (a : Fin 2) (d : Fin 64), (finProdFinEquiv (a, d) : Fin (2 * 64)).val = 64 * a.val + d.val := fun a d => by
    simp [finProdFinEquiv, Nat.add_comm]
  have hit : ∀ a : Fin 2, a.val = j.val / 64 → (∑ d : Fin 64, f (finProdFinEquiv (a, d))
      * (if (finProdFinEquiv (a, d) : Fin (2 * 64)).val / 64 = j.val / 64 then 1 else 0)) = ∑ d : Fin 64, f ⟨64 * (j.val / 64) + d.val, by omega⟩ :=
    fun a ha => Finset.sum_congr rfl fun d _ => by
      rw [if_pos (by rw [e, ← ha]; omega), mul_one]
      exact congrArg f (Fin.ext ((e a d).trans (by rw [ha])))
  have miss : ∀ a : Fin 2, a.val ≠ j.val / 64 → (∑ d : Fin 64, f (finProdFinEquiv (a, d))
      * (if (finProdFinEquiv (a, d) : Fin (2 * 64)).val / 64 = j.val / 64 then 1 else 0)) = 0 :=
    fun a ha => Finset.sum_eq_zero fun d _ => by
      rw [if_neg (by rw [e]; omega), mul_zero]
  rcases (by omega : j.val / 64 = 0 ∨ j.val / 64 = 1) with h | h
  · rw [hit 0 h.symm, miss 1 (by rw [h]; decide), add_zero]
  · rw [hit 1 h.symm, miss 0 (by rw [h]; decide), zero_add]

/-- The square of a real less itself is nothing. -/
theorem square_sub (x : EReal) (h : x = ((x.toReal : ℝ) : EReal)) : x * x - x * x = 0 := by
  rw [h, ← EReal.coe_mul, ← EReal.coe_sub, sub_self, EReal.coe_zero]

theorem ofBits_64 : Ideal.ofBits .f32 0x42800000#32 = ((64 : ℝ) : EReal) := by
  simp [Ideal.ofBits, Ideal.ieee, -EReal.coe_mul]; norm_num

theorem ofBits_one_64th : Ideal.ofBits .f32 0x3C800000#32 = ((1 / 64 : ℝ) : EReal) := by
  simp [Ideal.ofBits, Ideal.ieee, -EReal.coe_mul]; norm_num

end Cert.Proof.Keys

end
-- ==== Proof.Keys.Host.lean ====
/- What the host hands the keys' kernel, over the extended reals, read at an index. -/
module

public import proofs.«01_k».proof.Proof.Keys.Spec
public import proofs.«01_k».proof.Proof.Gen.KeysIdeal.Frame
public import Idealize.ShloMosaic.Lib.StableHlo.ReadAt

@[expose] public section

noncomputable section

namespace Cert.Proof.Keys

open Cert.KeysIdeal Cert.KeysIdeal.Gen
open Idealize.ShloMosaic Idealize.ShloMosaic.TcCoe Idealize.SL.Sem

variable (m : (ℓ : Loc nD τ sig) → Buf (Elt Ideal) ℓ) (c : Dev nD)

/-- The argument arrays, as functions of an index. -/
abbrev argX : S16384x128.Idx → EReal := m ((c.tc : Thread nD τ).loc main_arg0)
abbrev argGain : S64.Idx → EReal := m ((c.tc : Thread nD τ).loc main_arg1)

/-- The arrays the host makes, as functions of an index. -/
abbrev hostFreq : S16.Idx → EReal := V (F := Ideal) m c main_v9
abbrev hostRow : S16384.Idx → EReal := V (F := Ideal) m c main_v12
abbrev hostCol : S16384.Idx → EReal := V (F := Ideal) m c main_v14
abbrev hostCos : S16384x128.Idx → EReal := V (F := Ideal) m c main_v39
abbrev hostSin : S16384x128.Idx → EReal := V (F := Ideal) m c main_v46
abbrev hostMask : S128x128.Idx → EReal := V (F := Ideal) m c main_v54
abbrev hostGain : S1x128.Idx → EReal := V (F := Ideal) m c main_v58

/-! The frequencies, the rows and the columns of the grid are the reference's. -/

theorem hostFreq_at (k : Fin 16) : hostFreq m c (ix1 k) = Cert.RefKeysIdeal.Read.val_main_v24 (F := Ideal) (ix1 k) := by
  have h : Cert.RefKeysIdeal.Read.val_main_v19 (F := Ideal) (ix1 k) = Cert.RefKeysIdeal.Read.val_main_v17 (F := Ideal) (ix1 k) := by
    rw [Cert.RefKeysIdeal.Read.val_main_v19_apply, Cert.RefKeysIdeal.Read.val_main_v18_apply,
      Cert.RefKeysIdeal.Read.val_main_cst_3_apply, Ideal.ofBits_def, Ideal.ofBits_zero, Ideal.addf_def, zero_add]
  rw [Cert.RefKeysIdeal.Read.val_main_v24_apply, Cert.RefKeysIdeal.Read.val_main_v22_apply,
    Cert.RefKeysIdeal.Read.val_main_v20_apply, h]
  unfold hostFreq V
  after_reads_at
  rfl

theorem hostRow_at (n : Fin 16384) : hostRow m c (ix1 n) = Cert.RefKeysIdeal.Read.val_main_v27 (F := Ideal) (ix1 n) := by
  unfold hostRow V
  after_reads_at
  rfl

theorem hostCol_at (n : Fin 16384) : hostCol m c (ix1 n) = Cert.RefKeysIdeal.Read.val_main_v55 (F := Ideal) (ix1 n) := by
  unfold hostCol V
  after_reads_at
  rfl

/-- The parity of a lane, as the host computes it. -/
def odd (v : BitVec 32) : BitVec 32 :=
  Scalar.select (IntOp.andi (IntOp.cmpi .ne (IntOp.cmpi .slt (IntOp.remsi .host v 2#32) 0#32) 0#1) (IntOp.cmpi .ne (IntOp.remsi .host v 2#32) 0#32))
    (IntOp.addi (IntOp.remsi .host v 2#32) 2#32) (IntOp.remsi .host v 2#32)

/-- The head of a lane. -/
def head (v : BitVec 32) : BitVec 32 :=
  Scalar.select (IntOp.andi (IntOp.cmpi .ne (if v = 0 then 0 else if v.msb = true then -1 else 1) 1#32)
      (IntOp.cmpi .ne (IntOp.remsi .host v 64#32) 0#32))
    (IntOp.subi (IntOp.divsi .host v 64#32) 1#32) (IntOp.divsi .host v 64#32)

theorem odd_eq : ∀ d : Fin 128, IntOp.cmpi .eq (odd (BitVec.ofNat 32 d.val)) 0#32 = if d.val % 2 = 0 then 1#1 else 0#1 := by
  decide +kernel

theorem head_eq : ∀ j : Fin 128, head (BitVec.ofNat 32 j.val) = BitVec.ofNat 32 (j.val / 64) := by decide +kernel

/-- The sign of a lane. -/
theorem sign_eq (d : Fin 128) : Scalar.select (IntOp.cmpi .eq (odd (BitVec.ofNat 32 d.val)) 0#32) (Ideal.ofBits .f32 3212836864#32)
    (Ideal.ofBits .f32 1065353216#32) = if d.val % 2 = 0 then (-1 : EReal) else 1 := by
  rw [odd_eq]
  split_ifs
  · show Ideal.ofBits .f32 3212836864#32 = _
    simp [Ideal.ofBits, Ideal.ieee, -EReal.coe_mul]; norm_num
  · show Ideal.ofBits .f32 1065353216#32 = _
    simp [Ideal.ofBits, Ideal.ieee, -EReal.coe_mul]; norm_num

/-- The angle of a lane of a head, of the host's arrays. -/
def hostAngle (n : Fin 16384) (d : Nat) (hd : d < 64) : EReal :=
  if h : d < 32 then hostRow m c (ix1 n) * hostFreq m c (ix1 ⟨d / 2, by omega⟩)
  else hostCol m c (ix1 n) * hostFreq m c (ix1 ⟨(d - 32) / 2, by omega⟩)

theorem hostAngle_eq (n : Fin 16384) (d : Nat) (hd : d < 64) : hostAngle m c n d hd = angle n d hd := by
  unfold hostAngle angle
  split_ifs
  · exact congrArg₂ (· * ·) (hostRow_at m c n) (hostFreq_at m c _)
  · exact congrArg₂ (· * ·) (hostCol_at m c n) (hostFreq_at m c _)

theorem hostCos_at (n : Fin 16384) (j : Fin 128) : hostCos m c (ix2 n j) = Ideal.cos (angle n (j.val % 64) (by omega)) := by
  rw [← hostAngle_eq m c]
  unfold hostCos hostAngle V
  after_reads_at
  refine congrArg Ideal.cos ?_
  split_ifs
  · after_reads_at
  · exact absurd rfl (by assumption)
  · after_reads_at
  · exact absurd rfl (by assumption)

theorem hostSin_at (n : Fin 16384) (j : Fin 128) : hostSin m c (ix2 n j)
    = Ideal.sin (angle n (j.val % 64) (by omega)) * (if j.val % 2 = 0 then -1 else 1) := by
  have hs := sign_eq ⟨j.val % 64, by omega⟩
  rw [show (⟨j.val % 64, by omega⟩ : Fin 128).val % 2 = j.val % 2 by dsimp only; omega] at hs
  rw [← hostAngle_eq m c]
  unfold hostSin hostAngle V
  after_reads_at
  refine congrArg₂ (· * ·) (congrArg Ideal.sin ?_) (Eq.trans ?_ hs)
  · split_ifs
    · after_reads_at
    · exact absurd rfl (by assumption)
    · after_reads_at
    · exact absurd rfl (by assumption)
  · rfl

theorem hostMask_at (k j : Fin 128) : hostMask m c (ix2 k j) = if k.val / 64 = j.val / 64 then 1 else 0 := by
  unfold hostMask V
  after_reads_at
  show FloatOps.uitofp (F := Ideal) .bf16 (IntOp.cmpi .eq (head (BitVec.ofNat 32 k.val)) (head (BitVec.ofNat 32 j.val))) = _
  rw [head_eq, head_eq]
  have hc : ∀ a b : Fin 2, IntOp.cmpi .eq (BitVec.ofNat 32 a.val) (BitVec.ofNat 32 b.val) = if a.val = b.val then 1#1 else 0#1 := by
    decide +kernel
  rw [hc ⟨k.val / 64, by omega⟩ ⟨j.val / 64, by omega⟩]
  dsimp only
  split_ifs
  · show ((((1#1 : BitVec 1).toNat : ℝ)) : EReal) = 1
    simp
  · show ((((0#1 : BitVec 1).toNat : ℝ)) : EReal) = 0
    simp

theorem hostGain_at (j : Fin 128) : hostGain m c (ix2 0 j) = argGain m c (ix1 ⟨j.val % 64, by omega⟩) := by
  unfold hostGain V
  after_reads_at

end Cert.Proof.Keys

end
-- ==== Proof.Keys.Value.lean ====
/- The normed and rotated keys: what the kernel's result array is after its run. -/
module

public import proofs.«01_k».proof.Proof.Keys.Host
public import proofs.«01_k».proof.Proof.Gen.KeysIdeal.Value
public import Idealize.ShloMosaic.Lib.Pipeline.ValueKit.Geometry

@[expose] public section

noncomputable section

namespace Cert.Proof.Keys

open Idealize.ShloMosaic Idealize.ShloMosaic.TcCoe Idealize.SL.Sem
open Cert.Proof.Proj
open Cert.KeysIdeal Cert.KeysIdeal.Gen

/-! The block a grid point leaves, from the blocks it finds. -/

variable (x : Vec Ideal S512x128 .f32) (g : Vec Ideal S1x128 .f32) (mk : Vec Ideal S128x128 .bf16) (co si : Vec Ideal S512x128 .f32)

/-- The normed rows, where the rows are reals and the mask is that of the heads. -/
theorem pay2_at (gain : Fin 64 → EReal) (hx : ∀ i j, x (ix2 i j) = ((((x (ix2 i j) : EReal)).toReal : ℝ) : EReal))
    (hm : ∀ k j : Fin 128, mk (ix2 k j) = if k.val / 64 = j.val / 64 then (1 : EReal) else 0)
    (hg : ∀ j : Fin 128, g (ix2 0 j) = gain ⟨j.val % 64, by omega⟩) (i : Fin 512) (j : Fin 128) :
    k0_pay2 (F := Ideal) x mk g (ix2 i j) = normed (fun k => x (ix2 i k)) gain j := by
  pointwise [k0_pay2]
  have hz : (∑ k : Fin 128, (x (ix2 i k) * x (ix2 i k) - x (ix2 i k) * x (ix2 i k) : EReal) * mk (ix2 k j)) = 0 :=
    Finset.sum_eq_zero fun k _ => by rw [square_sub _ (hx i k), zero_mul]
  have hs : (∑ k : Fin 128, (x (ix2 i k) * x (ix2 i k) : EReal) * mk (ix2 k j)) = squares (fun k => x (ix2 i k)) ⟨j.val / 64, by omega⟩ := by
    simp only [hm]
    exact sum_head (fun k => (x (ix2 i k) * x (ix2 i k) : EReal)) j
  unfold normed
  rw [hz, hs, add_zero, hg, Ideal.div_coe (by norm_num), ofBits_one_64th]

/-- The parity of a lane, as the kernel computes it. -/
def even (v : BitVec 32) : BitVec 1 :=
  IntOp.cmpi .eq (Scalar.select (IntOp.andi (IntOp.xori (IntOp.cmpi .slt
      (IntOp.remsi ArithUnit.vector v (Scalar.select (Scalar.cmpi .eq 2#32 0#32) 1#32 2#32)) 0#32)
      (Scalar.cmpi .slt (Scalar.select (Scalar.cmpi .eq 2#32 0#32) 1#32 2#32) 0#32))
      (IntOp.cmpi .ne (IntOp.remsi ArithUnit.vector v (Scalar.select (Scalar.cmpi .eq 2#32 0#32) 1#32 2#32)) 0#32))
    (IntOp.addi (IntOp.remsi ArithUnit.vector v (Scalar.select (Scalar.cmpi .eq 2#32 0#32) 1#32 2#32))
      (Scalar.select (Scalar.cmpi .eq 2#32 0#32) 1#32 2#32))
    (IntOp.remsi ArithUnit.vector v (Scalar.select (Scalar.cmpi .eq 2#32 0#32) 1#32 2#32))) 0#32

theorem even_eq : ∀ d : Fin 128, even (BitVec.ofNat 32 d.val) = if d.val % 2 = 0 then 1#1 else 0#1 := by
  decide +kernel

/-- The rotated lanes of rows. -/
theorem pay1_at (y : FVec Ideal S512x128 .f32) (a : Fin 128 → EReal) (i : Fin 512)
    (hc : ∀ j, co (ix2 i j) = Ideal.cos (a j)) (hs : ∀ j : Fin 128, si (ix2 i j) = Ideal.sin (a j) * (if j.val % 2 = 0 then -1 else 1))
    (j : Fin 128) :
    k0_pay1 (F := Ideal) y co si (Scalar.select (Scalar.cmpi .eq 2#32 0#32) 1#32 2#32) k0_pay5 k0_pay6 (ix2 i j)
      = rotated (fun k => y (ix2 i k)) a j := by
  pointwise [k0_pay1, k0_pay5, k0_pay6]
  refine (congrArg (fun b => (y (ix2 i j) * co (ix2 i j) + Scalar.select b (y (ix2 i ⟨(j.val + 128 - 127) % 128, by omega⟩))
    (y (ix2 i ⟨(j.val + 128 - 1) % 128, by omega⟩)) * si (ix2 i j) : EReal)) (even_eq j)).trans ?_
  unfold rotated
  rw [hc, hs]
  split_ifs with h
  · have e : (⟨(j.val + 128 - 127) % 128, by omega⟩ : Fin 128) = next j := Fin.ext (by show (j.val + 128 - 127) % 128 = (j.val + 1) % 128; omega)
    rw [e]
    show (y (ix2 i j) * _ + y (ix2 i (next j)) * _ : EReal) = _
    rw [mul_neg, mul_one, mul_neg, ← sub_eq_add_neg]
  · have e : (⟨(j.val + 128 - 1) % 128, by omega⟩ : Fin 128) = prev j := Fin.ext (by show (j.val + 128 - 1) % 128 = (j.val + 127) % 128; omega)
    rw [e]
    show (y (ix2 i j) * _ + y (ix2 i (prev j)) * _ : EReal) = _
    rw [mul_one, add_comm]

theorem out_at (gain : Fin 64 → EReal) (a : Fin 128 → EReal) (i : Fin 512)
    (hx : ∀ i j, x (ix2 i j) = ((((x (ix2 i j) : EReal)).toReal : ℝ) : EReal))
    (hm : ∀ k j : Fin 128, mk (ix2 k j) = if k.val / 64 = j.val / 64 then (1 : EReal) else 0)
    (hg : ∀ j : Fin 128, g (ix2 0 j) = gain ⟨j.val % 64, by omega⟩)
    (hc : ∀ j, co (ix2 i j) = Ideal.cos (a j)) (hs : ∀ j : Fin 128, si (ix2 i j) = Ideal.sin (a j) * (if j.val % 2 = 0 then -1 else 1))
    (j : Fin 128) :
    out0_5 (F := Ideal) x g mk co si (ix2 i j) = rotated (normed (fun k => x (ix2 i k)) gain) a j := by
  unfold out0_5
  rw [View.canon_unit_zero zero_offsets, View.ld_unit_zero zero_offsets, View.ld_unit_zero zero_offsets, View.ld_unit_zero zero_offsets,
    View.ld_unit_zero zero_offsets, View.ld_unit_zero zero_offsets]
  unfold k0_pay3 k0_pay4
  rw [shapeCast_self, shapeCast_self, pay1_at co si _ a i hc hs j]
  exact congrArg (fun y => rotated y a j) (funext fun k => pay2_at x g mk gain hx hm hg i k)

/-! The array after the run. -/

variable (m : (ℓ : Loc nD τ sig) → Buf (Elt Ideal) ℓ) (c : Dev nD)

/-- The keys of the arguments. -/
def result : S16384x128.Idx → EReal := fun j => keys (argX m c) (argGain m c) (j 0) (j 1)

/-- The blocks the windows name at each grid point. -/
theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)

theorem point_lt (t : Fin cfg0.N) : t.val < 32 := t.isLt

theorem block0_at (t : Fin cfg0.N) (i : Fin 512) (l : Fin 128) :
    iblk (F := Ideal) m c 0 t (ix2 i l) = argX m c (ix2 ⟨512 * t.val + i.val, by have := point_lt t; omega⟩ l) := by
  unfold argX
  rw [← V_main_arg0 (F := Ideal) m c]
  blk_simp [iblk]
  blk_ext [index0_0]

theorem block1_at (t : Fin cfg0.N) (l : Fin 128) :
    iblk (F := Ideal) m c 1 t (ix2 0 l) = argGain m c (ix1 ⟨l.val % 64, by omega⟩) := by
  rw [← hostGain_at m c]
  blk_simp [iblk]
  blk_ext [index0_1]

theorem block2_at (t : Fin cfg0.N) (k l : Fin 128) :
    iblk (F := Ideal) m c 2 t (ix2 k l) = if k.val / 64 = l.val / 64 then (1 : EReal) else 0 := by
  rw [← hostMask_at m c]
  blk_simp [iblk]
  blk_ext [index0_2]

theorem block3_at (t : Fin cfg0.N) (i : Fin 512) (l : Fin 128) :
    iblk (F := Ideal) m c 3 t (ix2 i l)
      = Ideal.cos (angle ⟨512 * t.val + i.val, by have := point_lt t; omega⟩ (l.val % 64) (by omega)) := by
  rw [← hostCos_at m c]
  blk_simp [iblk]
  blk_ext [index0_3]

theorem block4_at (t : Fin cfg0.N) (i : Fin 512) (l : Fin 128) :
    iblk (F := Ideal) m c 4 t (ix2 i l)
      = Ideal.sin (angle ⟨512 * t.val + i.val, by have := point_lt t; omega⟩ (l.val % 64) (by omega)) * (if l.val % 2 = 0 then -1 else 1) := by
  rw [← hostSin_at m c]
  blk_simp [iblk]
  blk_ext [index0_4]

variable (hf : ∀ j, argX m c j = ((((argX m c j : EReal)).toReal : ℝ) : EReal))

include hf in
/-- One grid point's block: the keys at the point's rows. -/
theorem outs_at (t : Fin cfg0.N) (i : Fin 512) (j : Fin 128) :
    out0_5 (F := Ideal) (iblk m c 0 t) (iblk m c 1 t) (iblk m c 2 t) (iblk m c 3 t) (iblk m c 4 t) (ix2 i j)
      = keys (argX m c) (argGain m c) ⟨512 * t.val + i.val, by have := point_lt t; omega⟩ j := by
  refine (out_at _ _ _ _ _ (fun d => argGain m c (ix1 d)) (fun k => angle ⟨512 * t.val + i.val, by have := point_lt t; omega⟩ (k.val % 64) (by omega))
    i (fun i j => ?_) (block2_at m c t) (block1_at m c t) (block3_at m c t i) (block4_at m c t i) j).trans ?_
  · rw [block0_at]
    exact hf _
  · unfold keys
    simp only [block0_at]

include hf in
/-- The result array after the run. -/
theorem final : (dats (F := Ideal) m 0 c).arrAt 5 cfg0.N = result m c := by
  refine (dats (F := Ideal) m 0 c).arrAt_eq_of_covers 5 _ (by decide +kernel) fun t _ y => ?_
  blk_simp
  rw [after0_5]
  refine Eq.trans (congrArg (out0_5 (F := Ideal) _ _ _ _ _) (Attn.ix2_coords (a := 512) (b := 128) y).symm) ?_
  refine (outs_at m c hf t (y 0) (y 1)).trans ?_
  unfold result
  congr 1
  · apply Fin.ext
    refine Eq.trans (b := 512 * t.val + (y 0).val) rfl ?_
    blk_simp [index0_5]
    omega
  · apply Fin.ext
    refine Eq.trans (b := (y 1).val) rfl ?_
    blk_simp [index0_5]

end Cert.Proof.Keys

end
-- ==== Proof.Keys.Ref.lean ====
/- The normed and rotated keys: what the reference's result is. -/
module

public import proofs.«01_k».proof.Proof.Keys.Spec
public import proofs.«01_k».proof.Proof.Gen.RefKeysIdeal.Run

@[expose] public section

noncomputable section

namespace Cert.Proof.Keys

open Idealize.ShloMosaic
open Cert.Proof.Proj
open Cert.RefKeysIdeal Cert.RefKeysIdeal.Read

variable (x : S16384x128.Idx → EReal) (g : S64.Idx → EReal)

/-- The rows, normed. -/
abbrev rows (n : Fin 16384) : Fin 128 → EReal := normed (fun k => x (ix2 n k)) (fun d => g (ix1 d))

theorem normed_at (n : Fin 16384) (h : Fin 2) (d : Fin 64) :
    val_main_v13 (F := Ideal) x g (ix3 n h d) = rows x g n ⟨64 * h.val + d.val, by omega⟩ := by
  have sq : val_main_v2 (F := Ideal) x (ix2 n h) = squares (fun k => x (ix2 n k)) h := by
    rw [val_main_v2_apply, val_main_cst_apply, Ideal.ofBits_def, Ideal.ofBits_zero, zero_add]
    unfold squares
    refine Finset.sum_congr rfl fun l _ => ?_
    have e : idx_main_v2 (ix2 n h) l = ix3 n h l := by
      funext y; match y with | ⟨0, _⟩ => rfl | ⟨1, _⟩ => rfl | ⟨2, _⟩ => rfl
    rw [e]
    have el : (⟨h.val * 64 + l.val, by omega⟩ : Fin 128) = ⟨64 * h.val + l.val, by omega⟩ := Fin.ext (by dsimp only; omega)
    pointwise [val_main_v1, val_main_v0]
    rw [el]
  pointwise [val_main_v13, val_main_v12, val_main_v11, val_main_v10, val_main_v9, val_main_v8, val_main_v7, val_main_v6, val_main_v5,
    val_main_v4, val_main_v3, val_main_v0, val_main_cst_0, val_main_cst_1]
  rw [sq, ofBits_64]
  have el : (⟨h.val * 64 + d.val, by omega⟩ : Fin 128) = ⟨64 * h.val + d.val, by omega⟩ := Fin.ext (by dsimp only; omega)
  have eh : h = ⟨(64 * h.val + d.val) / 64, by omega⟩ := Fin.ext (by dsimp only; omega)
  have ed : d = ⟨(64 * h.val + d.val) % 64, by omega⟩ := Fin.ext (by dsimp only; omega)
  unfold rows normed
  rw [el]
  exact congrArg₂ (fun a b => x (ix2 n ⟨64 * h.val + d.val, by omega⟩)
    * Ideal.rsqrt (Ideal.div (squares (fun k => x (ix2 n k)) a) ((64 : ℝ) : EReal) + Ideal.ofBits .f32 0x358637BD#32) * g (ix1 b)) eh ed

/-- The first half's rotated pairs, by the row. -/
theorem row_even (n : Fin 16384) (h : Fin 2) (k : Fin 16) : val_main_v43 (F := Ideal) x g (ix3 n h k)
    = rows x g n ⟨64 * h.val + 2 * k.val, by omega⟩ * Ideal.cos (val_main_v27 (F := Ideal) (ix1 n) * val_main_v24 (F := Ideal) (ix1 k))
      - rows x g n ⟨64 * h.val + (1 + 2 * k.val), by omega⟩ * Ideal.sin (val_main_v27 (F := Ideal) (ix1 n) * val_main_v24 (F := Ideal) (ix1 k)) := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v25]
  rw [normed_at, normed_at]

theorem row_odd (n : Fin 16384) (h : Fin 2) (k : Fin 16) : val_main_v48 (F := Ideal) x g (ix3 n h k)
    = rows x g n ⟨64 * h.val + 2 * k.val, by omega⟩ * Ideal.sin (val_main_v27 (F := Ideal) (ix1 n) * val_main_v24 (F := Ideal) (ix1 k))
      + rows x g n ⟨64 * h.val + (1 + 2 * k.val), by omega⟩ * Ideal.cos (val_main_v27 (F := Ideal) (ix1 n) * val_main_v24 (F := Ideal) (ix1 k)) := by
  pointwise [val_main_v48, val_main_v47, val_main_v46, val_main_v45, val_main_v44, val_main_v38, val_main_v37, val_main_v36, val_main_v35,
    val_main_v34, val_main_v33, val_main_v32, val_main_v31, val_main_v30, val_main_v29, val_main_v28, val_main_v25]
  rw [normed_at, normed_at]

/-- The second half's rotated pairs, by the column. -/
theorem column_even (n : Fin 16384) (h : Fin 2) (k : Fin 16) : val_main_v71 (F := Ideal) x g (ix3 n h k)
    = rows x g n ⟨64 * h.val + (32 + 2 * k.val), by omega⟩ * Ideal.cos (val_main_v55 (F := Ideal) (ix1 n) * val_main_v24 (F := Ideal) (ix1 k))
      - rows x g n ⟨64 * h.val + (32 + (1 + 2 * k.val)), by omega⟩ * Ideal.sin (val_main_v55 (F := Ideal) (ix1 n) * val_main_v24 (F := Ideal) (ix1 k)) := by
  pointwise [val_main_v71, val_main_v70, val_main_v69, val_main_v68, val_main_v67, val_main_v66, val_main_v65, val_main_v64, val_main_v63,
    val_main_v62, val_main_v61, val_main_v60, val_main_v59, val_main_v58, val_main_v57, val_main_v56, val_main_v53]
  rw [normed_at, normed_at]

theorem column_odd (n : Fin 16384) (h : Fin 2) (k : Fin 16) : val_main_v76 (F := Ideal) x g (ix3 n h k)
    = rows x g n ⟨64 * h.val + (32 + 2 * k.val), by omega⟩ * Ideal.sin (val_main_v55 (F := Ideal) (ix1 n) * val_main_v24 (F := Ideal) (ix1 k))
      + rows x g n ⟨64 * h.val + (32 + (1 + 2 * k.val)), by omega⟩ * Ideal.cos (val_main_v55 (F := Ideal) (ix1 n) * val_main_v24 (F := Ideal) (ix1 k)) := by
  pointwise [val_main_v76, val_main_v75, val_main_v74, val_main_v73, val_main_v72, val_main_v66, val_main_v65, val_main_v64, val_main_v63,
    val_main_v62, val_main_v61, val_main_v60, val_main_v59, val_main_v58, val_main_v57, val_main_v56, val_main_v53]
  rw [normed_at, normed_at]

/-- The result's lanes, from the rotated pairs. -/
theorem lanes_at (n : Fin 16384) (j : Fin 128) : val_main_v83 (F := Ideal) x g (ix2 n j)
    = if _ : j.val % 64 < 32 then
        if _ : j.val % 64 % 2 < 1 then val_main_v43 (F := Ideal) x g (ix3 n ⟨j.val / 64, by omega⟩ ⟨j.val % 64 / 2, by omega⟩)
        else val_main_v48 (F := Ideal) x g (ix3 n ⟨j.val / 64, by omega⟩ ⟨j.val % 64 / 2, by omega⟩)
      else
        if _ : (j.val % 64 - 32) % 2 < 1 then val_main_v71 (F := Ideal) x g (ix3 n ⟨j.val / 64, by omega⟩ ⟨(j.val % 64 - 32) / 2, by omega⟩)
        else val_main_v76 (F := Ideal) x g (ix3 n ⟨j.val / 64, by omega⟩ ⟨(j.val % 64 - 32) / 2, by omega⟩) := by
  pointwise [val_main_v83, val_main_v82, val_main_v81, val_main_v80, val_main_v79, val_main_v78, val_main_v77,
    val_main_v52, val_main_v51, val_main_v50, val_main_v49]

/-- The reference's result at an index. -/
theorem result_at (n : Fin 16384) (j : Fin 128) : val_main_v83 (F := Ideal) x g (ix2 n j) = keys x g n j := by
  have lane : ∀ (a : ℕ) (ha : a < 128) (l : Fin 128), a = l.val → rows x g n ⟨a, ha⟩ = rows x g n l := fun a ha l e =>
    congrArg (rows x g n) (Fin.ext e)
  have nx : (next j).val = (j.val + 1) % 128 := rfl
  have pv : (prev j).val = (j.val + 127) % 128 := rfl
  have hk : ∀ a : Fin 128 → EReal, (a = fun k => angle n (k.val % 64) (by omega)) → keys x g n j = rotated (rows x g n) a j := fun a h => by
    rw [h]; rfl
  rw [lanes_at, hk _ rfl]
  generalize ea : (fun k : Fin 128 => angle n (k.val % 64) (by omega)) = a
  have haj : a j = angle n (j.val % 64) (by omega) := by rw [← ea]
  unfold rotated
  by_cases hr : j.val % 64 < 32
  · have ha : a j = val_main_v27 (F := Ideal) (ix1 n) * val_main_v24 (F := Ideal) (ix1 ⟨j.val % 64 / 2, by omega⟩) := by
      rw [haj]; unfold angle; rw [dif_pos hr]
    rw [dif_pos hr]
    by_cases hp : j.val % 2 = 0
    · rw [dif_pos (by omega), if_pos hp, row_even, ha]
      rw [lane (64 * (j.val / 64) + 2 * (j.val % 64 / 2)) (by omega) j (by omega),
        lane (64 * (j.val / 64) + (1 + 2 * (j.val % 64 / 2))) (by omega) (next j) (by rw [nx]; omega)]
    · rw [dif_neg (by omega), if_neg hp, row_odd, ha]
      rw [lane (64 * (j.val / 64) + 2 * (j.val % 64 / 2)) (by omega) (prev j) (by rw [pv]; omega),
        lane (64 * (j.val / 64) + (1 + 2 * (j.val % 64 / 2))) (by omega) j (by omega)]
  · have ha : a j = val_main_v55 (F := Ideal) (ix1 n) * val_main_v24 (F := Ideal) (ix1 ⟨(j.val % 64 - 32) / 2, by omega⟩) := by
      rw [haj]; unfold angle; rw [dif_neg hr]
    rw [dif_neg hr]
    by_cases hp : j.val % 2 = 0
    · rw [dif_pos (by omega), if_pos hp, column_even, ha]
      rw [lane (64 * (j.val / 64) + (32 + 2 * ((j.val % 64 - 32) / 2))) (by omega) j (by omega),
        lane (64 * (j.val / 64) + (32 + (1 + 2 * ((j.val % 64 - 32) / 2)))) (by omega) (next j) (by rw [nx]; omega)]
    · rw [dif_neg (by omega), if_neg hp, column_odd, ha]
      rw [lane (64 * (j.val / 64) + (32 + 2 * ((j.val % 64 - 32) / 2))) (by omega) (prev j) (by rw [pv]; omega),
        lane (64 * (j.val / 64) + (32 + (1 + 2 * ((j.val % 64 - 32) / 2)))) (by omega) j (by omega)]

end Cert.Proof.Keys

end
-- ==== Proof.Keys.Algebraic.lean ====
/- The normed and rotated keys: the kernel and the reference have equal results where the rows are finite. -/
module

public import proofs.«01_k».proof.Defs
public import proofs.«01_k».proof.Proof.Attn.Algebraic
public import proofs.«01_k».proof.Proof.Keys.Value
public import proofs.«01_k».proof.Proof.Keys.Ref

@[expose] public section

noncomputable section

namespace Cert.Proof.Keys

open Idealize.ShloMosaic Idealize.ShloMosaic.TcCoe Idealize.SL.Sem

/-- The shape relation the precondition states. -/
instance preFacts : Cert.Pre_finite_keys.Facts := ⟨by decide⟩

/-- Under the precondition the rows are reals. -/
theorem finite_rows (m : (ℓ : Loc Cert.KeysIdeal.nD Cert.KeysIdeal.τ Cert.KeysIdeal.sig) → Buf (Elt Ideal) ℓ)
    (h : Cert.Pre_KeysIdeal_finite_keys m) (c : Dev Cert.KeysIdeal.nD) (j : Cert.KeysIdeal.S16384x128.Idx) :
    argX m c j = ((((argX m c j : EReal)).toReal : ℝ) : EReal) :=
  Attn.real_of_abs _ (congrFun (h c) j)

/-- The kernel and the reference have equal results. -/
theorem algebraic : Cert.algebraic_KeysIdeal_RefKeysIdeal_pre_finite_keys := fun m g m' g' h ha => by
  refine ⟨result m, ?_, ?_⟩
  · refine (θ_run Cert.KeysIdeal.defs _ _).mono (fun r hr c => ?_) (Cert.KeysIdeal.Value.run_blocks (F := Ideal) m g)
    exact ⟨(hr c).1.trans (final m c (finite_rows m h c)), (hr c).2⟩
  · refine (θ_run Cert.RefKeysIdeal.defs _ _).mono (fun r hr c => ⟨(hr c).1.trans ?_, (hr c).2⟩)
      (Cert.RefKeysIdeal.Value.run (F := Ideal) m' g')
    obtain ⟨h0, h1⟩ := ha c
    rw [Cert.RefKeysIdeal.Read.val_main_v83_eq, h0, h1]
    funext j
    refine (congrArg (Cert.RefKeysIdeal.Read.val_main_v83 (F := Ideal) _ _) (Attn.ix2_coords (a := 16384) (b := 128) j).symm).trans ?_
    exact result_at _ _ (j 0) (j 1)

end Cert.Proof.Keys

end
-- ==== Proof.Keys.Context.lean ====
/- The context's keys, normed and not rotated: the kernel and the reference have equal results where the rows are finite. -/
module

public import proofs.«01_k».proof.Defs
public import proofs.«01_k».proof.Proof.Attn.Algebraic
public import proofs.«01_k».proof.Proof.Keys.Host
public import proofs.«01_k».proof.Proof.Gen.CtxKeysIdeal.Value
public import proofs.«01_k».proof.Proof.Gen.RefCtxKeysIdeal.Run
public import proofs.«01_k».proof.Proof.Gen.RefCtxKeysIdeal.Read
public import Idealize.ShloMosaic.Lib.Pipeline.ValueKit.Geometry

@[expose] public section

noncomputable section

namespace Cert.Proof.Keys.Context

open Idealize.ShloMosaic Idealize.ShloMosaic.TcCoe Idealize.SL.Sem
open Cert.Proof.Proj

section
open Cert.CtxKeysIdeal Cert.CtxKeysIdeal.Gen

/-! The block the call leaves, from the blocks it finds. -/

variable (x : Vec Ideal S256x128 .f32) (g : Vec Ideal S1x128 .f32) (mk : Vec Ideal S128x128 .bf16)

theorem out_at (gain : Fin 64 → EReal) (hx : ∀ i j, x (ix2 i j) = ((((x (ix2 i j) : EReal)).toReal : ℝ) : EReal))
    (hm : ∀ k j : Fin 128, mk (ix2 k j) = if k.val / 64 = j.val / 64 then (1 : EReal) else 0)
    (hg : ∀ j : Fin 128, g (ix2 0 j) = gain ⟨j.val % 64, by omega⟩) (i : Fin 256) (j : Fin 128) :
    out0_3 (F := Ideal) x g mk (ix2 i j) = normed (fun k => x (ix2 i k)) gain j := by
  unfold out0_3
  rw [View.canon_unit_zero zero_offsets, View.ld_unit_zero zero_offsets, View.ld_unit_zero zero_offsets, View.ld_unit_zero zero_offsets]
  pointwise [k0_pay1]
  have hz : (∑ k : Fin 128, (x (ix2 i k) * x (ix2 i k) - x (ix2 i k) * x (ix2 i k) : EReal) * mk (ix2 k j)) = 0 :=
    Finset.sum_eq_zero fun k _ => by rw [square_sub _ (hx i k), zero_mul]
  have hs : (∑ k : Fin 128, (x (ix2 i k) * x (ix2 i k) : EReal) * mk (ix2 k j)) = squares (fun k => x (ix2 i k)) ⟨j.val / 64, by omega⟩ := by
    simp only [hm]
    exact sum_head (fun k => (x (ix2 i k) * x (ix2 i k) : EReal)) j
  unfold normed
  rw [hz, hs, add_zero, hg, Ideal.div_coe (by norm_num), ofBits_one_64th]

/-! The array after the run. -/

variable (m : (ℓ : Loc nD τ sig) → Buf (Elt Ideal) ℓ) (c : Dev nD)

/-- The argument arrays, as functions of an index. -/
abbrev argX : S256x128.Idx → EReal := m ((c.tc : Thread nD τ).loc main_arg0)
abbrev argGain : S64.Idx → EReal := m ((c.tc : Thread nD τ).loc main_arg1)

/-- The arrays the host makes. -/
abbrev hostMask : S128x128.Idx → EReal := V (F := Ideal) m c main_v7
abbrev hostGain : S1x128.Idx → EReal := V (F := Ideal) m c main_v11

theorem hostMask_at (k j : Fin 128) : hostMask m c (ix2 k j) = if k.val / 64 = j.val / 64 then 1 else 0 := by
  unfold hostMask V
  after_reads_at
  show FloatOps.uitofp (F := Ideal) .bf16 (IntOp.cmpi .eq (head (BitVec.ofNat 32 k.val)) (head (BitVec.ofNat 32 j.val))) = _
  rw [head_eq, head_eq]
  have hc : ∀ a b : Fin 2, IntOp.cmpi .eq (BitVec.ofNat 32 a.val) (BitVec.ofNat 32 b.val) = if a.val = b.val then 1#1 else 0#1 := by
    decide +kernel
  rw [hc ⟨k.val / 64, by omega⟩ ⟨j.val / 64, by omega⟩]
  dsimp only
  split_ifs
  · show ((((1#1 : BitVec 1).toNat : ℝ)) : EReal) = 1
    simp
  · show ((((0#1 : BitVec 1).toNat : ℝ)) : EReal) = 0
    simp

theorem hostGain_at (j : Fin 128) : hostGain m c (ix2 0 j) = argGain m c (ix1 ⟨j.val % 64, by omega⟩) := by
  unfold hostGain V
  after_reads_at

/-- The normed keys of the arguments. -/
def keys (x : Table 256 128) (g : (⟨1, ![64]⟩ : Shape).Idx → EReal) (n : Fin 256) (j : Fin 128) : EReal :=
  normed (fun k => x (ix2 n k)) (fun d => g (ix1 d)) j

def result : S256x128.Idx → EReal := fun j => keys (argX m c) (argGain m c) (j 0) (j 1)

/-- The blocks the windows name at the one grid point. -/
theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)

theorem block0_at (t : Fin cfg0.N) (i : Fin 256) (l : Fin 128) : iblk (F := Ideal) m c 0 t (ix2 i l) = argX m c (ix2 i l) := by
  unfold argX
  rw [← V_main_arg0 (F := Ideal) m c]
  blk_simp [iblk]
  blk_ext [index0_0]

theorem block1_at (t : Fin cfg0.N) (l : Fin 128) :
    iblk (F := Ideal) m c 1 t (ix2 0 l) = argGain m c (ix1 ⟨l.val % 64, by omega⟩) := by
  rw [← hostGain_at m c]
  blk_simp [iblk]
  blk_ext [index0_1]

theorem block2_at (t : Fin cfg0.N) (k l : Fin 128) :
    iblk (F := Ideal) m c 2 t (ix2 k l) = if k.val / 64 = l.val / 64 then (1 : EReal) else 0 := by
  rw [← hostMask_at m c]
  blk_simp [iblk]
  blk_ext [index0_2]

variable (hf : ∀ j, argX m c j = ((((argX m c j : EReal)).toReal : ℝ) : EReal))

include hf in
theorem outs_at (t : Fin cfg0.N) (i : Fin 256) (j : Fin 128) :
    out0_3 (F := Ideal) (iblk m c 0 t) (iblk m c 1 t) (iblk m c 2 t) (ix2 i j) = keys (argX m c) (argGain m c) i j := by
  refine (out_at _ _ _ (fun d => argGain m c (ix1 d)) (fun i j => ?_) (block2_at m c t) (block1_at m c t) i j).trans ?_
  · rw [block0_at]
    exact hf _
  · unfold keys
    simp only [block0_at]

include hf in
/-- The result array after the run. -/
theorem final : (dats (F := Ideal) m 0 c).arrAt 3 cfg0.N = result m c := by
  refine (dats (F := Ideal) m 0 c).arrAt_eq_of_covers 3 _ (by decide +kernel) fun t _ y => ?_
  blk_simp
  rw [after0_3]
  refine Eq.trans (congrArg (out0_3 (F := Ideal) _ _ _) (Attn.ix2_coords (a := 256) (b := 128) y).symm) ?_
  refine (outs_at m c hf t (y 0) (y 1)).trans ?_
  unfold result
  congr 1
  · apply Fin.ext
    refine Eq.trans (b := (y 0).val) rfl ?_
    blk_simp [index0_3]
  · apply Fin.ext
    refine Eq.trans (b := (y 1).val) rfl ?_
    blk_simp [index0_3]

end

section
open Cert.RefCtxKeysIdeal Cert.RefCtxKeysIdeal.Read

/-! The reference's result. -/

variable (x : S256x128.Idx → EReal) (g : S64.Idx → EReal)

theorem normed_at (n : Fin 256) (h : Fin 2) (d : Fin 64) :
    val_main_v13 (F := Ideal) x g (ix3 n h d) = keys x g n ⟨64 * h.val + d.val, by omega⟩ := by
  have sq : val_main_v2 (F := Ideal) x (ix2 n h) = squares (fun k => x (ix2 n k)) h := by
    rw [val_main_v2_apply, val_main_cst_apply, Ideal.ofBits_def, Ideal.ofBits_zero, zero_add]
    unfold squares
    refine Finset.sum_congr rfl fun l _ => ?_
    have e : idx_main_v2 (ix2 n h) l = ix3 n h l := by
      funext y; match y with | ⟨0, _⟩ => rfl | ⟨1, _⟩ => rfl | ⟨2, _⟩ => rfl
    rw [e]
    have el : (⟨h.val * 64 + l.val, by omega⟩ : Fin 128) = ⟨64 * h.val + l.val, by omega⟩ := Fin.ext (by dsimp only; omega)
    pointwise [val_main_v1, val_main_v0]
    rw [el]
  pointwise [val_main_v13, val_main_v12, val_main_v11, val_main_v10, val_main_v9, val_main_v8, val_main_v7, val_main_v6, val_main_v5,
    val_main_v4, val_main_v3, val_main_v0, val_main_cst_0, val_main_cst_1]
  rw [sq, ofBits_64]
  have el : (⟨h.val * 64 + d.val, by omega⟩ : Fin 128) = ⟨64 * h.val + d.val, by omega⟩ := Fin.ext (by dsimp only; omega)
  have eh : h = ⟨(64 * h.val + d.val) / 64, by omega⟩ := Fin.ext (by dsimp only; omega)
  have ed : d = ⟨(64 * h.val + d.val) % 64, by omega⟩ := Fin.ext (by dsimp only; omega)
  unfold keys normed
  rw [el]
  exact congrArg₂ (fun a b => x (ix2 n ⟨64 * h.val + d.val, by omega⟩)
    * Ideal.rsqrt (Ideal.div (squares (fun k => x (ix2 n k)) a) ((64 : ℝ) : EReal) + Ideal.ofBits .f32 0x358637BD#32) * g (ix1 b)) eh ed

theorem result_at (n : Fin 256) (j : Fin 128) : val_main_v15 (F := Ideal) x g (ix2 n j) = keys x g n j := by
  pointwise [val_main_v15, val_main_v14]
  rw [normed_at]
  exact congrArg (keys x g n) (Fin.ext (by dsimp only; omega))

end

/-- The shape relation the precondition states. -/
instance preFacts : Cert.Pre_finite_ctx.Facts := ⟨by decide⟩

/-- Under the precondition the rows are reals. -/
theorem finite_rows (m : (ℓ : Loc Cert.CtxKeysIdeal.nD Cert.CtxKeysIdeal.τ Cert.CtxKeysIdeal.sig) → Buf (Elt Ideal) ℓ)
    (h : Cert.Pre_CtxKeysIdeal_finite_ctx m) (c : Dev Cert.CtxKeysIdeal.nD) (j : Cert.CtxKeysIdeal.S256x128.Idx) :
    argX m c j = ((((argX m c j : EReal)).toReal : ℝ) : EReal) :=
  Attn.real_of_abs _ (congrFun (h c) j)

/-- The kernel and the reference have equal results. -/
theorem algebraic : Cert.algebraic_CtxKeysIdeal_RefCtxKeysIdeal_pre_finite_ctx := fun m g m' g' h ha => by
  refine ⟨result m, ?_, ?_⟩
  · refine (θ_run Cert.CtxKeysIdeal.defs _ _).mono (fun r hr c => ?_) (Cert.CtxKeysIdeal.Value.run_blocks (F := Ideal) m g)
    exact ⟨(hr c).1.trans (final m c (finite_rows m h c)), (hr c).2⟩
  · refine (θ_run Cert.RefCtxKeysIdeal.defs _ _).mono (fun r hr c => ⟨(hr c).1.trans ?_, (hr c).2⟩)
      (Cert.RefCtxKeysIdeal.Value.run (F := Ideal) m' g')
    obtain ⟨h0, h1⟩ := ha c
    rw [Cert.RefCtxKeysIdeal.Read.val_main_v15_eq, h0, h1]
    funext j
    refine (congrArg (Cert.RefCtxKeysIdeal.Read.val_main_v15 (F := Ideal) _ _) (Attn.ix2_coords (a := 256) (b := 128) j).symm).trans ?_
    exact result_at _ _ (j 0) (j 1)

end Cert.Proof.Keys.Context

end
-- ==== Proof.Mod.Modulation.lean ====
/- The modulations of both layers: the kernel and the reference have equal results. -/
module

public import proofs.«01_k».proof.Defs
public import proofs.«01_k».proof.Proof.Proj.Spec
public import proofs.«01_k».proof.Proof.Gen.ModIdeal.Value
public import proofs.«01_k».proof.Proof.Gen.RefModIdeal.Run
public import proofs.«01_k».proof.Proof.Gen.RefModIdeal.Read
public import Idealize.ShloMosaic.Lib.StableHlo.ReadAt
public import Idealize.ShloMosaic.Lib.Pipeline.ValueKit.Geometry

@[expose] public section

noncomputable section

namespace Cert.Proof.Mod

open Idealize.ShloMosaic Idealize.ShloMosaic.TcCoe Idealize.SL.Sem
open Cert.Proof.Proj

/-- A number times its logistic. -/
def silu (a : EReal) : EReal := a * Ideal.div 1 (1 + Ideal.exp (-a))

/-- The modulation of layer `l` at row `i` and column `j`: the row of conditions through `silu`, times the layer's weights. -/
def modulate {n : ℕ} (cv : Table 8 1024) (w : Fin 1024 → Fin n → EReal) (b : Fin n → EReal) (i : Fin 8) (j : Fin n) : EReal :=
  (∑ k : Fin 1024, silu (cv (ix2 i k)) * w k j) + b j

theorem ofBits_one : Ideal.ofBits .f32 0x3F800000#32 = 1 := by
  simp [Ideal.ofBits, Ideal.ieee, -EReal.coe_mul]; norm_num

/-- An index of three axes is its coordinates. -/
theorem ix3_coords {a b c : ℕ} (j : (⟨3, ![a, b, c]⟩ : Shape).Idx) : (ix3 (j 0) (j 1) (j 2) : (⟨3, ![a, b, c]⟩ : Shape).Idx) = j := by
  funext x; match x with
    | ⟨0, _⟩ => rfl
    | ⟨1, _⟩ => rfl
    | ⟨2, _⟩ => rfl

/-- The offsets of a load of a whole block of three axes. -/
theorem zero_offsets3 : (![0, 0, 0] : Fin 3 → ℕ) = fun _ => 0 := by
  funext a; fin_cases a <;> rfl

section
open Cert.ModIdeal Cert.ModIdeal.Gen

/-! The block a grid point leaves, from the blocks it finds. -/

variable (cv : Vec Ideal S8x1024 .f32) (w : Vec Ideal S1x1024x1536 .f32) (b : Vec Ideal S1x1x1536 .f32)

theorem out_at (i : Fin 8) (j : Fin 1536) :
    out0_3 (F := Ideal) cv w b (ix3 0 i j) = modulate cv (fun k j => w (ix3 0 k j)) (fun j => b (ix3 0 0 j)) i j := by
  unfold out0_3
  rw [View.canon_unit_zero zero_offsets3, View.ld_unit_zero zero_offsets, View.ld_unit_zero zero_offsets3, View.ld_unit_zero zero_offsets3]
  unfold modulate silu
  pointwise [k0_pay1]
  rfl

/-! The array after the run. -/

variable (m : (ℓ : Loc nD τ sig) → Buf (Elt Ideal) ℓ) (c : Dev nD)

/-- The argument arrays, as functions of an index. -/
abbrev argC : S8x1024.Idx → EReal := m ((c.tc : Thread nD τ).loc main_arg0)
abbrev argW : S2x1024x6144.Idx → EReal := m ((c.tc : Thread nD τ).loc main_arg1)
abbrev argB : S2x6144.Idx → EReal := m ((c.tc : Thread nD τ).loc main_arg2)

/-- The modulations of arguments. -/
def mods (cv : Table 8 1024) (w : (⟨3, ![2, 1024, 6144]⟩ : Shape).Idx → EReal) (b : Table 2 6144) (l : Fin 2) (i : Fin 8) (j : Fin 6144) :
    EReal :=
  modulate cv (fun k j => w (ix3 l k j)) (fun j => b (ix2 l j)) i j

def result : S2x8x6144.Idx → EReal := fun j => mods (argC m c) (argW m c) (argB m c) (j 0) (j 1) (j 2)

/-- The offsets handed to the kernel are the argument's. -/
abbrev hostB : S2x1x6144.Idx → EReal := V (F := Ideal) m c main_v0

theorem hostB_at (l : Fin 2) (j : Fin 6144) : hostB m c (ix3 l 0 j) = argB m c (ix2 l j) := by
  unfold hostB V
  after_reads_at

/-- The blocks the windows name at each grid point. -/
theorem index0_0 : ∀ t : Fin cfg0.N, win0_0.index t = ![0, 0] := (by decide +kernel : ∀ t : Fin grid0.N, _)
theorem index0_1 : ∀ t : Fin cfg0.N, win0_1.index t = ![t.val / 4, 0, t.val % 4] := (by decide +kernel : ∀ t : Fin grid0.N, _)
theorem index0_2 : ∀ t : Fin cfg0.N, win0_2.index t = ![t.val / 4, 0, t.val % 4] := (by decide +kernel : ∀ t : Fin grid0.N, _)
theorem index0_3 : ∀ t : Fin cfg0.N, win0_3.index t = ![t.val / 4, 0, t.val % 4] := (by decide +kernel : ∀ t : Fin grid0.N, _)

theorem point_lt (t : Fin cfg0.N) : t.val < 8 := t.isLt

theorem block0_at (t : Fin cfg0.N) (i : Fin 8) (k : Fin 1024) : iblk (F := Ideal) m c 0 t (ix2 i k) = argC m c (ix2 i k) := by
  unfold argC
  rw [← V_main_arg0 (F := Ideal) m c]
  blk_simp [iblk]
  blk_ext [index0_0]

theorem block1_at (t : Fin cfg0.N) (k : Fin 1024) (j : Fin 1536) : iblk (F := Ideal) m c 1 t (ix3 0 k j)
    = argW m c (ix3 ⟨t.val / 4, by have := point_lt t; omega⟩ k ⟨1536 * (t.val % 4) + j.val, by omega⟩) := by
  unfold argW
  rw [← V_main_arg1 (F := Ideal) m c]
  blk_simp [iblk]
  blk_ext [index0_1]

theorem block2_at (t : Fin cfg0.N) (j : Fin 1536) : iblk (F := Ideal) m c 2 t (ix3 0 0 j)
    = argB m c (ix2 ⟨t.val / 4, by have := point_lt t; omega⟩ ⟨1536 * (t.val % 4) + j.val, by omega⟩) := by
  rw [← hostB_at m c]
  blk_simp [iblk]
  blk_ext [index0_2]

theorem outs_at (t : Fin cfg0.N) (i : Fin 8) (j : Fin 1536) :
    out0_3 (F := Ideal) (iblk m c 0 t) (iblk m c 1 t) (iblk m c 2 t) (ix3 0 i j)
      = mods (argC m c) (argW m c) (argB m c) ⟨t.val / 4, by have := point_lt t; omega⟩ i ⟨1536 * (t.val % 4) + j.val, by omega⟩ := by
  refine (out_at _ _ _ i j).trans ?_
  unfold mods modulate
  simp only [block0_at, block1_at, block2_at]

/-- The result array after the run. -/
theorem final : (dats (F := Ideal) m 0 c).arrAt 3 cfg0.N = result m c := by
  refine (dats (F := Ideal) m 0 c).arrAt_eq_of_covers 3 _ (by decide +kernel) fun t _ y => ?_
  blk_simp
  rw [after0_3]
  have h0 : (y 0).val = 0 := by
    have : (y 0).val < 1 := (y 0).isLt
    omega
  have hy : y = (ix3 0 (y 1) (y 2) : (⟨3, ![1, 8, 1536]⟩ : Shape).Idx) := by
    funext x; match x with
      | ⟨0, _⟩ => exact Fin.ext h0
      | ⟨1, _⟩ => rfl
      | ⟨2, _⟩ => rfl
  refine Eq.trans (congrArg (out0_3 (F := Ideal) _ _ _) hy) ?_
  refine (outs_at m c t (y 1) (y 2)).trans ?_
  unfold result
  congr 1
  · apply Fin.ext
    refine Eq.trans (b := t.val / 4) rfl ?_
    blk_simp [index0_3]
  · apply Fin.ext
    refine Eq.trans (b := (y 1).val) rfl ?_
    blk_simp [index0_3]
  · apply Fin.ext
    refine Eq.trans (b := 1536 * (t.val % 4) + (y 2).val) rfl ?_
    blk_simp [index0_3]
    omega

end

section
open Cert.RefModIdeal Cert.RefModIdeal.Read

/-! The reference's result. -/

variable (cv : S8x1024.Idx → EReal) (w : S2x1024x6144.Idx → EReal) (b : S2x6144.Idx → EReal)

theorem silu0_at (i : Fin 8) (k : Fin 1024) : val_main_v0 (F := Ideal) cv (ix2 i k) = silu (cv (ix2 i k)) := by
  unfold silu
  pointwise [val_main_v0, val_main_call0_v5, val_main_call0_v4, val_main_call0_cst_0, val_main_call0_v3, val_main_call0_v2,
    val_main_call0_cst, val_main_call0_v1, val_main_call0_v0]

theorem silu1_at (i : Fin 8) (k : Fin 1024) : val_main_v9 (F := Ideal) cv (ix2 i k) = silu (cv (ix2 i k)) := by
  unfold silu
  pointwise [val_main_v9, val_main_call1_v5, val_main_call1_v4, val_main_call1_cst_0, val_main_call1_v3, val_main_call1_v2,
    val_main_call1_cst, val_main_call1_v1, val_main_call1_v0]

theorem layer0_at (i : Fin 8) (j : Fin 6144) : val_main_v8 (F := Ideal) cv w b (ix2 i j) = mods cv w b 0 i j := by
  unfold mods modulate
  rw [val_main_v8_apply, val_main_v3_apply]
  refine congrArg₂ (· + ·) (Finset.sum_congr rfl fun k _ => ?_) ?_
  · have el : lidx_main_v3 (ix2 i j) k = ix2 i k := by
      funext a; match a with | ⟨0, _⟩ => rfl | ⟨1, _⟩ => rfl
    have er : ridx_main_v3 (ix2 i j) k = ix2 k j := by
      funext a; match a with | ⟨0, _⟩ => rfl | ⟨1, _⟩ => rfl
    rw [el, er, silu0_at]
    pointwise [val_main_v2, val_main_v1]
  · pointwise [val_main_v7, val_main_v6, val_main_v5, val_main_v4]

theorem layer1_at (i : Fin 8) (j : Fin 6144) : val_main_v17 (F := Ideal) cv w b (ix2 i j) = mods cv w b 1 i j := by
  unfold mods modulate
  rw [val_main_v17_apply, val_main_v12_apply]
  refine congrArg₂ (· + ·) (Finset.sum_congr rfl fun k _ => ?_) ?_
  · have el : lidx_main_v12 (ix2 i j) k = ix2 i k := by
      funext a; match a with | ⟨0, _⟩ => rfl | ⟨1, _⟩ => rfl
    have er : ridx_main_v12 (ix2 i j) k = ix2 k j := by
      funext a; match a with | ⟨0, _⟩ => rfl | ⟨1, _⟩ => rfl
    rw [el, er, silu1_at]
    pointwise [val_main_v11, val_main_v10]
  · pointwise [val_main_v16, val_main_v15, val_main_v14, val_main_v13]

theorem result_at (l : Fin 2) (i : Fin 8) (j : Fin 6144) : val_main_v20 (F := Ideal) cv w b (ix3 l i j) = mods cv w b l i j := by
  pointwise [val_main_v20, val_main_v19, val_main_v18]
  rw [layer0_at, layer1_at]
  split_ifs with h
  · exact congrArg (fun l => mods cv w b l i j) (Fin.ext (by show _ = l.val; have := l.isLt; simp; omega))
  · exact congrArg (fun l => mods cv w b l i j) (Fin.ext (by show _ = l.val; have := l.isLt; simp; omega))

end

/-- The kernel and the reference have equal results. -/
theorem algebraic : Cert.algebraic_ModIdeal_RefModIdeal := fun m g m' g' _ ha => by
  refine ⟨result m, ?_, ?_⟩
  · refine (θ_run Cert.ModIdeal.defs _ _).mono (fun r hr c => ?_) (Cert.ModIdeal.Value.run_blocks (F := Ideal) m g)
    exact ⟨(hr c).1.trans (final m c), (hr c).2⟩
  · refine (θ_run Cert.RefModIdeal.defs _ _).mono (fun r hr c => ⟨(hr c).1.trans ?_, (hr c).2⟩)
      (Cert.RefModIdeal.Value.run (F := Ideal) m' g')
    obtain ⟨h0, h1, h2⟩ := ha c
    rw [Cert.RefModIdeal.Read.val_main_v20_eq, h0, h1, h2]
    funext j
    refine (congrArg (Cert.RefModIdeal.Read.val_main_v20 (F := Ideal) _ _ _) (ix3_coords (a := 2) (b := 8) (c := 6144) j).symm).trans ?_
    exact result_at _ _ _ (j 0) (j 1) (j 2)

end Cert.Proof.Mod

end
-- ==== Proof.Queries.Spec.lean ====
/- What the normed, rotated and scaled queries are, as functions of their arguments: the terms both programs are brought to. -/
module

public import proofs.«01_k».proof.Proof.Keys.Spec
public import proofs.«01_k».proof.Proof.Gen.RefQueriesIdeal.Read

@[expose] public section

noncomputable section

namespace Cert.Proof.Queries

open Idealize.ShloMosaic

/-- The sum of the squares of a head of a row. -/
def squares (r : Fin 512 → EReal) (h : Fin 8) : EReal :=
  ∑ d : Fin 64, r ⟨64 * h.val + d.val, by omega⟩ * r ⟨64 * h.val + d.val, by omega⟩

/-- The norm of a head at one of the row's lanes: over the root of the mean square, times the gain. -/
def normed (r : Fin 512 → EReal) (g : Fin 64 → EReal) (j : Fin 512) : EReal :=
  r j * Ideal.rsqrt (Ideal.div (squares r ⟨j.val / 64, by omega⟩) ((64 : ℝ) : EReal) + Ideal.ofBits .f32 0x358637BD#32)
    * g ⟨j.val % 64, by omega⟩

/-- The lanes beside a lane. -/
def next (j : Fin 512) : Fin 512 := ⟨(j.val + 1) % 512, by omega⟩
def prev (j : Fin 512) : Fin 512 := ⟨(j.val + 511) % 512, by omega⟩

/-- The lanes rotated in pairs, an even lane and the odd one after it being the two coordinates of a point. -/
def rotated (y a : Fin 512 → EReal) (j : Fin 512) : EReal :=
  if j.val % 2 = 0 then y j * Ideal.cos (a j) - y (next j) * Ideal.sin (a j)
  else y (prev j) * Ideal.sin (a j) + y j * Ideal.cos (a j)

/-- The angle of a lane of a head: the row's in the first half, the column's in the second. -/
def angle (n : Fin 16384) (d : Nat) (hd : d < 64) : EReal :=
  if h : d < 32 then
    Cert.RefQueriesIdeal.Read.val_main_v27 (F := Ideal) (ix1 n) * Cert.RefQueriesIdeal.Read.val_main_v24 (F := Ideal) (ix1 ⟨d / 2, by omega⟩)
  else
    Cert.RefQueriesIdeal.Read.val_main_v55 (F := Ideal) (ix1 n) * Cert.RefQueriesIdeal.Read.val_main_v24 (F := Ideal) (ix1 ⟨(d - 32) / 2, by omega⟩)

/-- The scale of the scores to base 2. -/
def scale : EReal := (((8 * Real.log 2)⁻¹ : ℝ) : EReal)

/-- The queries at row `n` and lane `j`. -/
def queries (x : Proj.Table 16384 512) (g : (⟨1, ![64]⟩ : Shape).Idx → EReal) (n : Fin 16384) (j : Fin 512) : EReal :=
  rotated (normed (fun k => x (ix2 n k)) (fun d => g (ix1 d))) (fun k => angle n (k.val % 64) (by omega)) j * scale

/-- A sum over the lanes of a row against the lanes of one head is the sum over the head. -/
theorem sum_head (f : Fin 512 → EReal) (j : Fin 512) :
    (∑ k : Fin 512, f k * (if k.val / 64 = j.val / 64 then 1 else 0)) = ∑ d : Fin 64, f ⟨64 * (j.val / 64) + d.val, by omega⟩ := by
  rw [← (finProdFinEquiv : Fin 8 × Fin 64 ≃ Fin (8 * 64)).sum_comp (fun k : Fin 512 => f k * (if k.val / 64 = j.val / 64 then 1 else 0)),
    Fintype.sum_prod_type]
  have e : ∀ (a : Fin 8) (d : Fin 64), (finProdFinEquiv (a, d) : Fin (8 * 64)).val = 64 * a.val + d.val := fun a d => by
    simp [finProdFinEquiv, Nat.add_comm]
  rw [Finset.sum_eq_single (⟨j.val / 64, by omega⟩ : Fin 8)]
  · refine Finset.sum_congr rfl fun d _ => ?_
    rw [if_pos (by rw [e]; dsimp only; omega), mul_one]
    exact congrArg f (Fin.ext (e _ d))
  · intro a _ ha
    refine Finset.sum_eq_zero fun d _ => ?_
    rw [if_neg (fun h => ha (Fin.ext (by rw [e] at h; dsimp only; omega))), mul_zero]
  · exact fun h => absurd (Finset.mem_univ _) h

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.Proof.Queries

end
-- ==== Proof.Queries.Host.lean ====
/- What the host hands the queries' kernel, over the extended reals, read at an index. -/
module

public import proofs.«01_k».proof.Proof.Queries.Spec
public import proofs.«01_k».proof.Proof.Gen.QueriesIdeal.Frame
public import Idealize.ShloMosaic.Lib.StableHlo.ReadAt

@[expose] public section

noncomputable section

namespace Cert.Proof.Queries

open Cert.QueriesIdeal Cert.QueriesIdeal.Gen
open Idealize.ShloMosaic Idealize.ShloMosaic.TcCoe Idealize.SL.Sem

variable (m : (ℓ : Loc nD τ sig) → Buf (Elt Ideal) ℓ) (c : Dev nD)

/-- The argument arrays, as functions of an index. -/
abbrev argX : S16384x512.Idx → EReal := m ((c.tc : Thread nD τ).loc main_arg0)
abbrev argGain : S64.Idx → EReal := m ((c.tc : Thread nD τ).loc main_arg1)

/-- The arrays the host makes, as functions of an index. -/
abbrev hostFreq : S16.Idx → EReal := V (F := Ideal) m c main_v9
abbrev hostRow : S16384.Idx → EReal := V (F := Ideal) m c main_v12
abbrev hostCol : S16384.Idx → EReal := V (F := Ideal) m c main_v14
abbrev hostCos : S16384x128.Idx → EReal := V (F := Ideal) m c main_v39
abbrev hostSin : S16384x128.Idx → EReal := V (F := Ideal) m c main_v46
abbrev hostMask : S512x512.Idx → EReal := V (F := Ideal) m c main_v54
abbrev hostGain : S1x512.Idx → EReal := V (F := Ideal) m c main_v58

/-! The frequencies, the rows and the columns of the grid are the reference's. -/

theorem hostFreq_at (k : Fin 16) : hostFreq m c (ix1 k) = Cert.RefQueriesIdeal.Read.val_main_v24 (F := Ideal) (ix1 k) := by
  have h : Cert.RefQueriesIdeal.Read.val_main_v19 (F := Ideal) (ix1 k) = Cert.RefQueriesIdeal.Read.val_main_v17 (F := Ideal) (ix1 k) := by
    rw [Cert.RefQueriesIdeal.Read.val_main_v19_apply, Cert.RefQueriesIdeal.Read.val_main_v18_apply,
      Cert.RefQueriesIdeal.Read.val_main_cst_3_apply, Ideal.ofBits_def, Ideal.ofBits_zero, Ideal.addf_def, zero_add]
  rw [Cert.RefQueriesIdeal.Read.val_main_v24_apply, Cert.RefQueriesIdeal.Read.val_main_v22_apply,
    Cert.RefQueriesIdeal.Read.val_main_v20_apply, h]
  unfold hostFreq V
  after_reads_at
  rfl

theorem hostRow_at (n : Fin 16384) : hostRow m c (ix1 n) = Cert.RefQueriesIdeal.Read.val_main_v27 (F := Ideal) (ix1 n) := by
  unfold hostRow V
  after_reads_at
  rfl

theorem hostCol_at (n : Fin 16384) : hostCol m c (ix1 n) = Cert.RefQueriesIdeal.Read.val_main_v55 (F := Ideal) (ix1 n) := by
  unfold hostCol V
  after_reads_at
  rfl

/-- The parity of a lane, as the host computes it. -/
def odd (v : BitVec 32) : BitVec 32 :=
  Scalar.select (IntOp.andi (IntOp.cmpi .ne (IntOp.cmpi .slt (IntOp.remsi .host v 2#32) 0#32) 0#1) (IntOp.cmpi .ne (IntOp.remsi .host v 2#32) 0#32))
    (IntOp.addi (IntOp.remsi .host v 2#32) 2#32) (IntOp.remsi .host v 2#32)

/-- The head of a lane. -/
def head (v : BitVec 32) : BitVec 32 :=
  Scalar.select (IntOp.andi (IntOp.cmpi .ne (if v = 0 then 0 else if v.msb = true then -1 else 1) 1#32)
      (IntOp.cmpi .ne (IntOp.remsi .host v 64#32) 0#32))
    (IntOp.subi (IntOp.divsi .host v 64#32) 1#32) (IntOp.divsi .host v 64#32)

theorem odd_eq : ∀ d : Fin 128, IntOp.cmpi .eq (odd (BitVec.ofNat 32 d.val)) 0#32 = if d.val % 2 = 0 then 1#1 else 0#1 := by
  decide +kernel

theorem head_eq : ∀ j : Fin 512, head (BitVec.ofNat 32 j.val) = BitVec.ofNat 32 (j.val / 64) := by decide +kernel

/-- The sign of a lane. -/
theorem sign_eq (d : Fin 128) : Scalar.select (IntOp.cmpi .eq (odd (BitVec.ofNat 32 d.val)) 0#32) (Ideal.ofBits .f32 3212836864#32)
    (Ideal.ofBits .f32 1065353216#32) = if d.val % 2 = 0 then (-1 : EReal) else 1 := by
  rw [odd_eq]
  split_ifs
  · show Ideal.ofBits .f32 3212836864#32 = _
    simp [Ideal.ofBits, Ideal.ieee, -EReal.coe_mul]; norm_num
  · show Ideal.ofBits .f32 1065353216#32 = _
    simp [Ideal.ofBits, Ideal.ieee, -EReal.coe_mul]; norm_num

/-- The angle of a lane of a head, of the host's arrays. -/
def hostAngle (n : Fin 16384) (d : Nat) (hd : d < 64) : EReal :=
  if h : d < 32 then hostRow m c (ix1 n) * hostFreq m c (ix1 ⟨d / 2, by omega⟩)
  else hostCol m c (ix1 n) * hostFreq m c (ix1 ⟨(d - 32) / 2, by omega⟩)

theorem hostAngle_eq (n : Fin 16384) (d : Nat) (hd : d < 64) : hostAngle m c n d hd = angle n d hd := by
  unfold hostAngle angle
  split_ifs
  · exact congrArg₂ (· * ·) (hostRow_at m c n) (hostFreq_at m c _)
  · exact congrArg₂ (· * ·) (hostCol_at m c n) (hostFreq_at m c _)

theorem hostCos_at (n : Fin 16384) (j : Fin 128) : hostCos m c (ix2 n j) = Ideal.cos (angle n (j.val % 64) (by omega)) := by
  rw [← hostAngle_eq m c]
  unfold hostCos hostAngle V
  after_reads_at
  refine congrArg Ideal.cos ?_
  split_ifs
  · after_reads_at
  · exact absurd rfl (by assumption)
  · after_reads_at
  · exact absurd rfl (by assumption)

theorem hostSin_at (n : Fin 16384) (j : Fin 128) : hostSin m c (ix2 n j)
    = Ideal.sin (angle n (j.val % 64) (by omega)) * (if j.val % 2 = 0 then -1 else 1) := by
  have hs := sign_eq ⟨j.val % 64, by omega⟩
  rw [show (⟨j.val % 64, by omega⟩ : Fin 128).val % 2 = j.val % 2 by dsimp only; omega] at hs
  rw [← hostAngle_eq m c]
  unfold hostSin hostAngle V
  after_reads_at
  refine congrArg₂ (· * ·) (congrArg Ideal.sin ?_) (Eq.trans ?_ hs)
  · split_ifs
    · after_reads_at
    · exact absurd rfl (by assumption)
    · after_reads_at
    · exact absurd rfl (by assumption)
  · rfl

theorem hostMask_at (k j : Fin 512) : hostMask m c (ix2 k j) = if k.val / 64 = j.val / 64 then 1 else 0 := by
  unfold hostMask V
  after_reads_at
  show FloatOps.uitofp (F := Ideal) .bf16 (IntOp.cmpi .eq (head (BitVec.ofNat 32 k.val)) (head (BitVec.ofNat 32 j.val))) = _
  rw [head_eq, head_eq]
  have hc : ∀ a b : Fin 8, IntOp.cmpi .eq (BitVec.ofNat 32 a.val) (BitVec.ofNat 32 b.val) = if a.val = b.val then 1#1 else 0#1 := by
    decide +kernel
  rw [hc ⟨k.val / 64, by omega⟩ ⟨j.val / 64, by omega⟩]
  dsimp only
  split_ifs
  · show ((((1#1 : BitVec 1).toNat : ℝ)) : EReal) = 1
    simp
  · show ((((0#1 : BitVec 1).toNat : ℝ)) : EReal) = 0
    simp

theorem hostGain_at (j : Fin 512) : hostGain m c (ix2 0 j) = argGain m c (ix1 ⟨j.val % 64, by omega⟩) := by
  unfold hostGain V
  after_reads_at

end Cert.Proof.Queries

end
-- ==== Proof.Queries.Value.lean ====
/- The normed, rotated and scaled queries: what the kernel's result array is after its run. -/
module

public import proofs.«01_k».proof.Proof.Queries.Host
public import proofs.«01_k».proof.Proof.Gen.QueriesIdeal.Value
public import Idealize.ShloMosaic.Lib.Pipeline.ValueKit.Geometry

@[expose] public section

noncomputable section

namespace Cert.Proof.Queries

open Idealize.ShloMosaic Idealize.ShloMosaic.TcCoe Idealize.SL.Sem
open Cert.Proof.Proj
open Cert.QueriesIdeal Cert.QueriesIdeal.Gen

/-! The block a grid point leaves, from the blocks it finds. -/

variable (x : Vec Ideal S512x512 .f32) (g : Vec Ideal S1x512 .f32) (mk : Vec Ideal S512x512 .bf16) (co si : Vec Ideal S512x128 .f32)

/-- The normed rows, where the rows are reals and the mask is that of the heads. -/
theorem pay2_at (gain : Fin 64 → EReal) (hx : ∀ i j, x (ix2 i j) = ((((x (ix2 i j) : EReal)).toReal : ℝ) : EReal))
    (hm : ∀ k j : Fin 512, mk (ix2 k j) = if k.val / 64 = j.val / 64 then (1 : EReal) else 0)
    (hg : ∀ j : Fin 512, g (ix2 0 j) = gain ⟨j.val % 64, by omega⟩) (i : Fin 512) (j : Fin 512) :
    k0_pay2 (F := Ideal) x mk g (ix2 i j) = normed (fun k => x (ix2 i k)) gain j := by
  pointwise [k0_pay2]
  have hz : (∑ k : Fin 512, (x (ix2 i k) * x (ix2 i k) - x (ix2 i k) * x (ix2 i k) : EReal) * mk (ix2 k j)) = 0 :=
    Finset.sum_eq_zero fun k _ => by rw [Keys.square_sub _ (hx i k), zero_mul]
  have hs : (∑ k : Fin 512, (x (ix2 i k) * x (ix2 i k) : EReal) * mk (ix2 k j)) = squares (fun k => x (ix2 i k)) ⟨j.val / 64, by omega⟩ := by
    simp only [hm]
    exact sum_head (fun k => (x (ix2 i k) * x (ix2 i k) : EReal)) j
  unfold normed
  rw [hz, hs, add_zero, hg, Ideal.div_coe (by norm_num), Keys.ofBits_one_64th]

/-- The parity of a lane, as the kernel computes it. -/
def even (v : BitVec 32) : BitVec 1 :=
  IntOp.cmpi .eq (Scalar.select (IntOp.andi (IntOp.xori (IntOp.cmpi .slt
      (IntOp.remsi ArithUnit.vector v (Scalar.select (Scalar.cmpi .eq 2#32 0#32) 1#32 2#32)) 0#32)
      (Scalar.cmpi .slt (Scalar.select (Scalar.cmpi .eq 2#32 0#32) 1#32 2#32) 0#32))
      (IntOp.cmpi .ne (IntOp.remsi ArithUnit.vector v (Scalar.select (Scalar.cmpi .eq 2#32 0#32) 1#32 2#32)) 0#32))
    (IntOp.addi (IntOp.remsi ArithUnit.vector v (Scalar.select (Scalar.cmpi .eq 2#32 0#32) 1#32 2#32))
      (Scalar.select (Scalar.cmpi .eq 2#32 0#32) 1#32 2#32))
    (IntOp.remsi ArithUnit.vector v (Scalar.select (Scalar.cmpi .eq 2#32 0#32) 1#32 2#32))) 0#32

theorem even_eq : ∀ d : Fin 512, even (BitVec.ofNat 32 d.val) = if d.val % 2 = 0 then 1#1 else 0#1 := by
  decide +kernel

/-- A table of 128 lanes beside itself four times. -/
theorem pay3_at (i j : Fin 512) : k0_pay3 (F := Ideal) co (ix2 i j) = co (ix2 i ⟨j.val % 128, by omega⟩) := by
  pointwise [k0_pay3]
  split_ifs <;> exact congrArg (fun l => co (ix2 i l)) (Fin.ext (by dsimp only; omega))

theorem pay4_at (i j : Fin 512) : k0_pay4 (F := Ideal) si (ix2 i j) = si (ix2 i ⟨j.val % 128, by omega⟩) := pay3_at si i j

/-- The kernel's named constant is the scale. -/
theorem named_scale : Named.named (F := Ideal) Cert.QueriesIdeal.κ "scale" (φ := .f32) 0x3E38AA3B#32 = scale :=
  IdealRules.named_const.ideal_named_scalar _ _ _ _ rfl

/-- The rotated and scaled lanes of rows, a row down a column. -/
theorem pay1_at (y c s : FVec Ideal S512x512 .f32) (a : Fin 512 → EReal) (i : Fin 512)
    (hc : ∀ j, c (ix2 i j) = Ideal.cos (a j)) (hs : ∀ j : Fin 512, s (ix2 i j) = Ideal.sin (a j) * (if j.val % 2 = 0 then -1 else 1))
    (j : Fin 512) :
    k0_pay1 (F := Ideal) y c s (Scalar.select (Scalar.cmpi .eq 2#32 0#32) 1#32 2#32) k0_pay5 k0_pay6 k0_pay7 k0_pay8 (ix2 j i)
      = rotated (fun k => y (ix2 i k)) a j * scale := by
  pointwise [k0_pay1, k0_pay5, k0_pay6, k0_pay7, k0_pay8]
  rw [named_scale]
  refine congrArg (· * scale) ?_
  refine (congrArg (fun b => (y (ix2 i j) * c (ix2 i j) + Scalar.select b (y (ix2 i ⟨(j.val + 512 - 511) % 512, by omega⟩))
    (y (ix2 i ⟨(j.val + 512 - 1) % 512, by omega⟩)) * s (ix2 i j) : EReal)) (even_eq j)).trans ?_
  unfold rotated
  rw [hc, hs]
  split_ifs with h
  · have e : (⟨(j.val + 512 - 511) % 512, by omega⟩ : Fin 512) = next j := Fin.ext (by show (j.val + 512 - 511) % 512 = (j.val + 1) % 512; omega)
    rw [e]
    show (y (ix2 i j) * _ + y (ix2 i (next j)) * _ : EReal) = _
    rw [mul_neg, mul_one, mul_neg, ← sub_eq_add_neg]
  · have e : (⟨(j.val + 512 - 1) % 512, by omega⟩ : Fin 512) = prev j := Fin.ext (by show (j.val + 512 - 1) % 512 = (j.val + 511) % 512; omega)
    rw [e]
    show (y (ix2 i j) * _ + y (ix2 i (prev j)) * _ : EReal) = _
    rw [mul_one, add_comm]

theorem out_at (gain : Fin 64 → EReal) (a : Fin 512 → EReal) (i : Fin 512)
    (hx : ∀ i j, x (ix2 i j) = ((((x (ix2 i j) : EReal)).toReal : ℝ) : EReal))
    (hm : ∀ k j : Fin 512, mk (ix2 k j) = if k.val / 64 = j.val / 64 then (1 : EReal) else 0)
    (hg : ∀ j : Fin 512, g (ix2 0 j) = gain ⟨j.val % 64, by omega⟩)
    (hc : ∀ j : Fin 512, co (ix2 i ⟨j.val % 128, by omega⟩) = Ideal.cos (a j))
    (hs : ∀ j : Fin 512, si (ix2 i ⟨j.val % 128, by omega⟩) = Ideal.sin (a j) * (if j.val % 2 = 0 then -1 else 1))
    (j : Fin 512) :
    out0_5 (F := Ideal) x g mk co si (ix2 j i) = rotated (normed (fun k => x (ix2 i k)) gain) a j * scale := by
  unfold out0_5
  rw [View.canon_unit_zero zero_offsets, View.ld_unit_zero zero_offsets, View.ld_unit_zero zero_offsets, View.ld_unit_zero zero_offsets,
    View.ld_unit_zero zero_offsets, View.ld_unit_zero zero_offsets,
    pay1_at _ _ _ a i (fun j => (pay3_at co i j).trans (hc j)) (fun j => (pay4_at si i j).trans (hs j)) j]
  exact congrArg (fun y => rotated y a j * scale) (funext fun k => pay2_at x g mk gain hx hm hg i k)

/-! The array after the run. -/

variable (m : (ℓ : Loc nD τ sig) → Buf (Elt Ideal) ℓ) (c : Dev nD)

/-- The queries of the arguments. -/
def result : S512x16384.Idx → EReal := fun j => queries (argX m c) (argGain m c) (j 1) (j 0)

/-- The blocks the windows name at each grid point. -/
theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![0, t.val] := (by decide +kernel : ∀ t : Fin grid0.N, _)

theorem point_lt (t : Fin cfg0.N) : t.val < 32 := t.isLt

theorem block0_at (t : Fin cfg0.N) (i : Fin 512) (l : Fin 512) :
    iblk (F := Ideal) m c 0 t (ix2 i l) = argX m c (ix2 ⟨512 * t.val + i.val, by have := point_lt t; omega⟩ l) := by
  unfold argX
  rw [← V_main_arg0 (F := Ideal) m c]
  blk_simp [iblk]
  blk_ext [index0_0]

theorem block1_at (t : Fin cfg0.N) (l : Fin 512) :
    iblk (F := Ideal) m c 1 t (ix2 0 l) = argGain m c (ix1 ⟨l.val % 64, by omega⟩) := by
  rw [← hostGain_at m c]
  blk_simp [iblk]
  blk_ext [index0_1]

theorem block2_at (t : Fin cfg0.N) (k l : Fin 512) :
    iblk (F := Ideal) m c 2 t (ix2 k l) = if k.val / 64 = l.val / 64 then (1 : EReal) else 0 := by
  rw [← hostMask_at m c]
  blk_simp [iblk]
  blk_ext [index0_2]

theorem block3_at (t : Fin cfg0.N) (i : Fin 512) (l : Fin 128) :
    iblk (F := Ideal) m c 3 t (ix2 i l)
      = Ideal.cos (angle ⟨512 * t.val + i.val, by have := point_lt t; omega⟩ (l.val % 64) (by omega)) := by
  rw [← hostCos_at m c]
  blk_simp [iblk]
  blk_ext [index0_3]

theorem block4_at (t : Fin cfg0.N) (i : Fin 512) (l : Fin 128) :
    iblk (F := Ideal) m c 4 t (ix2 i l)
      = Ideal.sin (angle ⟨512 * t.val + i.val, by have := point_lt t; omega⟩ (l.val % 64) (by omega)) * (if l.val % 2 = 0 then -1 else 1) := by
  rw [← hostSin_at m c]
  blk_simp [iblk]
  blk_ext [index0_4]

theorem angle_congr (n : Fin 16384) {d e : Nat} (hd : d < 64) (he : e < 64) (h : d = e) : angle n d hd = angle n e he := by
  subst h
  rfl

variable (hf : ∀ j, argX m c j = ((((argX m c j : EReal)).toReal : ℝ) : EReal))

include hf in
/-- One grid point's block: the queries at the point's rows. -/
theorem outs_at (t : Fin cfg0.N) (i : Fin 512) (j : Fin 512) :
    out0_5 (F := Ideal) (iblk m c 0 t) (iblk m c 1 t) (iblk m c 2 t) (iblk m c 3 t) (iblk m c 4 t) (ix2 j i)
      = queries (argX m c) (argGain m c) ⟨512 * t.val + i.val, by have := point_lt t; omega⟩ j := by
  refine (out_at _ _ _ _ _ (fun d => argGain m c (ix1 d)) (fun k => angle ⟨512 * t.val + i.val, by have := point_lt t; omega⟩ (k.val % 64) (by omega))
    i (fun i j => ?_) (block2_at m c t) (block1_at m c t) (fun j => ?_) (fun j => ?_) j).trans ?_
  · rw [block0_at]
    exact hf _
  · rw [block3_at]
    exact congrArg Ideal.cos (angle_congr _ _ _ (by dsimp only; omega))
  · rw [block4_at, show (⟨j.val % 128, by omega⟩ : Fin 128).val % 2 = j.val % 2 by dsimp only; omega]
    exact congrArg (fun a => Ideal.sin a * _) (angle_congr _ _ _ (by dsimp only; omega))
  · unfold queries
    simp only [block0_at]

include hf in
/-- The result array after the run. -/
theorem final : (dats (F := Ideal) m 0 c).arrAt 5 cfg0.N = result m c := by
  refine (dats (F := Ideal) m 0 c).arrAt_eq_of_covers 5 _ (by decide +kernel) fun t _ y => ?_
  blk_simp
  rw [after0_5]
  refine Eq.trans (congrArg (out0_5 (F := Ideal) _ _ _ _ _) (Attn.ix2_coords (a := 512) (b := 512) y).symm) ?_
  refine (outs_at m c hf t (y 1) (y 0)).trans ?_
  unfold result
  congr 1
  · apply Fin.ext
    refine Eq.trans (b := 512 * t.val + (y 1).val) rfl ?_
    blk_simp [index0_5]
    omega
  · apply Fin.ext
    refine Eq.trans (b := (y 0).val) rfl ?_
    blk_simp [index0_5]

end Cert.Proof.Queries

end
-- ==== Proof.Queries.Ref.lean ====
/- The normed, rotated and scaled queries: what the reference's result is. -/
module

public import proofs.«01_k».proof.Proof.Queries.Spec
public import proofs.«01_k».proof.Proof.Gen.RefQueriesIdeal.Run

@[expose] public section

noncomputable section

namespace Cert.Proof.Queries

open Idealize.ShloMosaic
open Cert.Proof.Proj
open Cert.RefQueriesIdeal Cert.RefQueriesIdeal.Read

variable (x : S16384x512.Idx → EReal) (g : S64.Idx → EReal)

/-- The rows, normed. -/
abbrev rows (n : Fin 16384) : Fin 512 → EReal := normed (fun k => x (ix2 n k)) (fun d => g (ix1 d))

theorem normed_at (n : Fin 16384) (h : Fin 8) (d : Fin 64) :
    val_main_v13 (F := Ideal) x g (ix3 n h d) = rows x g n ⟨64 * h.val + d.val, by omega⟩ := by
  have sq : val_main_v2 (F := Ideal) x (ix2 n h) = squares (fun k => x (ix2 n k)) h := by
    rw [val_main_v2_apply, val_main_cst_apply, Ideal.ofBits_def, Ideal.ofBits_zero, zero_add]
    unfold squares
    refine Finset.sum_congr rfl fun l _ => ?_
    have e : idx_main_v2 (ix2 n h) l = ix3 n h l := by
      funext y; match y with | ⟨0, _⟩ => rfl | ⟨1, _⟩ => rfl | ⟨2, _⟩ => rfl
    rw [e]
    have el : (⟨h.val * 64 + l.val, by omega⟩ : Fin 512) = ⟨64 * h.val + l.val, by omega⟩ := Fin.ext (by dsimp only; omega)
    pointwise [val_main_v1, val_main_v0]
    rw [el]
  pointwise [val_main_v13, val_main_v12, val_main_v11, val_main_v10, val_main_v9, val_main_v8, val_main_v7, val_main_v6, val_main_v5,
    val_main_v4, val_main_v3, val_main_v0, val_main_cst_0, val_main_cst_1]
  rw [sq, Keys.ofBits_64]
  have el : (⟨h.val * 64 + d.val, by omega⟩ : Fin 512) = ⟨64 * h.val + d.val, by omega⟩ := Fin.ext (by dsimp only; omega)
  have eh : h = ⟨(64 * h.val + d.val) / 64, by omega⟩ := Fin.ext (by dsimp only; omega)
  have ed : d = ⟨(64 * h.val + d.val) % 64, by omega⟩ := Fin.ext (by dsimp only; omega)
  unfold rows normed
  rw [el]
  exact congrArg₂ (fun a b => x (ix2 n ⟨64 * h.val + d.val, by omega⟩)
    * Ideal.rsqrt (Ideal.div (squares (fun k => x (ix2 n k)) a) ((64 : ℝ) : EReal) + Ideal.ofBits .f32 0x358637BD#32) * g (ix1 b)) eh ed

/-- The first half's rotated pairs, by the row. -/
theorem row_even (n : Fin 16384) (h : Fin 8) (k : Fin 16) : val_main_v43 (F := Ideal) x g (ix3 n h k)
    = rows x g n ⟨64 * h.val + 2 * k.val, by omega⟩ * Ideal.cos (val_main_v27 (F := Ideal) (ix1 n) * val_main_v24 (F := Ideal) (ix1 k))
      - rows x g n ⟨64 * h.val + (1 + 2 * k.val), by omega⟩ * Ideal.sin (val_main_v27 (F := Ideal) (ix1 n) * val_main_v24 (F := Ideal) (ix1 k)) := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v25]
  rw [normed_at, normed_at]

theorem row_odd (n : Fin 16384) (h : Fin 8) (k : Fin 16) : val_main_v48 (F := Ideal) x g (ix3 n h k)
    = rows x g n ⟨64 * h.val + 2 * k.val, by omega⟩ * Ideal.sin (val_main_v27 (F := Ideal) (ix1 n) * val_main_v24 (F := Ideal) (ix1 k))
      + rows x g n ⟨64 * h.val + (1 + 2 * k.val), by omega⟩ * Ideal.cos (val_main_v27 (F := Ideal) (ix1 n) * val_main_v24 (F := Ideal) (ix1 k)) := by
  pointwise [val_main_v48, val_main_v47, val_main_v46, val_main_v45, val_main_v44, val_main_v38, val_main_v37, val_main_v36, val_main_v35,
    val_main_v34, val_main_v33, val_main_v32, val_main_v31, val_main_v30, val_main_v29, val_main_v28, val_main_v25]
  rw [normed_at, normed_at]

/-- The second half's rotated pairs, by the column. -/
theorem column_even (n : Fin 16384) (h : Fin 8) (k : Fin 16) : val_main_v71 (F := Ideal) x g (ix3 n h k)
    = rows x g n ⟨64 * h.val + (32 + 2 * k.val), by omega⟩ * Ideal.cos (val_main_v55 (F := Ideal) (ix1 n) * val_main_v24 (F := Ideal) (ix1 k))
      - rows x g n ⟨64 * h.val + (32 + (1 + 2 * k.val)), by omega⟩ * Ideal.sin (val_main_v55 (F := Ideal) (ix1 n) * val_main_v24 (F := Ideal) (ix1 k)) := by
  pointwise [val_main_v71, val_main_v70, val_main_v69, val_main_v68, val_main_v67, val_main_v66, val_main_v65, val_main_v64, val_main_v63,
    val_main_v62, val_main_v61, val_main_v60, val_main_v59, val_main_v58, val_main_v57, val_main_v56, val_main_v53]
  rw [normed_at, normed_at]

theorem column_odd (n : Fin 16384) (h : Fin 8) (k : Fin 16) : val_main_v76 (F := Ideal) x g (ix3 n h k)
    = rows x g n ⟨64 * h.val + (32 + 2 * k.val), by omega⟩ * Ideal.sin (val_main_v55 (F := Ideal) (ix1 n) * val_main_v24 (F := Ideal) (ix1 k))
      + rows x g n ⟨64 * h.val + (32 + (1 + 2 * k.val)), by omega⟩ * Ideal.cos (val_main_v55 (F := Ideal) (ix1 n) * val_main_v24 (F := Ideal) (ix1 k)) := by
  pointwise [val_main_v76, val_main_v75, val_main_v74, val_main_v73, val_main_v72, val_main_v66, val_main_v65, val_main_v64, val_main_v63,
    val_main_v62, val_main_v61, val_main_v60, val_main_v59, val_main_v58, val_main_v57, val_main_v56, val_main_v53]
  rw [normed_at, normed_at]

/-- The rotated lanes, from the rotated pairs. -/
theorem lanes_at (n : Fin 16384) (j : Fin 512) : val_main_v82 (F := Ideal) x g (ix2 n j)
    = if _ : j.val % 64 < 32 then
        if _ : j.val % 64 % 2 < 1 then val_main_v43 (F := Ideal) x g (ix3 n ⟨j.val / 64, by omega⟩ ⟨j.val % 64 / 2, by omega⟩)
        else val_main_v48 (F := Ideal) x g (ix3 n ⟨j.val / 64, by omega⟩ ⟨j.val % 64 / 2, by omega⟩)
      else
        if _ : (j.val % 64 - 32) % 2 < 1 then val_main_v71 (F := Ideal) x g (ix3 n ⟨j.val / 64, by omega⟩ ⟨(j.val % 64 - 32) / 2, by omega⟩)
        else val_main_v76 (F := Ideal) x g (ix3 n ⟨j.val / 64, by omega⟩ ⟨(j.val % 64 - 32) / 2, by omega⟩) := by
  pointwise [val_main_v82, val_main_v81, val_main_v80, val_main_v79, val_main_v78, val_main_v77,
    val_main_v52, val_main_v51, val_main_v50, val_main_v49]

/-- The rotated rows at an index. -/
theorem rotated_at (n : Fin 16384) (j : Fin 512) : val_main_v82 (F := Ideal) x g (ix2 n j)
    = rotated (rows x g n) (fun k => angle n (k.val % 64) (by omega)) j := by
  have lane : ∀ (a : ℕ) (ha : a < 512) (l : Fin 512), a = l.val → rows x g n ⟨a, ha⟩ = rows x g n l := fun a ha l e =>
    congrArg (rows x g n) (Fin.ext e)
  have nx : (next j).val = (j.val + 1) % 512 := rfl
  have pv : (prev j).val = (j.val + 511) % 512 := rfl
  rw [lanes_at]
  generalize ea : (fun k : Fin 512 => angle n (k.val % 64) (by omega)) = a
  have haj : a j = angle n (j.val % 64) (by omega) := by rw [← ea]
  unfold rotated
  by_cases hr : j.val % 64 < 32
  · have ha : a j = val_main_v27 (F := Ideal) (ix1 n) * val_main_v24 (F := Ideal) (ix1 ⟨j.val % 64 / 2, by omega⟩) := by
      rw [haj]; unfold angle; rw [dif_pos hr]
    rw [dif_pos hr]
    by_cases hp : j.val % 2 = 0
    · rw [dif_pos (by omega), if_pos hp, row_even, ha]
      rw [lane (64 * (j.val / 64) + 2 * (j.val % 64 / 2)) (by omega) j (by omega),
        lane (64 * (j.val / 64) + (1 + 2 * (j.val % 64 / 2))) (by omega) (next j) (by rw [nx]; omega)]
    · rw [dif_neg (by omega), if_neg hp, row_odd, ha]
      rw [lane (64 * (j.val / 64) + 2 * (j.val % 64 / 2)) (by omega) (prev j) (by rw [pv]; omega),
        lane (64 * (j.val / 64) + (1 + 2 * (j.val % 64 / 2))) (by omega) j (by omega)]
  · have ha : a j = val_main_v55 (F := Ideal) (ix1 n) * val_main_v24 (F := Ideal) (ix1 ⟨(j.val % 64 - 32) / 2, by omega⟩) := by
      rw [haj]; unfold angle; rw [dif_neg hr]
    rw [dif_neg hr]
    by_cases hp : j.val % 2 = 0
    · rw [dif_pos (by omega), if_pos hp, column_even, ha]
      rw [lane (64 * (j.val / 64) + (32 + 2 * ((j.val % 64 - 32) / 2))) (by omega) j (by omega),
        lane (64 * (j.val / 64) + (32 + (1 + 2 * ((j.val % 64 - 32) / 2)))) (by omega) (next j) (by rw [nx]; omega)]
    · rw [dif_neg (by omega), if_neg hp, column_odd, ha]
      rw [lane (64 * (j.val / 64) + (32 + 2 * ((j.val % 64 - 32) / 2))) (by omega) (prev j) (by rw [pv]; omega),
        lane (64 * (j.val / 64) + (32 + (1 + 2 * ((j.val % 64 - 32) / 2)))) (by omega) j (by omega)]

/-- The scale of the scores, as the reference computes it. -/
theorem scale_at : val_main_v84 (F := Ideal) ix0 = scale := by
  rw [val_main_v84_apply, val_main_v83_apply, val_main_cst_7_apply, val_main_cst_8_apply]
  simp only [Ideal.hostDivf_def, Ideal.hostUnary_log_def, Ideal.ofBits_def]
  rw [ofBits_eighth, ofBits_two]
  rw [Ideal.log_coe, if_neg (by norm_num), Ideal.div_coe (Real.log_pos (by norm_num)).ne', ← EReal.coe_mul]
  unfold scale
  refine congrArg _ ?_
  rw [mul_inv, ← one_div, ← one_div]

/-- The reference's result at an index. -/
theorem result_at (n : Fin 16384) (j : Fin 512) : val_main_v88 (F := Ideal) x g (ix2 j n) = queries x g n j := by
  pointwise [val_main_v88, val_main_v87, val_main_v86, val_main_v85]
  rw [rotated_at]
  exact congrArg (_ * ·) scale_at

end Cert.Proof.Queries

end
-- ==== Proof.Queries.Algebraic.lean ====
/- The normed, rotated and scaled queries: the kernel and the reference have equal results where the rows are finite. -/
module

public import proofs.«01_k».proof.Defs
public import proofs.«01_k».proof.Proof.Attn.Algebraic
public import proofs.«01_k».proof.Proof.Queries.Value
public import proofs.«01_k».proof.Proof.Queries.Ref

@[expose] public section

noncomputable section

namespace Cert.Proof.Queries

open Idealize.ShloMosaic Idealize.ShloMosaic.TcCoe Idealize.SL.Sem

/-- The shape relation the precondition states. -/
instance preFacts : Cert.Pre_finite_queries.Facts := ⟨by decide⟩

/-- Under the precondition the rows are reals. -/
theorem finite_rows (m : (ℓ : Loc Cert.QueriesIdeal.nD Cert.QueriesIdeal.τ Cert.QueriesIdeal.sig) → Buf (Elt Ideal) ℓ)
    (h : Cert.Pre_QueriesIdeal_finite_queries m) (c : Dev Cert.QueriesIdeal.nD) (j : Cert.QueriesIdeal.S16384x512.Idx) :
    argX m c j = ((((argX m c j : EReal)).toReal : ℝ) : EReal) :=
  Attn.real_of_abs _ (congrFun (h c) j)

/-- The kernel and the reference have equal results. -/
theorem algebraic : Cert.algebraic_QueriesIdeal_RefQueriesIdeal_pre_finite_queries := fun m g m' g' h ha => by
  refine ⟨result m, ?_, ?_⟩
  · refine (θ_run Cert.QueriesIdeal.defs _ _).mono (fun r hr c => ?_) (Cert.QueriesIdeal.Value.run_blocks (F := Ideal) m g)
    exact ⟨(hr c).1.trans (final m c (finite_rows m h c)), (hr c).2⟩
  · refine (θ_run Cert.RefQueriesIdeal.defs _ _).mono (fun r hr c => ⟨(hr c).1.trans ?_, (hr c).2⟩)
      (Cert.RefQueriesIdeal.Value.run (F := Ideal) m' g')
    obtain ⟨h0, h1⟩ := ha c
    rw [Cert.RefQueriesIdeal.Read.val_main_v88_eq, h0, h1]
    funext j
    refine (congrArg (Cert.RefQueriesIdeal.Read.val_main_v88 (F := Ideal) _ _) (Attn.ix2_coords (a := 512) (b := 16384) j).symm).trans ?_
    exact result_at _ _ (j 1) (j 0)

end Cert.Proof.Queries

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ProjAB
public import proofs.«01_k».proof.Proof.Gen.ProjAB.Frame
public import proofs.«01_k».proof.Proof.Gen.ProjABIdeal
public import proofs.«01_k».proof.Proof.Gen.ProjABIdeal.Frame
public import proofs.«01_k».proof.Proof.Gen.ProjABIdeal.Value
public import proofs.«01_k».proof.Proof.Gen.ProjCD
public import proofs.«01_k».proof.Proof.Gen.ProjCD.Frame
public import proofs.«01_k».proof.Proof.Gen.ProjCDIdeal
public import proofs.«01_k».proof.Proof.Gen.ProjCDIdeal.Frame
public import proofs.«01_k».proof.Proof.Gen.ProjCDIdeal.Value
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.Keys
public import proofs.«01_k».proof.Proof.Gen.Keys.Frame
public import proofs.«01_k».proof.Proof.Gen.KeysIdeal
public import proofs.«01_k».proof.Proof.Gen.KeysIdeal.Frame
public import proofs.«01_k».proof.Proof.Gen.KeysIdeal.Value
public import proofs.«01_k».proof.Proof.Gen.RefKeysIdeal
public import proofs.«01_k».proof.Proof.Gen.RefKeysIdeal.Run
public import proofs.«01_k».proof.Proof.Gen.RefKeysIdeal.Read
public import proofs.«01_k».proof.Proof.Gen.RefABIdeal
public import proofs.«01_k».proof.Proof.Gen.RefABIdeal.Run
public import proofs.«01_k».proof.Proof.Gen.RefABIdeal.Read
public import proofs.«01_k».proof.Proof.Gen.RefCDIdeal
public import proofs.«01_k».proof.Proof.Gen.RefCDIdeal.Run
public import proofs.«01_k».proof.Proof.Gen.RefCDIdeal.Read
public import proofs.«01_k».proof.Proof.Gen.RefOutIdeal
public import proofs.«01_k».proof.Proof.Gen.RefOutIdeal.Run
public import proofs.«01_k».proof.Proof.Gen.RefOutIdeal.Read
public import proofs.«01_k».proof.Proof.Gen.CtxKeys
public import proofs.«01_k».proof.Proof.Gen.CtxKeys.Frame
public import proofs.«01_k».proof.Proof.Gen.CtxKeysIdeal
public import proofs.«01_k».proof.Proof.Gen.CtxKeysIdeal.Frame
public import proofs.«01_k».proof.Proof.Gen.CtxKeysIdeal.Value
public import proofs.«01_k».proof.Proof.Gen.RefCtxKeysIdeal
public import proofs.«01_k».proof.Proof.Gen.RefCtxKeysIdeal.Run
public import proofs.«01_k».proof.Proof.Gen.RefCtxKeysIdeal.Read
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.RefModIdeal
public import proofs.«01_k».proof.Proof.Gen.RefModIdeal.Run
public import proofs.«01_k».proof.Proof.Gen.RefModIdeal.Read
public import proofs.«01_k».proof.Proof.Gen.Queries
public import proofs.«01_k».proof.Proof.Gen.Queries.Frame
public import proofs.«01_k».proof.Proof.Gen.QueriesIdeal
public import proofs.«01_k».proof.Proof.Gen.QueriesIdeal.Frame
public import proofs.«01_k».proof.Proof.Gen.QueriesIdeal.Value
public import proofs.«01_k».proof.Proof.Gen.RefQueriesIdeal
public import proofs.«01_k».proof.Proof.Gen.RefQueriesIdeal.Run
public import proofs.«01_k».proof.Proof.Gen.RefQueriesIdeal.Read
public import proofs.«01_k».proof.Proof.Attn.Frame
public import proofs.«01_k».proof.Proof.Attn.Algebraic
public import proofs.«01_k».proof.Proof.Proj.AB
public import proofs.«01_k».proof.Proof.Proj.CD
public import proofs.«01_k».proof.Proof.Out.Projection
public import proofs.«01_k».proof.Proof.Keys.Algebraic
public import proofs.«01_k».proof.Proof.Keys.Context
public import proofs.«01_k».proof.Proof.Mod.Modulation
public import proofs.«01_k».proof.Proof.Queries.Algebraic
public import Idealize.ShloMosaic.Adequacy
public import Idealize.ShloMosaic.Init

@[expose] public section

noncomputable section

namespace Cert.Proof

open Idealize.ShloMosaic Idealize.SL.Sem

/-! The references are host operations only: a run keeps the arguments, and they declare no semaphore. -/

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_refAB : Cert.quiescent_RefABIdeal := fun m ρ _ =>
  (θ_run Cert.RefABIdeal.defs _ _).mono (fun r h => ⟨fun c => (h c).2.2.2.2, sem_eq_zero_of_no_sems (by decide) r.2⟩)
    (Cert.RefABIdeal.Value.run (F := Ideal) m ρ)

theorem frame_refCD : Cert.quiescent_RefCDIdeal := fun m ρ _ =>
  (θ_run Cert.RefCDIdeal.defs _ _).mono (fun r h => ⟨fun c => (h c).2.2.2.2, sem_eq_zero_of_no_sems (by decide) r.2⟩)
    (Cert.RefCDIdeal.Value.run (F := Ideal) m ρ)

theorem frame_refOut : Cert.quiescent_RefOutIdeal := fun m ρ _ =>
  (θ_run Cert.RefOutIdeal.defs _ _).mono (fun r h => ⟨fun c => (h c).2, sem_eq_zero_of_no_sems (by decide) r.2⟩)
    (Cert.RefOutIdeal.Value.run (F := Ideal) m ρ)

theorem frame_refKeys : Cert.quiescent_RefKeysIdeal := fun m ρ _ =>
  (θ_run Cert.RefKeysIdeal.defs _ _).mono (fun r h => ⟨fun c => (h c).2, sem_eq_zero_of_no_sems (by decide) r.2⟩)
    (Cert.RefKeysIdeal.Value.run (F := Ideal) m ρ)

theorem frame_refCtxKeys : Cert.quiescent_RefCtxKeysIdeal := fun m ρ _ =>
  (θ_run Cert.RefCtxKeysIdeal.defs _ _).mono (fun r h => ⟨fun c => (h c).2, sem_eq_zero_of_no_sems (by decide) r.2⟩)
    (Cert.RefCtxKeysIdeal.Value.run (F := Ideal) m ρ)

theorem frame_refMod : Cert.quiescent_RefModIdeal := fun m ρ _ =>
  (θ_run Cert.RefModIdeal.defs _ _).mono (fun r h => ⟨fun c => (h c).2, sem_eq_zero_of_no_sems (by decide) r.2⟩)
    (Cert.RefModIdeal.Value.run (F := Ideal) m ρ)

theorem frame_refQueries : Cert.quiescent_RefQueriesIdeal := fun m ρ _ =>
  (θ_run Cert.RefQueriesIdeal.defs _ _).mono (fun r h => ⟨fun c => (h c).2, sem_eq_zero_of_no_sems (by decide) r.2⟩)
    (Cert.RefQueriesIdeal.Value.run (F := Ideal) m ρ)

/-- The named constant of the queries' kernel has the value its table gives it. -/
theorem preserves_queries : Cert.preserves_Queries_QueriesIdeal :=
  IdealRules.named_const.statement Cert.QueriesIdeal.κ "scale" .f32 0x3E38AA3B#32 (((8 * Real.log 2)⁻¹ : ℝ) : EReal) rfl

theorem claim : Cert.Claim := ⟨Cert.Kernel.Gen.facts, Cert.KernelIdeal.Gen.facts, Cert.ReferenceIdeal.Gen.facts,
  Cert.ProjAB.Gen.facts, Cert.ProjABIdeal.Gen.facts, Cert.RefABIdeal.Gen.facts,
  Cert.ProjCD.Gen.facts, Cert.ProjCDIdeal.Gen.facts, Cert.RefCDIdeal.Gen.facts,
  Cert.OutProj.Gen.facts, Cert.OutProjIdeal.Gen.facts, Cert.RefOutIdeal.Gen.facts,
  Cert.Keys.Gen.facts, Cert.KeysIdeal.Gen.facts, Cert.RefKeysIdeal.Gen.facts,
  Cert.CtxKeys.Gen.facts, Cert.CtxKeysIdeal.Gen.facts, Cert.RefCtxKeysIdeal.Gen.facts,
  Cert.Mod.Gen.facts, Cert.ModIdeal.Gen.facts, Cert.RefModIdeal.Gen.facts,
  Cert.Queries.Gen.facts, Cert.QueriesIdeal.Gen.facts, Cert.RefQueriesIdeal.Gen.facts,
  Attn.preFacts, Keys.preFacts, Keys.Context.preFacts, Queries.preFacts,
  Attn.frame_kernel, Attn.frame_kernelIdeal, fun m ρ _ => Attn.frame_kernelIdeal m ρ ⟨⟩, frame_referenceIdeal,
  fun m ρ _ => frame_referenceIdeal m ρ ⟨⟩,
  fun m ρ _ => Cert.ProjAB.Gen.frame m ρ, fun m ρ _ => Cert.ProjABIdeal.Gen.frame m ρ, frame_refAB,
  fun m ρ _ => Cert.ProjCD.Gen.frame m ρ, fun m ρ _ => Cert.ProjCDIdeal.Gen.frame m ρ, frame_refCD,
  fun m ρ _ => Cert.OutProj.Gen.frame m ρ, fun m ρ _ => Cert.OutProjIdeal.Gen.frame m ρ, frame_refOut,
  fun m ρ _ => Cert.Keys.Gen.frame m ρ, fun m ρ _ => Cert.KeysIdeal.Gen.frame m ρ, fun m ρ _ => Cert.KeysIdeal.Gen.frame m ρ,
  frame_refKeys, fun m ρ _ => frame_refKeys m ρ ⟨⟩,
  fun m ρ _ => Cert.CtxKeys.Gen.frame m ρ, fun m ρ _ => Cert.CtxKeysIdeal.Gen.frame m ρ, fun m ρ _ => Cert.CtxKeysIdeal.Gen.frame m ρ,
  frame_refCtxKeys, fun m ρ _ => frame_refCtxKeys m ρ ⟨⟩,
  fun m ρ _ => Cert.Mod.Gen.frame m ρ, fun m ρ _ => Cert.ModIdeal.Gen.frame m ρ, frame_refMod,
  fun m ρ _ => Cert.Queries.Gen.frame m ρ, fun m ρ _ => Cert.QueriesIdeal.Gen.frame m ρ, fun m ρ _ => Cert.QueriesIdeal.Gen.frame m ρ,
  frame_refQueries, fun m ρ _ => frame_refQueries m ρ ⟨⟩,
  trivial, Attn.algebraic, trivial, Proj.AB.algebraic, trivial, Proj.CD.algebraic, trivial, Out.algebraic,
  trivial, Keys.algebraic, trivial, Keys.Context.algebraic, trivial, Mod.algebraic,
  preserves_queries, Queries.algebraic⟩

end Cert.Proof

end
